-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores5 [hPre_finite_scores5 : Cert.Pre_finite_scores5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores5 [hPre_finite_scores5 : Cert.Pre_finite_scores5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_scores5 [hKernel5Ideal : Cert.Kernel5Ideal.Facts] [hPre_finite_scores5 : Cert.Pre_finite_scores5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_scores5 [hReference5Ideal : Cert.Reference5Ideal.Facts] [hPre_finite_scores5 : Cert.Pre_finite_scores5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v28_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v44)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  IdealRules.named_const.Statement Cert.Kernel5Ideal.κ "mask" .f32 0xF149F2CA#32 ⊥

def algebraic_Kernel5Ideal_Reference5Ideal_pre_finite_scores5 [hKernel5Ideal : Cert.Kernel5Ideal.Facts] [hReference5Ideal : Cert.Reference5Ideal.Facts] [hPre_finite_scores5 : Cert.Pre_finite_scores5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v65_0)) (v1 : (c : Dev Cert.Kernel5Ideal.nD) → Buf (Elt Ideal) ((c.tc : Thread Cert.Kernel5Ideal.nD Cert.Kernel5Ideal.τ).loc Cert.Kernel5Ideal.main_v65_1)) (v2 : (c : Dev Cert.Kernel5Ideal.nD) → Buf (Elt Ideal) ((c.tc : Thread Cert.Kernel5Ideal.nD Cert.Kernel5Ideal.τ).loc Cert.Kernel5Ideal.main_v65_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v65_0) = v0 c
          ∧ r.2.mem ((c.tc : Thread Cert.Kernel5Ideal.nD Cert.Kernel5Ideal.τ).loc Cert.Kernel5Ideal.main_v65_1) = v1 c
          ∧ r.2.mem ((c.tc : Thread Cert.Kernel5Ideal.nD Cert.Kernel5Ideal.τ).loc Cert.Kernel5Ideal.main_v65_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v93) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_scores5 : Cert.Pre_finite_scores5.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores5 (hKernel5Ideal := hKernel5Ideal) (hPre_finite_scores5 := hPre_finite_scores5)
    ∧ quiescent_Reference5Ideal (hReference5Ideal := hReference5Ideal)
    ∧ quiescent_Reference5Ideal_pre_finite_scores5 (hReference5Ideal := hReference5Ideal) (hPre_finite_scores5 := hPre_finite_scores5)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores5 (hKernel5Ideal := hKernel5Ideal) (hReference5Ideal := hReference5Ideal) (hPre_finite_scores5 := hPre_finite_scores5)
-- ==== Pre_finite_scores.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S_ : Shape := ⟨0, ![]⟩
abbrev S1x8 : Shape := ⟨2, ![1, 8]⟩
abbrev S8 : Shape := ⟨1, ![8]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x16384x128 : S_.BroadcastsInDim S1x16384x128 (![] : Fin 0 → Fin S1x16384x128.rank)
  reducesTo_S1x16384x128_S_d0_1_2 : S1x16384x128.ReducesTo [0, 1, 2] S_
  bcast_S_S1x256x128 : S_.BroadcastsInDim S1x256x128 (![] : Fin 0 → Fin S1x256x128.rank)
  reducesTo_S1x256x128_S_d0_1_2 : S1x256x128.ReducesTo [0, 1, 2] S_
  slices_S2x8_S1x8_1_0 : S2x8.Slices ![1, 0] S1x8
  shapeCasts_S1x8_S8 : S1x8.ShapeCasts S8
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : FVec F S8 .f32) (main_cst_4 : FVec F S_ .f32) : IVec S_ 1 :=
  let main_v17 : FVec F S8 .f32 := broadcastInDim S8 ![] bcast_S_S8 main_cst_4
  let main_v18 : IVec S8 1 := cmpf .olt main_v16 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v13 main_v19
  main_v20

def fn {F : FTy → Type} [FloatOps F] (main_arg0 : FVec F S1x16384x512 .f32) (main_arg1 : FVec F S1x16384x128 .f32) (main_arg2 : FVec F S1x16384x128 .f32) (main_arg3 : FVec F S1x256x128 .f32) (main_arg4 : FVec F S1x256x128 .f32) (main_arg5 : FVec F S2x8 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x128 .f32 := Host.absf main_arg1
  let main_cst_0 : FVec F S_ .f32 := constant S_ .f32 0x7F800000#32
  let main_v5 : FVec F S1x16384x128 .f32 := broadcastInDim S1x16384x128 ![] bcast_S_S1x16384x128 main_cst_0
  let main_v6 : IVec S1x16384x128 1 := cmpf .olt main_v4 main_v5
  let main_c_1 : IVec S_ 1 := constantI S_ 1 1#1
  let main_v7 : IVec S_ 1 := (fun x v => Host.reduce IntOp.andi x v reducesTo_S1x16384x128_S_d0_1_2 h_S_) main_v6 main_c_1
  let main_v8 : IVec S_ 1 := andi main_v3 main_v7
  let main_v9 : FVec F S1x256x128 .f32 := Host.absf main_arg3
  let main_cst_2 : FVec F S_ .f32 := constant S_ .f32 0x7F800000#32
  let main_v10 : FVec F S1x256x128 .f32 := broadcastInDim S1x256x128 ![] bcast_S_S1x256x128 main_cst_2
  let main_v11 : IVec S1x256x128 1 := cmpf .olt main_v9 main_v10
  let main_c_3 : IVec S_ 1 := constantI S_ 1 1#1
  let main_v12 : IVec S_ 1 := (fun x v => Host.reduce IntOp.andi x v reducesTo_S1x256x128_S_d0_1_2 h_S_) main_v11 main_c_3
  let main_v13 : IVec S_ 1 := andi main_v8 main_v12
  let main_v14 : FVec F S1x8 .f32 := (extractStridedSlice S1x8 ![1, 0] · slices_S2x8_S1x8_1_0) main_arg5
  let main_v15 : FVec F S8 .f32 := shapeCast S8 main_v14 shapeCasts_S1x8_S8
  let main_v16 : FVec F S8 .f32 := Host.absf main_v15
  let main_cst_4 : FVec F S_ .f32 := constant S_ .f32 0x7F800000#32
  fn_part1 (F := F) main_v13 main_v16 main_cst_4
-- ==== Pre_finite_scores5.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S2x1024x5632 : Shape := ⟨3, ![2, 1024, 5632]⟩
abbrev S2x2816x1024 : Shape := ⟨3, ![2, 2816, 1024]⟩
abbrev S_ : Shape := ⟨0, ![]⟩
abbrev S1x8 : Shape := ⟨2, ![1, 8]⟩
abbrev S8 : Shape := ⟨1, ![8]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x16384x128 : S_.BroadcastsInDim S1x16384x128 (![] : Fin 0 → Fin S1x16384x128.rank)
  reducesTo_S1x16384x128_S_d0_1_2 : S1x16384x128.ReducesTo [0, 1, 2] S_
  bcast_S_S1x256x128 : S_.BroadcastsInDim S1x256x128 (![] : Fin 0 → Fin S1x256x128.rank)
  reducesTo_S1x256x128_S_d0_1_2 : S1x256x128.ReducesTo [0, 1, 2] S_
  slices_S2x8_S1x8_0_0 : S2x8.Slices ![0, 0] S1x8
  shapeCasts_S1x8_S8 : S1x8.ShapeCasts S8
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : FVec F S8 .f32) (main_cst_4 : FVec F S_ .f32) : IVec S_ 1 :=
  let main_v17 : FVec F S8 .f32 := broadcastInDim S8 ![] bcast_S_S8 main_cst_4
  let main_v18 : IVec S8 1 := cmpf .olt main_v16 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v13 main_v19
  main_v20

def fn {F : FTy → Type} [FloatOps F] (main_arg0 : FVec F S1x16384x512 .f32) (main_arg1 : FVec F S1x16384x128 .f32) (main_arg2 : FVec F S1x16384x128 .f32) (main_arg3 : FVec F S1x256x128 .f32) (main_arg4 : FVec F S1x256x128 .f32) (main_arg5 : FVec F S2x8 .f32) (main_arg6 : FVec F S2x1024x5632 .f32) (main_arg7 : FVec F S2x2816x1024 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x128 .f32 := Host.absf main_arg1
  let main_cst_0 : FVec F S_ .f32 := constant S_ .f32 0x7F800000#32
  let main_v5 : FVec F S1x16384x128 .f32 := broadcastInDim S1x16384x128 ![] bcast_S_S1x16384x128 main_cst_0
  let main_v6 : IVec S1x16384x128 1 := cmpf .olt main_v4 main_v5
  let main_c_1 : IVec S_ 1 := constantI S_ 1 1#1
  let main_v7 : IVec S_ 1 := (fun x v => Host.reduce IntOp.andi x v reducesTo_S1x16384x128_S_d0_1_2 h_S_) main_v6 main_c_1
  let main_v8 : IVec S_ 1 := andi main_v3 main_v7
  let main_v9 : FVec F S1x256x128 .f32 := Host.absf main_arg3
  let main_cst_2 : FVec F S_ .f32 := constant S_ .f32 0x7F800000#32
  let main_v10 : FVec F S1x256x128 .f32 := broadcastInDim S1x256x128 ![] bcast_S_S1x256x128 main_cst_2
  let main_v11 : IVec S1x256x128 1 := cmpf .olt main_v9 main_v10
  let main_c_3 : IVec S_ 1 := constantI S_ 1 1#1
  let main_v12 : IVec S_ 1 := (fun x v => Host.reduce IntOp.andi x v reducesTo_S1x256x128_S_d0_1_2 h_S_) main_v11 main_c_3
  let main_v13 : IVec S_ 1 := andi main_v8 main_v12
  let main_v14 : FVec F S1x8 .f32 := (extractStridedSlice S1x8 ![0, 0] · slices_S2x8_S1x8_0_0) main_arg5
  let main_v15 : FVec F S8 .f32 := shapeCast S8 main_v14 shapeCasts_S1x8_S8
  let main_v16 : FVec F S8 .f32 := Host.absf main_v15
  let main_cst_4 : FVec F S_ .f32 := constant S_ .f32 0x7F800000#32
  fn_part1 (F := F) main_v13 main_v16 main_cst_4
-- ==== Kernel.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S1x16384x64 : Shape := ⟨3, ![1, 16384, 64]⟩
abbrev S16384x64 : Shape := ⟨2, ![16384, 64]⟩
abbrev S16384x512 : Shape := ⟨2, ![16384, 512]⟩
abbrev S_ : Shape := ⟨0, ![]⟩
abbrev S256x128 : Shape := ⟨2, ![256, 128]⟩
abbrev S1x128 : Shape := ⟨2, ![1, 128]⟩
abbrev S2x256x128 : Shape := ⟨3, ![2, 256, 128]⟩
abbrev S256x256 : Shape := ⟨2, ![256, 256]⟩
abbrev S1x256x256 : Shape := ⟨3, ![1, 256, 256]⟩
abbrev S2x256x256 : Shape := ⟨3, ![2, 256, 256]⟩
abbrev S2x8x1 : Shape := ⟨3, ![2, 8, 1]⟩
abbrev S2x8x128 : Shape := ⟨3, ![2, 8, 128]⟩
abbrev S16384x128 : Shape := ⟨2, ![16384, 128]⟩
abbrev S2048x512 : Shape := ⟨2, ![2048, 512]⟩
abbrev S1x8x128 : Shape := ⟨3, ![1, 8, 128]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S384x128 : Shape := ⟨2, ![384, 128]⟩
abbrev S384x256 : Shape := ⟨2, ![384, 256]⟩
abbrev S1280x128 : Shape := ⟨2, ![1280, 128]⟩
abbrev S1280x256 : Shape := ⟨2, ![1280, 256]⟩
abbrev S128x512 : Shape := ⟨2, ![128, 512]⟩
abbrev S128x128 : Shape := ⟨2, ![128, 128]⟩
abbrev S512x128 : Shape := ⟨2, ![512, 128]⟩
abbrev S512x1280 : Shape := ⟨2, ![512, 1280]⟩
abbrev S128x384 : Shape := ⟨2, ![128, 384]⟩
abbrev S512x384 : Shape := ⟨2, ![512, 384]⟩
abbrev S512x256 : Shape := ⟨2, ![512, 256]⟩
abbrev S512x640 : Shape := ⟨2, ![512, 640]⟩
abbrev S512 : Shape := ⟨1, ![512]⟩

abbrev nBuf : Space → Nat
  | .hbm => 89
  | .vmem => 9
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S1x256x128, .f32⟩
  | .hbm, ⟨4, _⟩ => ⟨S1x256x128, .f32⟩
  | .hbm, ⟨5, _⟩ => ⟨S2x8, .f32⟩
  | .hbm, ⟨6, _⟩ => ⟨S1x16384x64, .f32⟩
  | .hbm, ⟨7, _⟩ => ⟨S16384x64, .f32⟩
  | .hbm, ⟨8, _⟩ => ⟨S1x16384x64, .f32⟩
  | .hbm, ⟨9, _⟩ => ⟨S16384x64, .f32⟩
  | .hbm, ⟨10, _⟩ => ⟨S1x16384x64, .f32⟩
  | .hbm, ⟨11, _⟩ => ⟨S16384x64, .f32⟩
  | .hbm, ⟨12, _⟩ => ⟨S1x16384x64, .f32⟩
  | .hbm, ⟨13, _⟩ => ⟨S16384x64, .f32⟩
  | .hbm, ⟨14, _⟩ => ⟨S1x16384x64, .f32⟩
  | .hbm, ⟨15, _⟩ => ⟨S16384x64, .f32⟩
  | .hbm, ⟨16, _⟩ => ⟨S1x16384x64, .f32⟩
  | .hbm, ⟨17, _⟩ => ⟨S16384x64, .f32⟩
  | .hbm, ⟨18, _⟩ => ⟨S1x16384x64, .f32⟩
  | .hbm, ⟨19, _⟩ => ⟨S16384x64, .f32⟩
  | .hbm, ⟨20, _⟩ => ⟨S1x16384x64, .f32⟩
  | .hbm, ⟨21, _⟩ => ⟨S16384x64, .f32⟩
  | .hbm, ⟨22, _⟩ => ⟨S16384x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .bf16⟩
  | .hbm, ⟨32, _⟩ => ⟨S256x128, .f32⟩
  | .hbm, ⟨33, _⟩ => ⟨S256x128, .bf16⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S_, .bf16⟩
  | .hbm, ⟨39, _⟩ => ⟨S256x128, .bf16⟩
  | .hbm, ⟨40, _⟩ => ⟨S256x128, .i1⟩
  | .hbm, ⟨41, _⟩ => ⟨S256x128, .bf16⟩
  | .hbm, ⟨42, _⟩ => ⟨S256x128, .i1⟩
  | .hbm, ⟨43, _⟩ => ⟨S256x128, .bf16⟩
  | .hbm, ⟨44, _⟩ => ⟨S1x256x128, .bf16⟩
  | .hbm, ⟨45, _⟩ => ⟨S1x256x128, .bf16⟩
  | .hbm, ⟨46, _⟩ => ⟨S2x256x128, .bf16⟩
  | .hbm, ⟨47, _⟩ => ⟨S256x128, .f32⟩
  | .hbm, ⟨48, _⟩ => ⟨S256x128, .bf16⟩
  | .hbm, ⟨49, _⟩ => ⟨S1x128, .i32⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S_, .bf16⟩
  | .hbm, ⟨54, _⟩ => ⟨S256x128, .bf16⟩
  | .hbm, ⟨55, _⟩ => ⟨S256x128, .i1⟩
  | .hbm, ⟨56, _⟩ => ⟨S256x128, .bf16⟩
  | .hbm, ⟨57, _⟩ => ⟨S256x128, .i1⟩
  | .hbm, ⟨58, _⟩ => ⟨S256x128, .bf16⟩
  | .hbm, ⟨59, _⟩ => ⟨S1x128, .i32⟩
  | .hbm, ⟨60, _⟩ => ⟨S_, .i32⟩
  | .hbm, ⟨61, _⟩ => ⟨S1x128, .i32⟩
  | .hbm, ⟨62, _⟩ => ⟨S1x128, .i1⟩
  | .hbm, ⟨63, _⟩ => ⟨S_, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S256x128, .f32⟩
  | .hbm, ⟨69, _⟩ => ⟨S256x128, .bf16⟩
  | .hbm, ⟨70, _⟩ => ⟨S256x256, .bf16⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S256x128, .f32⟩
  | .hbm, ⟨75, _⟩ => ⟨S256x128, .bf16⟩
  | .hbm, ⟨76, _⟩ => ⟨S256x256, .bf16⟩
  | .hbm, ⟨77, _⟩ => ⟨S1x256x256, .bf16⟩
  | .hbm, ⟨78, _⟩ => ⟨S1x256x256, .bf16⟩
  | .hbm, ⟨79, _⟩ => ⟨S2x256x256, .bf16⟩
  | .hbm, ⟨80, _⟩ => ⟨S2x8, .f32⟩
  | .hbm, ⟨81, _⟩ => ⟨S2x8, .f32⟩
  | .hbm, ⟨82, _⟩ => ⟨S2x8x1, .f32⟩
  | .hbm, ⟨83, _⟩ => ⟨S2x8x128, .f32⟩
  | .hbm, ⟨84, _⟩ => ⟨S16384x128, .f32⟩
  | .hbm, ⟨85, _⟩ => ⟨S16384x128, .bf16⟩
  | .hbm, ⟨86, _⟩ => ⟨S16384x128, .f32⟩
  | .hbm, ⟨87, _⟩ => ⟨S16384x128, .bf16⟩
  | .hbm, ⟨88, _⟩ => ⟨S16384x512, .bf16⟩
  | .local _ .vmem, ⟨0, _⟩ => ⟨S2048x512, .bf16⟩
  | .local _ .vmem, ⟨1, _⟩ => ⟨S2048x512, .bf16⟩
  | .local _ .vmem, ⟨2, _⟩ => ⟨S16384x128, .bf16⟩
  | .local _ .vmem, ⟨3, _⟩ => ⟨S16384x128, .bf16⟩
  | .local _ .vmem, ⟨4, _⟩ => ⟨S2x256x128, .bf16⟩
  | .local _ .vmem, ⟨5, _⟩ => ⟨S2x256x256, .bf16⟩
  | .local _ .vmem, ⟨6, _⟩ => ⟨S1x8x128, .f32⟩
  | .local _ .vmem, ⟨7, _⟩ => ⟨S2048x512, .bf16⟩
  | .local _ .vmem, ⟨8, _⟩ => ⟨S2048x512, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_call0_v0 : Ref sig .tc := ⟨.hbm, 40, rfl⟩
abbrev main_v29 : Ref sig .tc := ⟨.hbm, 41, rfl⟩
abbrev main_call1_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_call2_v0 : Ref sig .tc := ⟨.hbm, 55, rfl⟩
abbrev main_v40 : Ref sig .tc := ⟨.hbm, 56, rfl⟩
abbrev main_call3_v0 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_cst_7 : Ref sig .tc := ⟨.hbm, 64, rfl⟩
abbrev main_call4_v0 : Ref sig .tc := ⟨.hbm, 65, rfl⟩
abbrev main_call4_v1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c16000_i32 : BitVec 32 := 16000#32
  let c0_i32_32 : BitVec 32 := 0#32
  let arg0 : BitVec 32 := BitVec.ofNat 32 (i 0).val
  let c16_i32 : BitVec 32 := 16#32
  let v34 : BitVec 32 := Scalar.muli arg0 c16_i32
  let c0_i32 : BitVec 32 := 0#32
  let v35 : BitVec 32 := Scalar.addi v34 c0_i32
  let c1_i32_31 : BitVec 32 := 1#32
  let v66 : BitVec 32 := Scalar.subi v35 c1_i32_31
  let c128_i32 : BitVec 32 := 128#32
  let v67 : BitVec 32 := Scalar.muli v66 c128_i32
  let v68 : BitVec 32 := Scalar.maxsi c0_i32_32 v67
  let v69 : BitVec 32 := Scalar.minsi c16000_i32 v68
  v69
def k0_off1 (i : grid0.Coords) (c0_i32 : BitVec 32) : Fin 2 → Nat :=
  let c16000_i32 : BitVec 32 := 16000#32
  let c0_i32_32 : BitVec 32 := 0#32
  let arg0 : BitVec 32 := BitVec.ofNat 32 (i 0).val
  let c16_i32 : BitVec 32 := 16#32
  let v34 : BitVec 32 := Scalar.muli arg0 c16_i32
  let v35 : BitVec 32 := Scalar.addi v34 c0_i32
  let c1_i32_31 : BitVec 32 := 1#32
  let v66 : BitVec 32 := Scalar.subi v35 c1_i32_31
  let c128_i32 : BitVec 32 := 128#32
  let v67 : BitVec 32 := Scalar.muli v66 c128_i32
  let v68 : BitVec 32 := Scalar.maxsi c0_i32_32 v67
  let v69 : BitVec 32 := Scalar.minsi c16000_i32 v68
  let v70 : BitVec 32 := v69
  let v71 : Index := Scalar.indexCast v70
  let c0_33 : Index := 0#32
  ![v71.toNat, 0]
def k0_mult2 (i : grid0.Coords) : BitVec 32 :=
  let c16000_i32_59 : BitVec 32 := 16000#32
  let c0_i32_58 : BitVec 32 := 0#32
  let arg0 : BitVec 32 := BitVec.ofNat 32 (i 0).val
  let c16_i32_16 : BitVec 32 := 16#32
  let v36 : BitVec 32 := Scalar.muli arg0 c16_i32_16
  let c1_i32 : BitVec 32 := 1#32
  let v37 : BitVec 32 := Scalar.addi v36 c1_i32
  let c1_i32_56 : BitVec 32 := 1#32
  let v131 : BitVec 32 := Scalar.subi v37 c1_i32_56
  let c128_i32_57 : BitVec 32 := 128#32
  let v132 : BitVec 32 := Scalar.muli v131 c128_i32_57
  let v133 : BitVec 32 := Scalar.maxsi c0_i32_58 v132
  let v134 : BitVec 32 := Scalar.minsi c16000_i32_59 v133
  v134
def k0_mult3 (i : grid0.Coords) : BitVec 32 :=
  let c16000_i32_93 : BitVec 32 := 16000#32
  let c0_i32_92 : BitVec 32 := 0#32
  let arg0 : BitVec 32 := BitVec.ofNat 32 (i 0).val
  let c16_i32_17 : BitVec 32 := 16#32
  let v38 : BitVec 32 := Scalar.muli arg0 c16_i32_17
  let c2_i32 : BitVec 32 := 2#32
  let v39 : BitVec 32 := Scalar.addi v38 c2_i32
  let c1_i32_90 : BitVec 32 := 1#32
  let v236 : BitVec 32 := Scalar.subi v39 c1_i32_90
  let c128_i32_91 : BitVec 32 := 128#32
  let v237 : BitVec 32 := Scalar.muli v236 c128_i32_91
  let v238 : BitVec 32 := Scalar.maxsi c0_i32_92 v237
  let v239 : BitVec 32 := Scalar.minsi c16000_i32_93 v238
  v239
def k0_mult4 (i : grid0.Coords) : BitVec 32 :=
  let c16000_i32_128 : BitVec 32 := 16000#32
  let c0_i32_127 : BitVec 32 := 0#32
  let arg0 : BitVec 32 := BitVec.ofNat 32 (i 0).val
  let c16_i32_18 : BitVec 32 := 16#32
  let v40 : BitVec 32 := Scalar.muli arg0 c16_i32_18
  let c3_i32 : BitVec 32 := 3#32
  let v41 : BitVec 32 := Scalar.addi v40 c3_i32
  let c1_i32_125 : BitVec 32 := 1#32
  let v342 : BitVec 32 := Scalar.subi v41 c1_i32_125
  let c128_i32_126 : BitVec 32 := 128#32
  let v343 : BitVec 32 := Scalar.muli v342 c128_i32_126
  let v344 : BitVec 32 := Scalar.maxsi c0_i32_127 v343
  let v345 : BitVec 32 := Scalar.minsi c16000_i32_128 v344
  v345
def k0_mult5 (i : grid0.Coords) : BitVec 32 :=
  let c16000_i32_172 : BitVec 32 := 16000#32
  let c0_i32_171 : BitVec 32 := 0#32
  let arg0 : BitVec 32 := BitVec.ofNat 32 (i 0).val
  let c16_i32_19 : BitVec 32 := 16#32
  let v42 : BitVec 32 := Scalar.muli arg0 c16_i32_19
  let c4_i32 : BitVec 32 := 4#32
  let v43 : BitVec 32 := Scalar.addi v42 c4_i32
  let c1_i32_169 : BitVec 32 := 1#32
  let v471 : BitVec 32 := Scalar.subi v43 c1_i32_169
  let c128_i32_170 : BitVec 32 := 128#32
  let v472 : BitVec 32 := Scalar.muli v471 c128_i32_170
  let v473 : BitVec 32 := Scalar.maxsi c0_i32_171 v472
  let v474 : BitVec 32 := Scalar.minsi c16000_i32_172 v473
  v474
def k0_mult6 (i : grid0.Coords) : BitVec 32 :=
  let c16000_i32_216 : BitVec 32 := 16000#32
  let c0_i32_215 : BitVec 32 := 0#32
  let arg0 : BitVec 32 := BitVec.ofNat 32 (i 0).val
  let c16_i32_20 : BitVec 32 := 16#32
  let v44 : BitVec 32 := Scalar.muli arg0 c16_i32_20
  let c5_i32 : BitVec 32 := 5#32
  let v45 : BitVec 32 := Scalar.addi v44 c5_i32
  let c1_i32_213 : BitVec 32 := 1#32
  let v600 : BitVec 32 := Scalar.subi v45 c1_i32_213
  let c128_i32_214 : BitVec 32 := 128#32
  let v601 : BitVec 32 := Scalar.muli v600 c128_i32_214
  let v602 : BitVec 32 := Scalar.maxsi c0_i32_215 v601
  let v603 : BitVec 32 := Scalar.minsi c16000_i32_216 v602
  v603
def k0_mult7 (i : grid0.Coords) : BitVec 32 :=
  let c16000_i32_260 : BitVec 32 := 16000#32
  let c0_i32_259 : BitVec 32 := 0#32
  let arg0 : BitVec 32 := BitVec.ofNat 32 (i 0).val
  let c16_i32_21 : BitVec 32 := 16#32
  let v46 : BitVec 32 := Scalar.muli arg0 c16_i32_21
  let c6_i32 : BitVec 32 := 6#32
  let v47 : BitVec 32 := Scalar.addi v46 c6_i32
  let c1_i32_257 : BitVec 32 := 1#32
  let v729 : BitVec 32 := Scalar.subi v47 c1_i32_257
  let c128_i32_258 : BitVec 32 := 128#32
  let v730 : BitVec 32 := Scalar.muli v729 c128_i32_258
  let v731 : BitVec 32 := Scalar.maxsi c0_i32_259 v730
  let v732 : BitVec 32 := Scalar.minsi c16000_i32_260 v731
  v732
def k0_mult8 (i : grid0.Coords) : BitVec 32 :=
  let c16000_i32_304 : BitVec 32 := 16000#32
  let c0_i32_303 : BitVec 32 := 0#32
  let arg0 : BitVec 32 := BitVec.ofNat 32 (i 0).val
  let c16_i32_22 : BitVec 32 := 16#32
  let v48 : BitVec 32 := Scalar.muli arg0 c16_i32_22
  let c7_i32 : BitVec 32 := 7#32
  let v49 : BitVec 32 := Scalar.addi v48 c7_i32
  let c1_i32_301 : BitVec 32 := 1#32
  let v858 : BitVec 32 := Scalar.subi v49 c1_i32_301
  let c128_i32_302 : BitVec 32 := 128#32
  let v859 : BitVec 32 := Scalar.muli v858 c128_i32_302
  let v860 : BitVec 32 := Scalar.maxsi c0_i32_303 v859
  let v861 : BitVec 32 := Scalar.minsi c16000_i32_304 v860
  v861
def k0_mult9 (i : grid0.Coords) : BitVec 32 :=
  let c16000_i32_348 : BitVec 32 := 16000#32
  let c0_i32_347 : BitVec 32 := 0#32
  let arg0 : BitVec 32 := BitVec.ofNat 32 (i 0).val
  let c16_i32_23 : BitVec 32 := 16#32
  let v50 : BitVec 32 := Scalar.muli arg0 c16_i32_23
  let c8_i32 : BitVec 32 := 8#32
  let v51 : BitVec 32 := Scalar.addi v50 c8_i32
  let c1_i32_345 : BitVec 32 := 1#32
  let v987 : BitVec 32 := Scalar.subi v51 c1_i32_345
  let c128_i32_346 : BitVec 32 := 128#32
  let v988 : BitVec 32 := Scalar.muli v987 c128_i32_346
  let v989 : BitVec 32 := Scalar.maxsi c0_i32_347 v988
  let v990 : BitVec 32 := Scalar.minsi c16000_i32_348 v989
  v990
def k0_mult10 (i : grid0.Coords) : BitVec 32 :=
  let c16000_i32_392 : BitVec 32 := 16000#32
  let c0_i32_391 : BitVec 32 := 0#32
  let arg0 : BitVec 32 := BitVec.ofNat 32 (i 0).val
  let c16_i32_24 : BitVec 32 := 16#32
  let v52 : BitVec 32 := Scalar.muli arg0 c16_i32_24
  let c9_i32 : BitVec 32 := 9#32
  let v53 : BitVec 32 := Scalar.addi v52 c9_i32
  let c1_i32_389 : BitVec 32 := 1#32
  let v1116 : BitVec 32 := Scalar.subi v53 c1_i32_389
  let c128_i32_390 : BitVec 32 := 128#32
  let v1117 : BitVec 32 := Scalar.muli v1116 c128_i32_390
  let v1118 : BitVec 32 := Scalar.maxsi c0_i32_391 v1117
  let v1119 : BitVec 32 := Scalar.minsi c16000_i32_392 v1118
  v1119
def k0_mult11 (i : grid0.Coords) : BitVec 32 :=
  let c16000_i32_436 : BitVec 32 := 16000#32
  let c0_i32_435 : BitVec 32 := 0#32
  let arg0 : BitVec 32 := BitVec.ofNat 32 (i 0).val
  let c16_i32_25 : BitVec 32 := 16#32
  let v54 : BitVec 32 := Scalar.muli arg0 c16_i32_25
  let c10_i32 : BitVec 32 := 10#32
  let v55 : BitVec 32 := Scalar.addi v54 c10_i32
  let c1_i32_433 : BitVec 32 := 1#32
  let v1245 : BitVec 32 := Scalar.subi v55 c1_i32_433
  let c128_i32_434 : BitVec 32 := 128#32
  let v1246 : BitVec 32 := Scalar.muli v1245 c128_i32_434
  let v1247 : BitVec 32 := Scalar.maxsi c0_i32_435 v1246
  let v1248 : BitVec 32 := Scalar.minsi c16000_i32_436 v1247
  v1248
def k0_mult12 (i : grid0.Coords) : BitVec 32 :=
  let c16000_i32_480 : BitVec 32 := 16000#32
  let c0_i32_479 : BitVec 32 := 0#32
  let arg0 : BitVec 32 := BitVec.ofNat 32 (i 0).val
  let c16_i32_26 : BitVec 32 := 16#32
  let v56 : BitVec 32 := Scalar.muli arg0 c16_i32_26
  let c11_i32 : BitVec 32 := 11#32
  let v57 : BitVec 32 := Scalar.addi v56 c11_i32
  let c1_i32_477 : BitVec 32 := 1#32
  let v1374 : BitVec 32 := Scalar.subi v57 c1_i32_477
  let c128_i32_478 : BitVec 32 := 128#32
  let v1375 : BitVec 32 := Scalar.muli v1374 c128_i32_478
  let v1376 : BitVec 32 := Scalar.maxsi c0_i32_479 v1375
  let v1377 : BitVec 32 := Scalar.minsi c16000_i32_480 v1376
  v1377
def k0_mult13 (i : grid0.Coords) : BitVec 32 :=
  let c16000_i32_524 : BitVec 32 := 16000#32
  let c0_i32_523 : BitVec 32 := 0#32
  let arg0 : BitVec 32 := BitVec.ofNat 32 (i 0).val
  let c16_i32_27 : BitVec 32 := 16#32
  let v58 : BitVec 32 := Scalar.muli arg0 c16_i32_27
  let c12_i32 : BitVec 32 := 12#32
  let v59 : BitVec 32 := Scalar.addi v58 c12_i32
  let c1_i32_521 : BitVec 32 := 1#32
  let v1503 : BitVec 32 := Scalar.subi v59 c1_i32_521
  let c128_i32_522 : BitVec 32 := 128#32
  let v1504 : BitVec 32 := Scalar.muli v1503 c128_i32_522
  let v1505 : BitVec 32 := Scalar.maxsi c0_i32_523 v1504
  let v1506 : BitVec 32 := Scalar.minsi c16000_i32_524 v1505
  v1506
def k0_mult14 (i : grid0.Coords) : BitVec 32 :=
  let c16000_i32_568 : BitVec 32 := 16000#32
  let c0_i32_567 : BitVec 32 := 0#32
  let arg0 : BitVec 32 := BitVec.ofNat 32 (i 0).val
  let c16_i32_28 : BitVec 32 := 16#32
  let v60 : BitVec 32 := Scalar.muli arg0 c16_i32_28
  let c13_i32 : BitVec 32 := 13#32
  let v61 : BitVec 32 := Scalar.addi v60 c13_i32
  let c1_i32_565 : BitVec 32 := 1#32
  let v1632 : BitVec 32 := Scalar.subi v61 c1_i32_565
  let c128_i32_566 : BitVec 32 := 128#32
  let v1633 : BitVec 32 := Scalar.muli v1632 c128_i32_566
  let v1634 : BitVec 32 := Scalar.maxsi c0_i32_567 v1633
  let v1635 : BitVec 32 := Scalar.minsi c16000_i32_568 v1634
  v1635
def k0_mult15 (i : grid0.Coords) : BitVec 32 :=
  let c16000_i32_612 : BitVec 32 := 16000#32
  let c0_i32_611 : BitVec 32 := 0#32
  let arg0 : BitVec 32 := BitVec.ofNat 32 (i 0).val
  let c16_i32_29 : BitVec 32 := 16#32
  let v62 : BitVec 32 := Scalar.muli arg0 c16_i32_29
  let c14_i32 : BitVec 32 := 14#32
  let v63 : BitVec 32 := Scalar.addi v62 c14_i32
  let c1_i32_609 : BitVec 32 := 1#32
  let v1761 : BitVec 32 := Scalar.subi v63 c1_i32_609
  let c128_i32_610 : BitVec 32 := 128#32
  let v1762 : BitVec 32 := Scalar.muli v1761 c128_i32_610
  let v1763 : BitVec 32 := Scalar.maxsi c0_i32_611 v1762
  let v1764 : BitVec 32 := Scalar.minsi c16000_i32_612 v1763
  v1764
def k0_mult16 (i : grid0.Coords) : BitVec 32 :=
  let c16000_i32_656 : BitVec 32 := 16000#32
  let c0_i32_655 : BitVec 32 := 0#32
  let arg0 : BitVec 32 := BitVec.ofNat 32 (i 0).val
  let c16_i32_30 : BitVec 32 := 16#32
  let v64 : BitVec 32 := Scalar.muli arg0 c16_i32_30
  let c15_i32 : BitVec 32 := 15#32
  let v65 : BitVec 32 := Scalar.addi v64 c15_i32
  let c1_i32_653 : BitVec 32 := 1#32
  let v1890 : BitVec 32 := Scalar.subi v65 c1_i32_653
  let c128_i32_654 : BitVec 32 := 128#32
  let v1891 : BitVec 32 := Scalar.muli v1890 c128_i32_654
  let v1892 : BitVec 32 := Scalar.maxsi c0_i32_655 v1891
  let v1893 : BitVec 32 := Scalar.minsi c16000_i32_656 v1892
  v1893
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S1x8 : Shape := ⟨2, ![1, 8]⟩
abbrev S8 : Shape := ⟨1, ![8]⟩
abbrev S1x16384x8x64 : Shape := ⟨4, ![1, 16384, 8, 64]⟩
abbrev S1x16384x2x64 : Shape := ⟨4, ![1, 16384, 2, 64]⟩
abbrev S1x256x2x64 : Shape := ⟨4, ![1, 256, 2, 64]⟩
abbrev S1x128x128x2x4x64 : Shape := ⟨6, ![1, 128, 128, 2, 4, 64]⟩
abbrev S_ : Shape := ⟨0, ![]⟩
abbrev S1x16640x2x64 : Shape := ⟨4, ![1, 16640, 2, 64]⟩
abbrev S1x128x128x2x64 : Shape := ⟨5, ![1, 128, 128, 2, 64]⟩
abbrev S1x128x384x2x64 : Shape := ⟨5, ![1, 128, 384, 2, 64]⟩
abbrev S1x2x128x384x128x4 : Shape := ⟨6, ![1, 2, 128, 384, 128, 4]⟩
abbrev S1x2x4x128x128x384 : Shape := ⟨6, ![1, 2, 4, 128, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x1x1 : Shape := ⟨3, ![128, 1, 1]⟩
abbrev S1x1x384 : Shape := ⟨3, ![1, 1, 384]⟩
abbrev S128x1x384 : Shape := ⟨3, ![128, 1, 384]⟩
abbrev S128x384 : Shape := ⟨2, ![128, 384]⟩
abbrev S1x128x384 : Shape := ⟨3, ![1, 128, 384]⟩
abbrev S128x128x384 : Shape := ⟨3, ![128, 128, 384]⟩
abbrev S1x2x256x128x128x4 : Shape := ⟨6, ![1, 2, 256, 128, 128, 4]⟩
abbrev S1x2x4x128x128x256 : Shape := ⟨6, ![1, 2, 4, 128, 128, 256]⟩
abbrev S1x2x4x1x1x1 : Shape := ⟨6, ![1, 2, 4, 1, 1, 1]⟩
abbrev S1x2x4x128x128x1 : Shape := ⟨6, ![1, 2, 4, 128, 128, 1]⟩
abbrev S1x2x4x128x128x641 : Shape := ⟨6, ![1, 2, 4, 128, 128, 641]⟩
abbrev S1x2x4x128x128 : Shape := ⟨5, ![1, 2, 4, 128, 128]⟩
abbrev S1x128x2x64x4x128 : Shape := ⟨6, ![1, 128, 2, 64, 4, 128]⟩
abbrev S1x2x64x4x128x128 : Shape := ⟨6, ![1, 2, 64, 4, 128, 128]⟩
abbrev S128x128x2x4x64 : Shape := ⟨5, ![128, 128, 2, 4, 64]⟩
abbrev S128x128x4x2x64 : Shape := ⟨5, ![128, 128, 4, 2, 64]⟩
abbrev S16384x512 : Shape := ⟨2, ![16384, 512]⟩

abbrev nBuf : Space → Nat
  | .hbm => 112
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S1x256x128, .f32⟩
  | .hbm, ⟨4, _⟩ => ⟨S1x256x128, .f32⟩
  | .hbm, ⟨5, _⟩ => ⟨S2x8, .f32⟩
  | .hbm, ⟨6, _⟩ => ⟨S1x8, .f32⟩
  | .hbm, ⟨7, _⟩ => ⟨S8, .f32⟩
  | .hbm, ⟨8, _⟩ => ⟨S1x16384x8x64, .f32⟩
  | .hbm, ⟨9, _⟩ => ⟨S1x16384x2x64, .f32⟩
  | .hbm, ⟨10, _⟩ => ⟨S1x16384x2x64, .f32⟩
  | .hbm, ⟨11, _⟩ => ⟨S1x256x2x64, .f32⟩
  | .hbm, ⟨12, _⟩ => ⟨S1x256x2x64, .f32⟩
  | .hbm, ⟨13, _⟩ => ⟨S1x128x128x2x4x64, .f32⟩
  | .hbm, ⟨14, _⟩ => ⟨S_, .f32⟩
  | .hbm, ⟨15, _⟩ => ⟨S1x128x128x2x4x64, .f32⟩
  | .hbm, ⟨16, _⟩ => ⟨S1x128x128x2x4x64, .f32⟩
  | .hbm, ⟨17, _⟩ => ⟨S_, .i32⟩
  | .hbm, ⟨18, _⟩ => ⟨S_, .f32⟩
  | .hbm, ⟨19, _⟩ => ⟨S1x16640x2x64, .f32⟩
  | .hbm, ⟨20, _⟩ => ⟨S1x16384x2x64, .f32⟩
  | .hbm, ⟨21, _⟩ => ⟨S1x128x128x2x64, .f32⟩
  | .hbm, ⟨22, _⟩ => ⟨S1x16384x2x64, .f32⟩
  | .hbm, ⟨23, _⟩ => ⟨S1x128x128x2x64, .f32⟩
  | .hbm, ⟨24, _⟩ => ⟨S1x16384x2x64, .f32⟩
  | .hbm, ⟨25, _⟩ => ⟨S1x128x128x2x64, .f32⟩
  | .hbm, ⟨26, _⟩ => ⟨S1x128x384x2x64, .f32⟩
  | .hbm, ⟨27, _⟩ => ⟨S_, .i32⟩
  | .hbm, ⟨28, _⟩ => ⟨S_, .f32⟩
  | .hbm, ⟨29, _⟩ => ⟨S1x16640x2x64, .f32⟩
  | .hbm, ⟨30, _⟩ => ⟨S1x16384x2x64, .f32⟩
  | .hbm, ⟨31, _⟩ => ⟨S1x128x128x2x64, .f32⟩
  | .hbm, ⟨32, _⟩ => ⟨S1x16384x2x64, .f32⟩
  | .hbm, ⟨33, _⟩ => ⟨S1x128x128x2x64, .f32⟩
  | .hbm, ⟨34, _⟩ => ⟨S1x16384x2x64, .f32⟩
  | .hbm, ⟨35, _⟩ => ⟨S1x128x128x2x64, .f32⟩
  | .hbm, ⟨36, _⟩ => ⟨S1x128x384x2x64, .f32⟩
  | .hbm, ⟨37, _⟩ => ⟨S1x2x128x384x128x4, .f32⟩
  | .hbm, ⟨38, _⟩ => ⟨S1x2x4x128x128x384, .f32⟩
  | .hbm, ⟨39, _⟩ => ⟨S128, .i32⟩
  | .hbm, ⟨40, _⟩ => ⟨S128x1, .i32⟩
  | .hbm, ⟨41, _⟩ => ⟨S384, .i32⟩
  | .hbm, ⟨42, _⟩ => ⟨S1x384, .i32⟩
  | .hbm, ⟨43, _⟩ => ⟨S128, .i32⟩
  | .hbm, ⟨44, _⟩ => ⟨S128x1x1, .i32⟩
  | .hbm, ⟨45, _⟩ => ⟨S_, .i32⟩
  | .hbm, ⟨46, _⟩ => ⟨S128x1x1, .i32⟩
  | .hbm, ⟨47, _⟩ => ⟨S128x1x1, .i32⟩
  | .hbm, ⟨48, _⟩ => ⟨S1x1x384, .i32⟩
  | .hbm, ⟨49, _⟩ => ⟨S128x1x384, .i32⟩
  | .hbm, ⟨50, _⟩ => ⟨S128x1x384, .i32⟩
  | .hbm, ⟨51, _⟩ => ⟨S128x1x384, .i32⟩
  | .hbm, ⟨52, _⟩ => ⟨S_, .i32⟩
  | .hbm, ⟨53, _⟩ => ⟨S128x1x384, .i32⟩
  | .hbm, ⟨54, _⟩ => ⟨S128x1x384, .i32⟩
  | .hbm, ⟨55, _⟩ => ⟨S_, .i32⟩
  | .hbm, ⟨56, _⟩ => ⟨S1x384, .i32⟩
  | .hbm, ⟨57, _⟩ => ⟨S1x384, .i32⟩
  | .hbm, ⟨58, _⟩ => ⟨S128x384, .i32⟩
  | .hbm, ⟨59, _⟩ => ⟨S128x384, .i32⟩
  | .hbm, ⟨60, _⟩ => ⟨S128x384, .i32⟩
  | .hbm, ⟨61, _⟩ => ⟨S128x384, .i32⟩
  | .hbm, ⟨62, _⟩ => ⟨S_, .i32⟩
  | .hbm, ⟨63, _⟩ => ⟨S128x384, .i32⟩
  | .hbm, ⟨64, _⟩ => ⟨S128x384, .i1⟩
  | .hbm, ⟨65, _⟩ => ⟨S1x128x384, .i1⟩
  | .hbm, ⟨66, _⟩ => ⟨S_, .i32⟩
  | .hbm, ⟨67, _⟩ => ⟨S128x1x384, .i32⟩
  | .hbm, ⟨68, _⟩ => ⟨S128x1x384, .i1⟩
  | .hbm, ⟨69, _⟩ => ⟨S128x128x384, .i1⟩
  | .hbm, ⟨70, _⟩ => ⟨S128x128x384, .i1⟩
  | .hbm, ⟨71, _⟩ => ⟨S128x128x384, .i1⟩
  | .hbm, ⟨72, _⟩ => ⟨S_, .i32⟩
  | .hbm, ⟨73, _⟩ => ⟨S128x1x384, .i32⟩
  | .hbm, ⟨74, _⟩ => ⟨S128x1x384, .i1⟩
  | .hbm, ⟨75, _⟩ => ⟨S128x128x384, .i1⟩
  | .hbm, ⟨76, _⟩ => ⟨S128x128x384, .i1⟩
  | .hbm, ⟨77, _⟩ => ⟨S_, .f32⟩
  | .hbm, ⟨78, _⟩ => ⟨S_, .f32⟩
  | .hbm, ⟨79, _⟩ => ⟨S1x2x4x128x128x384, .i1⟩
  | .hbm, ⟨80, _⟩ => ⟨S1x2x4x128x128x384, .f32⟩
  | .hbm, ⟨81, _⟩ => ⟨S1x2x4x128x128x384, .f32⟩
  | .hbm, ⟨82, _⟩ => ⟨S1x2x256x128x128x4, .f32⟩
  | .hbm, ⟨83, _⟩ => ⟨S1x2x4x128x128x256, .f32⟩
  | .hbm, ⟨84, _⟩ => ⟨S1x2x4x1x1x1, .f32⟩
  | .hbm, ⟨85, _⟩ => ⟨S1x2x4x128x128x1, .f32⟩
  | .hbm, ⟨86, _⟩ => ⟨S1x2x4x128x128x641, .f32⟩
  | .hbm, ⟨87, _⟩ => ⟨S_, .f32⟩
  | .hbm, ⟨88, _⟩ => ⟨S1x2x4x128x128, .f32⟩
  | .hbm, ⟨89, _⟩ => ⟨S_, .f32⟩
  | .hbm, ⟨90, _⟩ => ⟨S1x2x4x128x128, .f32⟩
  | .hbm, ⟨91, _⟩ => ⟨S1x2x4x128x128, .f32⟩
  | .hbm, ⟨92, _⟩ => ⟨S1x2x4x128x128x1, .f32⟩
  | .hbm, ⟨93, _⟩ => ⟨S1x2x4x128x128x641, .f32⟩
  | .hbm, ⟨94, _⟩ => ⟨S1x2x4x128x128x641, .f32⟩
  | .hbm, ⟨95, _⟩ => ⟨S1x2x4x128x128x641, .f32⟩
  | .hbm, ⟨96, _⟩ => ⟨S_, .f32⟩
  | .hbm, ⟨97, _⟩ => ⟨S1x2x4x128x128, .f32⟩
  | .hbm, ⟨98, _⟩ => ⟨S1x2x4x128x128x1, .f32⟩
  | .hbm, ⟨99, _⟩ => ⟨S1x2x4x128x128x641, .f32⟩
  | .hbm, ⟨100, _⟩ => ⟨S1x2x4x128x128x641, .f32⟩
  | .hbm, ⟨101, _⟩ => ⟨S1x2x4x128x128x384, .f32⟩
  | .hbm, ⟨102, _⟩ => ⟨S1x128x2x64x4x128, .f32⟩
  | .hbm, ⟨103, _⟩ => ⟨S1x128x128x2x4x64, .f32⟩
  | .hbm, ⟨104, _⟩ => ⟨S1x2x4x128x128x256, .f32⟩
  | .hbm, ⟨105, _⟩ => ⟨S1x2x64x4x128x128, .f32⟩
  | .hbm, ⟨106, _⟩ => ⟨S1x128x128x2x4x64, .f32⟩
  | .hbm, ⟨107, _⟩ => ⟨S1x128x128x2x4x64, .f32⟩
  | .hbm, ⟨108, _⟩ => ⟨S128x128x2x4x64, .f32⟩
  | .hbm, ⟨109, _⟩ => ⟨S128x128x4x2x64, .f32⟩
  | .hbm, ⟨110, _⟩ => ⟨S16384x512, .f32⟩
  | .hbm, ⟨111, _⟩ => ⟨S16384x512, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_2 : Ref sig .tc := ⟨.hbm, 52, rfl⟩
abbrev main_v40 : Ref sig .tc := ⟨.hbm, 53, rfl⟩
abbrev main_v41 : Ref sig .tc := ⟨.hbm, 54, rfl⟩
abbrev main_c_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S2x2x6144 : Shape := ⟨3, ![2, 2, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x16384x64 : Shape := ⟨3, ![1, 16384, 64]⟩
abbrev S16384x64 : Shape := ⟨2, ![16384, 64]⟩
abbrev S16384x512 : Shape := ⟨2, ![16384, 512]⟩
abbrev S16384x256 : Shape := ⟨2, ![16384, 256]⟩
abbrev S128x16x8x2x128 : Shape := ⟨5, ![128, 16, 8, 2, 128]⟩
abbrev S2x16x128x8x128 : Shape := ⟨5, ![2, 16, 128, 8, 128]⟩
abbrev S2x16x1024x128 : Shape := ⟨4, ![2, 16, 1024, 128]⟩
abbrev S_ : Shape := ⟨0, ![]⟩
abbrev S2x6x6144 : Shape := ⟨3, ![2, 6, 6144]⟩
abbrev S2x8x6144 : Shape := ⟨3, ![2, 8, 6144]⟩
abbrev S2x64x1024 : Shape := ⟨3, ![2, 64, 1024]⟩
abbrev S2x512x1024 : Shape := ⟨3, ![2, 512, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S1024x1024 : Shape := ⟨2, ![1024, 1024]⟩
abbrev S1024x512 : Shape := ⟨2, ![1024, 512]⟩
abbrev S2x16x64x128 : Shape := ⟨4, ![2, 16, 64, 128]⟩
abbrev S1024x256 : Shape := ⟨2, ![1024, 256]⟩
abbrev S1x8x6144 : Shape := ⟨3, ![1, 8, 6144]⟩
abbrev S1x1024x1024 : Shape := ⟨3, ![1, 1024, 1024]⟩
abbrev S1x1x8x128 : Shape := ⟨4, ![1, 1, 8, 128]⟩
abbrev S8x128 : Shape := ⟨2, ![8, 128]⟩
abbrev S1024x128 : Shape := ⟨2, ![1024, 128]⟩
abbrev S8x6144 : Shape := ⟨2, ![8, 6144]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 58
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x256, .f32⟩
  | .hbm, ⟨3, _⟩ => ⟨S1x16384x256, .f32⟩
  | .hbm, ⟨4, _⟩ => ⟨S2x2x6144, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S2x1024, .f32⟩
  | .hbm, ⟨11, _⟩ => ⟨S2x1024, .f32⟩
  | .hbm, ⟨12, _⟩ => ⟨S1x16384x64, .f32⟩
  | .hbm, ⟨13, _⟩ => ⟨S16384x64, .f32⟩
  | .hbm, ⟨14, _⟩ => ⟨S1x16384x64, .f32⟩
  | .hbm, ⟨15, _⟩ => ⟨S16384x64, .f32⟩
  | .hbm, ⟨16, _⟩ => ⟨S1x16384x64, .f32⟩
  | .hbm, ⟨17, _⟩ => ⟨S16384x64, .f32⟩
  | .hbm, ⟨18, _⟩ => ⟨S1x16384x64, .f32⟩
  | .hbm, ⟨19, _⟩ => ⟨S16384x64, .f32⟩
  | .hbm, ⟨20, _⟩ => ⟨S1x16384x64, .f32⟩
  | .hbm, ⟨21, _⟩ => ⟨S16384x64, .f32⟩
  | .hbm, ⟨22, _⟩ => ⟨S1x16384x64, .f32⟩
  | .hbm, ⟨23, _⟩ => ⟨S16384x64, .f32⟩
  | .hbm, ⟨24, _⟩ => ⟨S1x16384x64, .f32⟩
  | .hbm, ⟨25, _⟩ => ⟨S16384x64, .f32⟩
  | .hbm, ⟨26, _⟩ => ⟨S1x16384x64, .f32⟩
  | .hbm, ⟨27, _⟩ => ⟨S16384x64, .f32⟩
  | .hbm, ⟨28, _⟩ => ⟨S16384x512, .f32⟩
  | .hbm, ⟨29, _⟩ => ⟨S16384x512, .bf16⟩
  | .hbm, ⟨30, _⟩ => ⟨S16384x256, .f32⟩
  | .hbm, ⟨31, _⟩ => ⟨S128x16x8x2x128, .f32⟩
  | .hbm, ⟨32, _⟩ => ⟨S2x16x128x8x128, .f32⟩
  | .hbm, ⟨33, _⟩ => ⟨S2x16x1024x128, .f32⟩
  | .hbm, ⟨34, _⟩ => ⟨S_, .f32⟩
  | .hbm, ⟨35, _⟩ => ⟨S2x6x6144, .f32⟩
  | .hbm, ⟨36, _⟩ => ⟨S2x8x6144, .f32⟩
  | .hbm, ⟨37, _⟩ => ⟨S2x64x1024, .f32⟩
  | .hbm, ⟨38, _⟩ => ⟨S2x64x1024, .f32⟩
  | .hbm, ⟨39, _⟩ => ⟨S2x64x1024, .f32⟩
  | .hbm, ⟨40, _⟩ => ⟨S2x64x1024, .f32⟩
  | .hbm, ⟨41, _⟩ => ⟨S2x64x1024, .f32⟩
  | .hbm, ⟨42, _⟩ => ⟨S2x64x1024, .f32⟩
  | .hbm, ⟨43, _⟩ => ⟨S2x64x1024, .f32⟩
  | .hbm, ⟨44, _⟩ => ⟨S2x64x1024, .f32⟩
  | .hbm, ⟨45, _⟩ => ⟨S2x512x1024, .f32⟩
  | .hbm, ⟨46, _⟩ => ⟨S2x1024x1024, .f32⟩
  | .hbm, ⟨47, _⟩ => ⟨S2x1024x1024, .bf16⟩
  | .hbm, ⟨48, _⟩ => ⟨S1x1024x5632, .f32⟩
  | .hbm, ⟨49, _⟩ => ⟨S1024x5632, .f32⟩
  | .hbm, ⟨50, _⟩ => ⟨S1024x5632, .bf16⟩
  | .hbm, ⟨51, _⟩ => ⟨S1x2816x1024, .f32⟩
  | .hbm, ⟨52, _⟩ => ⟨S2816x1024, .f32⟩
  | .hbm, ⟨53, _⟩ => ⟨S2816x1024, .bf16⟩
  | .hbm, ⟨54, _⟩ => ⟨S16384x1024, .f32⟩
  | .hbm, ⟨55, _⟩ => ⟨S16384x256, .f32⟩
  | .hbm, ⟨56, _⟩ => ⟨S16384x256, .bf16⟩
  | .hbm, ⟨57, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S2x16x64x128, .f32⟩
  | .local _ .vmem, ⟨5, _⟩ => ⟨S2x16x64x128, .f32⟩
  | .local _ .vmem, ⟨6, _⟩ => ⟨S1024x256, .bf16⟩
  | .local _ .vmem, ⟨7, _⟩ => ⟨S1024x256, .bf16⟩
  | .local _ .vmem, ⟨8, _⟩ => ⟨S1x8x6144, .f32⟩
  | .local _ .vmem, ⟨9, _⟩ => ⟨S1x1024x1024, .bf16⟩
  | .local _ .vmem, ⟨10, _⟩ => ⟨S2x1024, .f32⟩
  | .local _ .vmem, ⟨11, _⟩ => ⟨S2x1024, .f32⟩
  | .local _ .vmem, ⟨12, _⟩ => ⟨S1024x5632, .bf16⟩
  | .local _ .vmem, ⟨13, _⟩ => ⟨S2816x1024, .bf16⟩
  | .local _ .vmem, ⟨14, _⟩ => ⟨S2x1024, .f32⟩
  | .local _ .vmem, ⟨15, _⟩ => ⟨S2x1024, .f32⟩
  | .local _ .vmem, ⟨16, _⟩ => ⟨S1024x1024, .f32⟩
  | .local _ .vmem, ⟨17, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S2x2x6144 : Shape := ⟨3, ![2, 2, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1x6144 : Shape := ⟨3, ![1, 1, 6144]⟩
abbrev S1x6144 : Shape := ⟨2, ![1, 6144]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1024x5632 : Shape := ⟨3, ![1, 1024, 5632]⟩
abbrev S1024x5632 : Shape := ⟨2, ![1024, 5632]⟩
abbrev S1x16384x5632 : Shape := ⟨3, ![1, 16384, 5632]⟩
abbrev S1x16384x2816 : Shape := ⟨3, ![1, 16384, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 152
  | .vmem => 0
  | .smem => 0
  | _ => 0

abbrev hbmTy0_0 (i : Nat) : BufTy := match i % 128 with
  | 0 => ⟨S1x16384x1024, .f32⟩
  | 1 => ⟨S1x16384x512, .f32⟩
  | 2 => ⟨S1x16384x256, .f32⟩
  | 3 => ⟨S1x16384x256, .f32⟩
  | 4 => ⟨S2x2x6144, .f32⟩
  | 5 => ⟨S2x1024x1024, .f32⟩
  | 6 => ⟨S2x1024, .f32⟩
  | 7 => ⟨S2x1024, .f32⟩
  | 8 => ⟨S2x1024x5632, .f32⟩
  | 9 => ⟨S2x2816x1024, .f32⟩
  | 10 => ⟨S2x1024, .f32⟩
  | 11 => ⟨S2x1024, .f32⟩
  | 12 => ⟨S1x1x6144, .f32⟩
  | 13 => ⟨S1x6144, .f32⟩
  | 14 => ⟨S1x1x6144, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x16384x1024, .f32⟩
  | 22 => ⟨S1x1024x1024, .f32⟩
  | 23 => ⟨S1024x1024, .f32⟩
  | 24 => ⟨S1x16384x1024, .f32⟩
  | 25 => ⟨S1x1024, .f32⟩
  | 26 => ⟨S1024, .f32⟩
  | 27 => ⟨S1x1024, .f32⟩
  | 28 => ⟨S1024, .f32⟩
  | 29 => ⟨S_, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x1024, .f32⟩
  | 35 => ⟨S_, .f32⟩
  | 36 => ⟨S1x16384, .f32⟩
  | 37 => ⟨S1x16384x1, .f32⟩
  | 38 => ⟨S_, .f32⟩
  | 39 => ⟨S1x16384x1, .f32⟩
  | 40 => ⟨S1x16384x1, .f32⟩
  | 41 => ⟨S1x16384x1024, .f32⟩
  | 42 => ⟨S1x16384x1024, .f32⟩
  | 43 => ⟨S1x16384x1024, .f32⟩
  | 44 => ⟨S_, .f32⟩
  | 45 => ⟨S1x16384, .f32⟩
  | 46 => ⟨S1x16384x1, .f32⟩
  | 47 => ⟨S_, .f32⟩
  | 48 => ⟨S1x16384x1, .f32⟩
  | 49 => ⟨S1x16384x1, .f32⟩
  | 50 => ⟨S1x16384x1024, .f32⟩
  | 51 => ⟨S1x16384x1024, .f32⟩
  | 52 => ⟨S_, .f32⟩
  | 53 => ⟨S1x16384x1, .f32⟩
  | 54 => ⟨S1x16384x1, .f32⟩
  | 55 => ⟨S1x16384x1, .f32⟩
  | 56 => ⟨S1x16384x1024, .f32⟩
  | 57 => ⟨S1x16384x1024, .f32⟩
  | 58 => ⟨S1x1x1024, .f32⟩
  | 59 => ⟨S1x16384x1024, .f32⟩
  | 60 => ⟨S1x16384x1024, .f32⟩
  | 61 => ⟨S1x1x1024, .f32⟩
  | 62 => ⟨S1x16384x1024, .f32⟩
  | 63 => ⟨S1x16384x1024, .f32⟩
  | 64 => ⟨S_, .f32⟩
  | 65 => ⟨S1x16384, .f32⟩
  | 66 => ⟨S1x16384x1, .f32⟩
  | 67 => ⟨S_, .f32⟩
  | 68 => ⟨S1x16384x1, .f32⟩
  | 69 => ⟨S1x16384x1, .f32⟩
  | 70 => ⟨S1x16384x1024, .f32⟩
  | 71 => ⟨S1x16384x1024, .f32⟩
  | 72 => ⟨S1x16384x1024, .f32⟩
  | 73 => ⟨S_, .f32⟩
  | 74 => ⟨S1x16384, .f32⟩
  | 75 => ⟨S1x16384x1, .f32⟩
  | 76 => ⟨S_, .f32⟩
  | 77 => ⟨S1x16384x1, .f32⟩
  | 78 => ⟨S1x16384x1, .f32⟩
  | 79 => ⟨S1x16384x1024, .f32⟩
  | 80 => ⟨S1x16384x1024, .f32⟩
  | 81 => ⟨S_, .f32⟩
  | 82 => ⟨S1x16384x1, .f32⟩
  | 83 => ⟨S1x16384x1, .f32⟩
  | 84 => ⟨S1x16384x1, .f32⟩
  | 85 => ⟨S1x16384x1024, .f32⟩
  | 86 => ⟨S1x16384x1024, .f32⟩
  | 87 => ⟨S_, .f32⟩
  | 88 => ⟨S1x1x1024, .f32⟩
  | 89 => ⟨S1x1x1024, .f32⟩
  | 90 => ⟨S1x16384x1024, .f32⟩
  | 91 => ⟨S1x16384x1024, .f32⟩
  | 92 => ⟨S1x16384x1024, .f32⟩
  | 93 => ⟨S1x16384x1024, .f32⟩
  | 94 => ⟨S1x1024x5632, .f32⟩
  | 95 => ⟨S1024x5632, .f32⟩
  | 96 => ⟨S1x16384x5632, .f32⟩
  | 97 => ⟨S1x16384x2816, .f32⟩
  | 98 => ⟨S1x16384x2816, .f32⟩
  | 99 => ⟨S1x16384x2816, .f32⟩
  | 100 => ⟨S1x16384x2816, .f32⟩
  | 101 => ⟨S_, .f32⟩
  | 102 => ⟨S1x16384x2816, .f32⟩
  | 103 => ⟨S1x16384x2816, .f32⟩
  | 104 => ⟨S_, .f32⟩
  | 105 => ⟨S1x16384x2816, .f32⟩
  | 106 => ⟨S1x16384x2816, .f32⟩
  | 107 => ⟨S1x16384x2816, .f32⟩
  | 108 => ⟨S1x16384x2816, .f32⟩
  | 109 => ⟨S1x2816x1024, .f32⟩
  | 110 => ⟨S2816x1024, .f32⟩
  | 111 => ⟨S1x16384x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S1x16384x1024, .f32⟩
  | 118 => ⟨S1x16384x1024, .f32⟩
  | 119 => ⟨S1x16384x1024, .f32⟩
  | 120 => ⟨S1x16384x1024, .f32⟩
  | 121 => ⟨S1x16384x1024, .f32⟩
  | 122 => ⟨S_, .f32⟩
  | 123 => ⟨S1x16384, .f32⟩
  | 124 => ⟨S1x16384x1, .f32⟩
  | 125 => ⟨S_, .f32⟩
  | 126 => ⟨S1x16384x1, .f32⟩
  | 127 => ⟨S1x16384x1, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S1x16384x1024, .f32⟩
  | 3 => ⟨S_, .f32⟩
  | 4 => ⟨S1x16384, .f32⟩
  | 5 => ⟨S1x16384x1, .f32⟩
  | 6 => ⟨S_, .f32⟩
  | 7 => ⟨S1x16384x1, .f32⟩
  | 8 => ⟨S1x16384x1, .f32⟩
  | 9 => ⟨S1x16384x1024, .f32⟩
  | 10 => ⟨S1x16384x1024, .f32⟩
  | 11 => ⟨S_, .f32⟩
  | 12 => ⟨S1x16384x1, .f32⟩
  | 13 => ⟨S1x16384x1, .f32⟩
  | 14 => ⟨S1x16384x1, .f32⟩
  | 15 => ⟨S1x16384x1024, .f32⟩
  | 16 => ⟨S1x16384x1024, .f32⟩
  | 17 => ⟨S1x1x1024, .f32⟩
  | 18 => ⟨S1x16384x1024, .f32⟩
  | 19 => ⟨S1x16384x1024, .f32⟩
  | 20 => ⟨S1x1x1024, .f32⟩
  | 21 => ⟨S1x16384x1024, .f32⟩
  | 22 => ⟨S1x16384x1024, .f32⟩
  | 23 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_14 : Ref sig .tc := ⟨.hbm, 131, rfl⟩
abbrev main_v96 : Ref sig .tc := ⟨.hbm, 132, rfl⟩
abbrev main_v97 : Ref sig .tc := ⟨.hbm, 133, rfl⟩
abbrev main_cst_15 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]
-- ==== Kernel3.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S2x1024x1536 : Shape := ⟨3, ![2, 1024, 1536]⟩
abbrev S64x64 : Shape := ⟨2, ![64, 64]⟩
abbrev S2x4x64x64 : Shape := ⟨4, ![2, 4, 64, 64]⟩
abbrev S1024x1 : Shape := ⟨2, ![1024, 1]⟩
abbrev S_ : Shape := ⟨0, ![]⟩
abbrev S1024x6 : Shape := ⟨2, ![1024, 6]⟩
abbrev S1024x8 : Shape := ⟨2, ![1024, 8]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x512 : Shape := ⟨2, ![256, 512]⟩
abbrev S1x4x1x4x1 : Shape := ⟨5, ![1, 4, 1, 4, 1]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩
abbrev S2x8x6144 : Shape := ⟨3, ![2, 8, 6144]⟩
abbrev S2x1024x1792 : Shape := ⟨3, ![2, 1024, 1792]⟩
abbrev S1x1024x1024 : Shape := ⟨3, ![1, 1024, 1024]⟩
abbrev S2x1024 : Shape := ⟨2, ![2, 1024]⟩
abbrev S1x1024x1536 : Shape := ⟨3, ![1, 1024, 1536]⟩
abbrev S1x256x256 : Shape := ⟨3, ![1, 256, 256]⟩
abbrev S1x8x1024 : Shape := ⟨3, ![1, 8, 1024]⟩
abbrev S1x1024x1792 : Shape := ⟨3, ![1, 1024, 1792]⟩
abbrev S1024x1024 : Shape := ⟨2, ![1024, 1024]⟩
abbrev S8x1024 : Shape := ⟨2, ![8, 1024]⟩
abbrev S1x1x1024 : Shape := ⟨3, ![1, 1, 1024]⟩
abbrev S1x1024x64 : Shape := ⟨3, ![1, 1024, 64]⟩
abbrev S1024x64 : Shape := ⟨2, ![1024, 64]⟩
abbrev S1x1024x256 : Shape := ⟨3, ![1, 1024, 256]⟩
abbrev S1024x256 : Shape := ⟨2, ![1024, 256]⟩
abbrev S1024x512 : Shape := ⟨2, ![1024, 512]⟩
abbrev S1x1024x512 : Shape := ⟨3, ![1, 1024, 512]⟩

abbrev nBuf : Space → Nat
  | .hbm => 55
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024x1536, .f32⟩
  | .hbm, ⟨5, _⟩ => ⟨S64x64, .f32⟩
  | .hbm, ⟨6, _⟩ => ⟨S64x64, .f32⟩
  | .hbm, ⟨7, _⟩ => ⟨S2x4x64x64, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x6, .f32⟩
  | .hbm, ⟨13, _⟩ => ⟨S1024x8, .f32⟩
  | .hbm, ⟨14, _⟩ => ⟨S4, .i32⟩
  | .hbm, ⟨15, _⟩ => ⟨S4x1, .i32⟩
  | .hbm, ⟨16, _⟩ => ⟨S1x4, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x1x4x1, .i1⟩
  | .hbm, ⟨21, _⟩ => ⟨S1x64x1x64, .f32⟩
  | .hbm, ⟨22, _⟩ => ⟨S_, .f32⟩
  | .hbm, ⟨23, _⟩ => ⟨S_, .f32⟩
  | .hbm, ⟨24, _⟩ => ⟨S4x64x4x64, .i1⟩
  | .hbm, ⟨25, _⟩ => ⟨S4x64x4x64, .f32⟩
  | .hbm, ⟨26, _⟩ => ⟨S4x64x4x64, .f32⟩
  | .hbm, ⟨27, _⟩ => ⟨S4x64x4x64, .f32⟩
  | .hbm, ⟨28, _⟩ => ⟨S256x256, .f32⟩
  | .hbm, ⟨29, _⟩ => ⟨S1x64x1x64, .f32⟩
  | .hbm, ⟨30, _⟩ => ⟨S_, .f32⟩
  | .hbm, ⟨31, _⟩ => ⟨S_, .f32⟩
  | .hbm, ⟨32, _⟩ => ⟨S4x64x4x64, .i1⟩
  | .hbm, ⟨33, _⟩ => ⟨S4x64x4x64, .f32⟩
  | .hbm, ⟨34, _⟩ => ⟨S4x64x4x64, .f32⟩
  | .hbm, ⟨35, _⟩ => ⟨S4x64x4x64, .f32⟩
  | .hbm, ⟨36, _⟩ => ⟨S256x256, .f32⟩
  | .hbm, ⟨37, _⟩ => ⟨S256x512, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S1x4x1x4x1, .i1⟩
  | .hbm, ⟨45, _⟩ => ⟨S2x4x64x1x64, .f32⟩
  | .hbm, ⟨46, _⟩ => ⟨S_, .f32⟩
  | .hbm, ⟨47, _⟩ => ⟨S_, .f32⟩
  | .hbm, ⟨48, _⟩ => ⟨S2x4x64x4x64, .i1⟩
  | .hbm, ⟨49, _⟩ => ⟨S2x4x64x4x64, .f32⟩
  | .hbm, ⟨50, _⟩ => ⟨S2x4x64x4x64, .f32⟩
  | .hbm, ⟨51, _⟩ => ⟨S2x4x64x4x64, .f32⟩
  | .hbm, ⟨52, _⟩ => ⟨S2x256x256, .f32⟩
  | .hbm, ⟨53, _⟩ => ⟨S2x8x6144, .f32⟩
  | .hbm, ⟨54, _⟩ => ⟨S2x1024x1792, .bf16⟩
  | .local _ .vmem, ⟨0, _⟩ => ⟨S1024x8, .f32⟩
  | .local _ .vmem, ⟨1, _⟩ => ⟨S1x1024x1024, .f32⟩
  | .local _ .vmem, ⟨2, _⟩ => ⟨S1x1024x1024, .f32⟩
  | .local _ .vmem, ⟨3, _⟩ => ⟨S2x1024, .f32⟩
  | .local _ .vmem, ⟨4, _⟩ => ⟨S2x1024, .f32⟩
  | .local _ .vmem, ⟨5, _⟩ => ⟨S1x1024x1536, .f32⟩
  | .local _ .vmem, ⟨6, _⟩ => ⟨S1x1024x1536, .f32⟩
  | .local _ .vmem, ⟨7, _⟩ => ⟨S256x512, .f32⟩
  | .local _ .vmem, ⟨8, _⟩ => ⟨S1x256x256, .f32⟩
  | .local _ .vmem, ⟨9, _⟩ => ⟨S1x256x256, .f32⟩
  | .local _ .vmem, ⟨10, _⟩ => ⟨S1x8x1024, .f32⟩
  | .local _ .vmem, ⟨11, _⟩ => ⟨S1x8x1024, .f32⟩
  | .local _ .vmem, ⟨12, _⟩ => ⟨S1x1024x1792, .bf16⟩
  | .local _ .vmem, ⟨13, _⟩ => ⟨S1x1024x1792, .bf16⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 6], ![false, false]⟩

def k0_off1 (i : grid0.Coords) : Fin 2 → Nat :=
  let arg0 : BitVec 32 := BitVec.ofNat 32 (i 0).val
  let v10 : Index := Scalar.indexCast arg0
  let c0_5 : Index := 0#32
  ![v10.toNat, 0]
def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S2x1024x1536 : Shape := ⟨3, ![2, 1024, 1536]⟩
abbrev S64x64 : Shape := ⟨2, ![64, 64]⟩
abbrev S2x4x64x64 : Shape := ⟨4, ![2, 4, 64, 64]⟩
abbrev S2x1024 : Shape := ⟨2, ![2, 1024]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩
abbrev S2x8x6144 : Shape := ⟨3, ![2, 8, 6144]⟩

abbrev nBuf : Space → Nat
  | .hbm => 27
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024x1536, .f32⟩
  | .hbm, ⟨5, _⟩ => ⟨S64x64, .f32⟩
  | .hbm, ⟨6, _⟩ => ⟨S64x64, .f32⟩
  | .hbm, ⟨7, _⟩ => ⟨S2x4x64x64, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x6144x2, .f32⟩
  | .hbm, ⟨20, _⟩ => ⟨S2x2x6144, .f32⟩
  | .hbm, ⟨21, _⟩ => ⟨S2x1x6144, .f32⟩
  | .hbm, ⟨22, _⟩ => ⟨S2x2x6144, .f32⟩
  | .hbm, ⟨23, _⟩ => ⟨S2x2x6144, .f32⟩
  | .hbm, ⟨24, _⟩ => ⟨S_, .i32⟩
  | .hbm, ⟨25, _⟩ => ⟨S_, .f32⟩
  | .hbm, ⟨26, _⟩ => ⟨S2x8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call1_v0 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S2x2x6144 : Shape := ⟨3, ![2, 2, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x16384x64 : Shape := ⟨3, ![1, 16384, 64]⟩
abbrev S16384x64 : Shape := ⟨2, ![16384, 64]⟩
abbrev S16384x512 : Shape := ⟨2, ![16384, 512]⟩
abbrev S16384x256 : Shape := ⟨2, ![16384, 256]⟩
abbrev S128x16x8x2x128 : Shape := ⟨5, ![128, 16, 8, 2, 128]⟩
abbrev S2x16x128x8x128 : Shape := ⟨5, ![2, 16, 128, 8, 128]⟩
abbrev S2x16x1024x128 : Shape := ⟨4, ![2, 16, 1024, 128]⟩
abbrev S_ : Shape := ⟨0, ![]⟩
abbrev S2x6x6144 : Shape := ⟨3, ![2, 6, 6144]⟩
abbrev S2x8x6144 : Shape := ⟨3, ![2, 8, 6144]⟩
abbrev S2x64x1024 : Shape := ⟨3, ![2, 64, 1024]⟩
abbrev S2x512x1024 : Shape := ⟨3, ![2, 512, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S1024x1024 : Shape := ⟨2, ![1024, 1024]⟩
abbrev S1024x512 : Shape := ⟨2, ![1024, 512]⟩
abbrev S2x16x64x128 : Shape := ⟨4, ![2, 16, 64, 128]⟩
abbrev S1024x256 : Shape := ⟨2, ![1024, 256]⟩
abbrev S1x8x6144 : Shape := ⟨3, ![1, 8, 6144]⟩
abbrev S1x1024x1024 : Shape := ⟨3, ![1, 1024, 1024]⟩
abbrev S1x1x8x128 : Shape := ⟨4, ![1, 1, 8, 128]⟩
abbrev S8x128 : Shape := ⟨2, ![8, 128]⟩
abbrev S1024x128 : Shape := ⟨2, ![1024, 128]⟩
abbrev S8x6144 : Shape := ⟨2, ![8, 6144]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 58
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x256, .f32⟩
  | .hbm, ⟨3, _⟩ => ⟨S1x16384x256, .f32⟩
  | .hbm, ⟨4, _⟩ => ⟨S2x2x6144, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S2x1024, .f32⟩
  | .hbm, ⟨11, _⟩ => ⟨S2x1024, .f32⟩
  | .hbm, ⟨12, _⟩ => ⟨S1x16384x64, .f32⟩
  | .hbm, ⟨13, _⟩ => ⟨S16384x64, .f32⟩
  | .hbm, ⟨14, _⟩ => ⟨S1x16384x64, .f32⟩
  | .hbm, ⟨15, _⟩ => ⟨S16384x64, .f32⟩
  | .hbm, ⟨16, _⟩ => ⟨S1x16384x64, .f32⟩
  | .hbm, ⟨17, _⟩ => ⟨S16384x64, .f32⟩
  | .hbm, ⟨18, _⟩ => ⟨S1x16384x64, .f32⟩
  | .hbm, ⟨19, _⟩ => ⟨S16384x64, .f32⟩
  | .hbm, ⟨20, _⟩ => ⟨S1x16384x64, .f32⟩
  | .hbm, ⟨21, _⟩ => ⟨S16384x64, .f32⟩
  | .hbm, ⟨22, _⟩ => ⟨S1x16384x64, .f32⟩
  | .hbm, ⟨23, _⟩ => ⟨S16384x64, .f32⟩
  | .hbm, ⟨24, _⟩ => ⟨S1x16384x64, .f32⟩
  | .hbm, ⟨25, _⟩ => ⟨S16384x64, .f32⟩
  | .hbm, ⟨26, _⟩ => ⟨S1x16384x64, .f32⟩
  | .hbm, ⟨27, _⟩ => ⟨S16384x64, .f32⟩
  | .hbm, ⟨28, _⟩ => ⟨S16384x512, .f32⟩
  | .hbm, ⟨29, _⟩ => ⟨S16384x512, .bf16⟩
  | .hbm, ⟨30, _⟩ => ⟨S16384x256, .f32⟩
  | .hbm, ⟨31, _⟩ => ⟨S128x16x8x2x128, .f32⟩
  | .hbm, ⟨32, _⟩ => ⟨S2x16x128x8x128, .f32⟩
  | .hbm, ⟨33, _⟩ => ⟨S2x16x1024x128, .f32⟩
  | .hbm, ⟨34, _⟩ => ⟨S_, .f32⟩
  | .hbm, ⟨35, _⟩ => ⟨S2x6x6144, .f32⟩
  | .hbm, ⟨36, _⟩ => ⟨S2x8x6144, .f32⟩
  | .hbm, ⟨37, _⟩ => ⟨S2x64x1024, .f32⟩
  | .hbm, ⟨38, _⟩ => ⟨S2x64x1024, .f32⟩
  | .hbm, ⟨39, _⟩ => ⟨S2x64x1024, .f32⟩
  | .hbm, ⟨40, _⟩ => ⟨S2x64x1024, .f32⟩
  | .hbm, ⟨41, _⟩ => ⟨S2x64x1024, .f32⟩
  | .hbm, ⟨42, _⟩ => ⟨S2x64x1024, .f32⟩
  | .hbm, ⟨43, _⟩ => ⟨S2x64x1024, .f32⟩
  | .hbm, ⟨44, _⟩ => ⟨S2x64x1024, .f32⟩
  | .hbm, ⟨45, _⟩ => ⟨S2x512x1024, .f32⟩
  | .hbm, ⟨46, _⟩ => ⟨S2x1024x1024, .f32⟩
  | .hbm, ⟨47, _⟩ => ⟨S2x1024x1024, .bf16⟩
  | .hbm, ⟨48, _⟩ => ⟨S1x1024x5632, .f32⟩
  | .hbm, ⟨49, _⟩ => ⟨S1024x5632, .f32⟩
  | .hbm, ⟨50, _⟩ => ⟨S1024x5632, .bf16⟩
  | .hbm, ⟨51, _⟩ => ⟨S1x2816x1024, .f32⟩
  | .hbm, ⟨52, _⟩ => ⟨S2816x1024, .f32⟩
  | .hbm, ⟨53, _⟩ => ⟨S2816x1024, .bf16⟩
  | .hbm, ⟨54, _⟩ => ⟨S16384x1024, .f32⟩
  | .hbm, ⟨55, _⟩ => ⟨S16384x256, .f32⟩
  | .hbm, ⟨56, _⟩ => ⟨S16384x256, .bf16⟩
  | .hbm, ⟨57, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S2x16x64x128, .f32⟩
  | .local _ .vmem, ⟨5, _⟩ => ⟨S2x16x64x128, .f32⟩
  | .local _ .vmem, ⟨6, _⟩ => ⟨S1024x256, .bf16⟩
  | .local _ .vmem, ⟨7, _⟩ => ⟨S1024x256, .bf16⟩
  | .local _ .vmem, ⟨8, _⟩ => ⟨S1x8x6144, .f32⟩
  | .local _ .vmem, ⟨9, _⟩ => ⟨S1x1024x1024, .bf16⟩
  | .local _ .vmem, ⟨10, _⟩ => ⟨S2x1024, .f32⟩
  | .local _ .vmem, ⟨11, _⟩ => ⟨S2x1024, .f32⟩
  | .local _ .vmem, ⟨12, _⟩ => ⟨S1024x5632, .bf16⟩
  | .local _ .vmem, ⟨13, _⟩ => ⟨S2816x1024, .bf16⟩
  | .local _ .vmem, ⟨14, _⟩ => ⟨S2x1024, .f32⟩
  | .local _ .vmem, ⟨15, _⟩ => ⟨S2x1024, .f32⟩
  | .local _ .vmem, ⟨16, _⟩ => ⟨S1024x1024, .f32⟩
  | .local _ .vmem, ⟨17, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S2x2x6144 : Shape := ⟨3, ![2, 2, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1x6144 : Shape := ⟨3, ![1, 1, 6144]⟩
abbrev S1x6144 : Shape := ⟨2, ![1, 6144]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1024x5632 : Shape := ⟨3, ![1, 1024, 5632]⟩
abbrev S1024x5632 : Shape := ⟨2, ![1024, 5632]⟩
abbrev S1x16384x5632 : Shape := ⟨3, ![1, 16384, 5632]⟩
abbrev S1x16384x2816 : Shape := ⟨3, ![1, 16384, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 152
  | .vmem => 0
  | .smem => 0
  | _ => 0

abbrev hbmTy0_0 (i : Nat) : BufTy := match i % 128 with
  | 0 => ⟨S1x16384x1024, .f32⟩
  | 1 => ⟨S1x16384x512, .f32⟩
  | 2 => ⟨S1x16384x256, .f32⟩
  | 3 => ⟨S1x16384x256, .f32⟩
  | 4 => ⟨S2x2x6144, .f32⟩
  | 5 => ⟨S2x1024x1024, .f32⟩
  | 6 => ⟨S2x1024, .f32⟩
  | 7 => ⟨S2x1024, .f32⟩
  | 8 => ⟨S2x1024x5632, .f32⟩
  | 9 => ⟨S2x2816x1024, .f32⟩
  | 10 => ⟨S2x1024, .f32⟩
  | 11 => ⟨S2x1024, .f32⟩
  | 12 => ⟨S1x1x6144, .f32⟩
  | 13 => ⟨S1x6144, .f32⟩
  | 14 => ⟨S1x1x6144, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x16384x1024, .f32⟩
  | 22 => ⟨S1x1024x1024, .f32⟩
  | 23 => ⟨S1024x1024, .f32⟩
  | 24 => ⟨S1x16384x1024, .f32⟩
  | 25 => ⟨S1x1024, .f32⟩
  | 26 => ⟨S1024, .f32⟩
  | 27 => ⟨S1x1024, .f32⟩
  | 28 => ⟨S1024, .f32⟩
  | 29 => ⟨S_, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x1024, .f32⟩
  | 35 => ⟨S_, .f32⟩
  | 36 => ⟨S1x16384, .f32⟩
  | 37 => ⟨S1x16384x1, .f32⟩
  | 38 => ⟨S_, .f32⟩
  | 39 => ⟨S1x16384x1, .f32⟩
  | 40 => ⟨S1x16384x1, .f32⟩
  | 41 => ⟨S1x16384x1024, .f32⟩
  | 42 => ⟨S1x16384x1024, .f32⟩
  | 43 => ⟨S1x16384x1024, .f32⟩
  | 44 => ⟨S_, .f32⟩
  | 45 => ⟨S1x16384, .f32⟩
  | 46 => ⟨S1x16384x1, .f32⟩
  | 47 => ⟨S_, .f32⟩
  | 48 => ⟨S1x16384x1, .f32⟩
  | 49 => ⟨S1x16384x1, .f32⟩
  | 50 => ⟨S1x16384x1024, .f32⟩
  | 51 => ⟨S1x16384x1024, .f32⟩
  | 52 => ⟨S_, .f32⟩
  | 53 => ⟨S1x16384x1, .f32⟩
  | 54 => ⟨S1x16384x1, .f32⟩
  | 55 => ⟨S1x16384x1, .f32⟩
  | 56 => ⟨S1x16384x1024, .f32⟩
  | 57 => ⟨S1x16384x1024, .f32⟩
  | 58 => ⟨S1x1x1024, .f32⟩
  | 59 => ⟨S1x16384x1024, .f32⟩
  | 60 => ⟨S1x16384x1024, .f32⟩
  | 61 => ⟨S1x1x1024, .f32⟩
  | 62 => ⟨S1x16384x1024, .f32⟩
  | 63 => ⟨S1x16384x1024, .f32⟩
  | 64 => ⟨S_, .f32⟩
  | 65 => ⟨S1x16384, .f32⟩
  | 66 => ⟨S1x16384x1, .f32⟩
  | 67 => ⟨S_, .f32⟩
  | 68 => ⟨S1x16384x1, .f32⟩
  | 69 => ⟨S1x16384x1, .f32⟩
  | 70 => ⟨S1x16384x1024, .f32⟩
  | 71 => ⟨S1x16384x1024, .f32⟩
  | 72 => ⟨S1x16384x1024, .f32⟩
  | 73 => ⟨S_, .f32⟩
  | 74 => ⟨S1x16384, .f32⟩
  | 75 => ⟨S1x16384x1, .f32⟩
  | 76 => ⟨S_, .f32⟩
  | 77 => ⟨S1x16384x1, .f32⟩
  | 78 => ⟨S1x16384x1, .f32⟩
  | 79 => ⟨S1x16384x1024, .f32⟩
  | 80 => ⟨S1x16384x1024, .f32⟩
  | 81 => ⟨S_, .f32⟩
  | 82 => ⟨S1x16384x1, .f32⟩
  | 83 => ⟨S1x16384x1, .f32⟩
  | 84 => ⟨S1x16384x1, .f32⟩
  | 85 => ⟨S1x16384x1024, .f32⟩
  | 86 => ⟨S1x16384x1024, .f32⟩
  | 87 => ⟨S_, .f32⟩
  | 88 => ⟨S1x1x1024, .f32⟩
  | 89 => ⟨S1x1x1024, .f32⟩
  | 90 => ⟨S1x16384x1024, .f32⟩
  | 91 => ⟨S1x16384x1024, .f32⟩
  | 92 => ⟨S1x16384x1024, .f32⟩
  | 93 => ⟨S1x16384x1024, .f32⟩
  | 94 => ⟨S1x1024x5632, .f32⟩
  | 95 => ⟨S1024x5632, .f32⟩
  | 96 => ⟨S1x16384x5632, .f32⟩
  | 97 => ⟨S1x16384x2816, .f32⟩
  | 98 => ⟨S1x16384x2816, .f32⟩
  | 99 => ⟨S1x16384x2816, .f32⟩
  | 100 => ⟨S1x16384x2816, .f32⟩
  | 101 => ⟨S_, .f32⟩
  | 102 => ⟨S1x16384x2816, .f32⟩
  | 103 => ⟨S1x16384x2816, .f32⟩
  | 104 => ⟨S_, .f32⟩
  | 105 => ⟨S1x16384x2816, .f32⟩
  | 106 => ⟨S1x16384x2816, .f32⟩
  | 107 => ⟨S1x16384x2816, .f32⟩
  | 108 => ⟨S1x16384x2816, .f32⟩
  | 109 => ⟨S1x2816x1024, .f32⟩
  | 110 => ⟨S2816x1024, .f32⟩
  | 111 => ⟨S1x16384x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S1x16384x1024, .f32⟩
  | 118 => ⟨S1x16384x1024, .f32⟩
  | 119 => ⟨S1x16384x1024, .f32⟩
  | 120 => ⟨S1x16384x1024, .f32⟩
  | 121 => ⟨S1x16384x1024, .f32⟩
  | 122 => ⟨S_, .f32⟩
  | 123 => ⟨S1x16384, .f32⟩
  | 124 => ⟨S1x16384x1, .f32⟩
  | 125 => ⟨S_, .f32⟩
  | 126 => ⟨S1x16384x1, .f32⟩
  | 127 => ⟨S1x16384x1, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S1x16384x1024, .f32⟩
  | 3 => ⟨S_, .f32⟩
  | 4 => ⟨S1x16384, .f32⟩
  | 5 => ⟨S1x16384x1, .f32⟩
  | 6 => ⟨S_, .f32⟩
  | 7 => ⟨S1x16384x1, .f32⟩
  | 8 => ⟨S1x16384x1, .f32⟩
  | 9 => ⟨S1x16384x1024, .f32⟩
  | 10 => ⟨S1x16384x1024, .f32⟩
  | 11 => ⟨S_, .f32⟩
  | 12 => ⟨S1x16384x1, .f32⟩
  | 13 => ⟨S1x16384x1, .f32⟩
  | 14 => ⟨S1x16384x1, .f32⟩
  | 15 => ⟨S1x16384x1024, .f32⟩
  | 16 => ⟨S1x16384x1024, .f32⟩
  | 17 => ⟨S1x1x1024, .f32⟩
  | 18 => ⟨S1x16384x1024, .f32⟩
  | 19 => ⟨S1x16384x1024, .f32⟩
  | 20 => ⟨S1x1x1024, .f32⟩
  | 21 => ⟨S1x16384x1024, .f32⟩
  | 22 => ⟨S1x16384x1024, .f32⟩
  | 23 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_14 : Ref sig .tc := ⟨.hbm, 131, rfl⟩
abbrev main_v96 : Ref sig .tc := ⟨.hbm, 132, rfl⟩
abbrev main_v97 : Ref sig .tc := ⟨.hbm, 133, rfl⟩
abbrev main_cst_15 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]
-- ==== Kernel5.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S2x1024x5632 : Shape := ⟨3, ![2, 1024, 5632]⟩
abbrev S2x2816x1024 : Shape := ⟨3, ![2, 2816, 1024]⟩
abbrev S1x16384x64 : Shape := ⟨3, ![1, 16384, 64]⟩
abbrev S16384x64 : Shape := ⟨2, ![16384, 64]⟩
abbrev S16384x512 : Shape := ⟨2, ![16384, 512]⟩
abbrev S_ : Shape := ⟨0, ![]⟩
abbrev S256x128 : Shape := ⟨2, ![256, 128]⟩
abbrev S1x128 : Shape := ⟨2, ![1, 128]⟩
abbrev S2x256x128 : Shape := ⟨3, ![2, 256, 128]⟩
abbrev S256x256 : Shape := ⟨2, ![256, 256]⟩
abbrev S1x256x256 : Shape := ⟨3, ![1, 256, 256]⟩
abbrev S2x256x256 : Shape := ⟨3, ![2, 256, 256]⟩
abbrev S2x8x1 : Shape := ⟨3, ![2, 8, 1]⟩
abbrev S2x8x128 : Shape := ⟨3, ![2, 8, 128]⟩
abbrev S16384x128 : Shape := ⟨2, ![16384, 128]⟩
abbrev S1024x5632 : Shape := ⟨2, ![1024, 5632]⟩
abbrev S2816x1024 : Shape := ⟨2, ![2816, 1024]⟩
abbrev S2048x512 : Shape := ⟨2, ![2048, 512]⟩
abbrev S1x8x128 : Shape := ⟨3, ![1, 8, 128]⟩
abbrev S1x128x5632 : Shape := ⟨3, ![1, 128, 5632]⟩
abbrev S1x352x1024 : Shape := ⟨3, ![1, 352, 1024]⟩
abbrev S128x5632 : Shape := ⟨2, ![128, 5632]⟩
abbrev S352x1024 : Shape := ⟨2, ![352, 1024]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S384x128 : Shape := ⟨2, ![384, 128]⟩
abbrev S384x256 : Shape := ⟨2, ![384, 256]⟩
abbrev S1280x128 : Shape := ⟨2, ![1280, 128]⟩
abbrev S1280x256 : Shape := ⟨2, ![1280, 256]⟩
abbrev S128x512 : Shape := ⟨2, ![128, 512]⟩
abbrev S128x128 : Shape := ⟨2, ![128, 128]⟩
abbrev S512x128 : Shape := ⟨2, ![512, 128]⟩
abbrev S512x1280 : Shape := ⟨2, ![512, 1280]⟩
abbrev S128x384 : Shape := ⟨2, ![128, 384]⟩
abbrev S512x384 : Shape := ⟨2, ![512, 384]⟩
abbrev S512x256 : Shape := ⟨2, ![512, 256]⟩
abbrev S512x640 : Shape := ⟨2, ![512, 640]⟩
abbrev S512 : Shape := ⟨1, ![512]⟩
abbrev S1x32x5632 : Shape := ⟨3, ![1, 32, 5632]⟩
abbrev S32x5632 : Shape := ⟨2, ![32, 5632]⟩
abbrev S1x80x1024 : Shape := ⟨3, ![1, 80, 1024]⟩
abbrev S80x1024 : Shape := ⟨2, ![80, 1024]⟩
abbrev S1x32x1024 : Shape := ⟨3, ![1, 32, 1024]⟩
abbrev S32x1024 : Shape := ⟨2, ![32, 1024]⟩

abbrev nBuf : Space → Nat
  | .hbm => 93
  | .vmem => 17
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S1x256x128, .f32⟩
  | .hbm, ⟨4, _⟩ => ⟨S1x256x128, .f32⟩
  | .hbm, ⟨5, _⟩ => ⟨S2x8, .f32⟩
  | .hbm, ⟨6, _⟩ => ⟨S2x1024x5632, .f32⟩
  | .hbm, ⟨7, _⟩ => ⟨S2x2816x1024, .f32⟩
  | .hbm, ⟨8, _⟩ => ⟨S1x16384x64, .f32⟩
  | .hbm, ⟨9, _⟩ => ⟨S16384x64, .f32⟩
  | .hbm, ⟨10, _⟩ => ⟨S1x16384x64, .f32⟩
  | .hbm, ⟨11, _⟩ => ⟨S16384x64, .f32⟩
  | .hbm, ⟨12, _⟩ => ⟨S1x16384x64, .f32⟩
  | .hbm, ⟨13, _⟩ => ⟨S16384x64, .f32⟩
  | .hbm, ⟨14, _⟩ => ⟨S1x16384x64, .f32⟩
  | .hbm, ⟨15, _⟩ => ⟨S16384x64, .f32⟩
  | .hbm, ⟨16, _⟩ => ⟨S1x16384x64, .f32⟩
  | .hbm, ⟨17, _⟩ => ⟨S16384x64, .f32⟩
  | .hbm, ⟨18, _⟩ => ⟨S1x16384x64, .f32⟩
  | .hbm, ⟨19, _⟩ => ⟨S16384x64, .f32⟩
  | .hbm, ⟨20, _⟩ => ⟨S1x16384x64, .f32⟩
  | .hbm, ⟨21, _⟩ => ⟨S16384x64, .f32⟩
  | .hbm, ⟨22, _⟩ => ⟨S1x16384x64, .f32⟩
  | .hbm, ⟨23, _⟩ => ⟨S16384x64, .f32⟩
  | .hbm, ⟨24, _⟩ => ⟨S16384x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .bf16⟩
  | .hbm, ⟨34, _⟩ => ⟨S256x128, .f32⟩
  | .hbm, ⟨35, _⟩ => ⟨S256x128, .bf16⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i1⟩
  | .hbm, ⟨40, _⟩ => ⟨S_, .bf16⟩
  | .hbm, ⟨41, _⟩ => ⟨S256x128, .bf16⟩
  | .hbm, ⟨42, _⟩ => ⟨S256x128, .i1⟩
  | .hbm, ⟨43, _⟩ => ⟨S256x128, .bf16⟩
  | .hbm, ⟨44, _⟩ => ⟨S256x128, .i1⟩
  | .hbm, ⟨45, _⟩ => ⟨S256x128, .bf16⟩
  | .hbm, ⟨46, _⟩ => ⟨S1x256x128, .bf16⟩
  | .hbm, ⟨47, _⟩ => ⟨S1x256x128, .bf16⟩
  | .hbm, ⟨48, _⟩ => ⟨S2x256x128, .bf16⟩
  | .hbm, ⟨49, _⟩ => ⟨S256x128, .f32⟩
  | .hbm, ⟨50, _⟩ => ⟨S256x128, .bf16⟩
  | .hbm, ⟨51, _⟩ => ⟨S1x128, .i32⟩
  | .hbm, ⟨52, _⟩ => ⟨S_, .i32⟩
  | .hbm, ⟨53, _⟩ => ⟨S1x128, .i32⟩
  | .hbm, ⟨54, _⟩ => ⟨S1x128, .i1⟩
  | .hbm, ⟨55, _⟩ => ⟨S_, .bf16⟩
  | .hbm, ⟨56, _⟩ => ⟨S256x128, .bf16⟩
  | .hbm, ⟨57, _⟩ => ⟨S256x128, .i1⟩
  | .hbm, ⟨58, _⟩ => ⟨S256x128, .bf16⟩
  | .hbm, ⟨59, _⟩ => ⟨S256x128, .i1⟩
  | .hbm, ⟨60, _⟩ => ⟨S256x128, .bf16⟩
  | .hbm, ⟨61, _⟩ => ⟨S1x128, .i32⟩
  | .hbm, ⟨62, _⟩ => ⟨S_, .i32⟩
  | .hbm, ⟨63, _⟩ => ⟨S1x128, .i32⟩
  | .hbm, ⟨64, _⟩ => ⟨S1x128, .i1⟩
  | .hbm, ⟨65, _⟩ => ⟨S_, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S256x128, .f32⟩
  | .hbm, ⟨71, _⟩ => ⟨S256x128, .bf16⟩
  | .hbm, ⟨72, _⟩ => ⟨S256x256, .bf16⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S256x128, .f32⟩
  | .hbm, ⟨77, _⟩ => ⟨S256x128, .bf16⟩
  | .hbm, ⟨78, _⟩ => ⟨S256x256, .bf16⟩
  | .hbm, ⟨79, _⟩ => ⟨S1x256x256, .bf16⟩
  | .hbm, ⟨80, _⟩ => ⟨S1x256x256, .bf16⟩
  | .hbm, ⟨81, _⟩ => ⟨S2x256x256, .bf16⟩
  | .hbm, ⟨82, _⟩ => ⟨S2x8, .f32⟩
  | .hbm, ⟨83, _⟩ => ⟨S2x8, .f32⟩
  | .hbm, ⟨84, _⟩ => ⟨S2x8x1, .f32⟩
  | .hbm, ⟨85, _⟩ => ⟨S2x8x128, .f32⟩
  | .hbm, ⟨86, _⟩ => ⟨S16384x128, .f32⟩
  | .hbm, ⟨87, _⟩ => ⟨S16384x128, .bf16⟩
  | .hbm, ⟨88, _⟩ => ⟨S16384x128, .f32⟩
  | .hbm, ⟨89, _⟩ => ⟨S16384x128, .bf16⟩
  | .hbm, ⟨90, _⟩ => ⟨S16384x512, .bf16⟩
  | .hbm, ⟨91, _⟩ => ⟨S1024x5632, .bf16⟩
  | .hbm, ⟨92, _⟩ => ⟨S2816x1024, .bf16⟩
  | .local _ .vmem, ⟨0, _⟩ => ⟨S2048x512, .bf16⟩
  | .local _ .vmem, ⟨1, _⟩ => ⟨S2048x512, .bf16⟩
  | .local _ .vmem, ⟨2, _⟩ => ⟨S16384x128, .bf16⟩
  | .local _ .vmem, ⟨3, _⟩ => ⟨S16384x128, .bf16⟩
  | .local _ .vmem, ⟨4, _⟩ => ⟨S2x256x128, .bf16⟩
  | .local _ .vmem, ⟨5, _⟩ => ⟨S2x256x256, .bf16⟩
  | .local _ .vmem, ⟨6, _⟩ => ⟨S1x8x128, .f32⟩
  | .local _ .vmem, ⟨7, _⟩ => ⟨S1x128x5632, .f32⟩
  | .local _ .vmem, ⟨8, _⟩ => ⟨S1x128x5632, .f32⟩
  | .local _ .vmem, ⟨9, _⟩ => ⟨S1x352x1024, .f32⟩
  | .local _ .vmem, ⟨10, _⟩ => ⟨S1x352x1024, .f32⟩
  | .local _ .vmem, ⟨11, _⟩ => ⟨S2048x512, .bf16⟩
  | .local _ .vmem, ⟨12, _⟩ => ⟨S2048x512, .bf16⟩
  | .local _ .vmem, ⟨13, _⟩ => ⟨S128x5632, .bf16⟩
  | .local _ .vmem, ⟨14, _⟩ => ⟨S128x5632, .bf16⟩
  | .local _ .vmem, ⟨15, _⟩ => ⟨S352x1024, .bf16⟩
  | .local _ .vmem, ⟨16, _⟩ => ⟨S352x1024, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_call0_v0 : Ref sig .tc := ⟨.hbm, 42, rfl⟩
abbrev main_v29 : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_call2_v0 : Ref sig .tc := ⟨.hbm, 57, rfl⟩
abbrev main_v40 : Ref sig .tc := ⟨.hbm, 58, rfl⟩
abbrev main_call3_v0 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_cst_7 : Ref sig .tc := ⟨.hbm, 66, rfl⟩
abbrev main_call4_v0 : Ref sig .tc := ⟨.hbm, 67, rfl⟩
abbrev main_call4_v1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65_0 : Ref sig .tc := ⟨.hbm, 90, rfl⟩
abbrev main_v65_1 : Ref sig .tc := ⟨.hbm, 91, rfl⟩
abbrev main_v65_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c16000_i32 : BitVec 32 := 16000#32
  let c0_i32_32 : BitVec 32 := 0#32
  let arg0 : BitVec 32 := BitVec.ofNat 32 (i 0).val
  let c16_i32 : BitVec 32 := 16#32
  let v34 : BitVec 32 := Scalar.muli arg0 c16_i32
  let c0_i32 : BitVec 32 := 0#32
  let v35 : BitVec 32 := Scalar.addi v34 c0_i32
  let c1_i32_31 : BitVec 32 := 1#32
  let v66 : BitVec 32 := Scalar.subi v35 c1_i32_31
  let c128_i32 : BitVec 32 := 128#32
  let v67 : BitVec 32 := Scalar.muli v66 c128_i32
  let v68 : BitVec 32 := Scalar.maxsi c0_i32_32 v67
  let v69 : BitVec 32 := Scalar.minsi c16000_i32 v68
  v69
def k0_off1 (i : grid0.Coords) (c0_i32 : BitVec 32) : Fin 2 → Nat :=
  let c16000_i32 : BitVec 32 := 16000#32
  let c0_i32_32 : BitVec 32 := 0#32
  let arg0 : BitVec 32 := BitVec.ofNat 32 (i 0).val
  let c16_i32 : BitVec 32 := 16#32
  let v34 : BitVec 32 := Scalar.muli arg0 c16_i32
  let v35 : BitVec 32 := Scalar.addi v34 c0_i32
  let c1_i32_31 : BitVec 32 := 1#32
  let v66 : BitVec 32 := Scalar.subi v35 c1_i32_31
  let c128_i32 : BitVec 32 := 128#32
  let v67 : BitVec 32 := Scalar.muli v66 c128_i32
  let v68 : BitVec 32 := Scalar.maxsi c0_i32_32 v67
  let v69 : BitVec 32 := Scalar.minsi c16000_i32 v68
  let v70 : BitVec 32 := v69
  let v71 : Index := Scalar.indexCast v70
  let c0_33 : Index := 0#32
  ![v71.toNat, 0]
def k0_mult2 (i : grid0.Coords) : BitVec 32 :=
  let c16000_i32_59 : BitVec 32 := 16000#32
  let c0_i32_58 : BitVec 32 := 0#32
  let arg0 : BitVec 32 := BitVec.ofNat 32 (i 0).val
  let c16_i32_16 : BitVec 32 := 16#32
  let v36 : BitVec 32 := Scalar.muli arg0 c16_i32_16
  let c1_i32 : BitVec 32 := 1#32
  let v37 : BitVec 32 := Scalar.addi v36 c1_i32
  let c1_i32_56 : BitVec 32 := 1#32
  let v131 : BitVec 32 := Scalar.subi v37 c1_i32_56
  let c128_i32_57 : BitVec 32 := 128#32
  let v132 : BitVec 32 := Scalar.muli v131 c128_i32_57
  let v133 : BitVec 32 := Scalar.maxsi c0_i32_58 v132
  let v134 : BitVec 32 := Scalar.minsi c16000_i32_59 v133
  v134
def k0_mult3 (i : grid0.Coords) : BitVec 32 :=
  let c16000_i32_93 : BitVec 32 := 16000#32
  let c0_i32_92 : BitVec 32 := 0#32
  let arg0 : BitVec 32 := BitVec.ofNat 32 (i 0).val
  let c16_i32_17 : BitVec 32 := 16#32
  let v38 : BitVec 32 := Scalar.muli arg0 c16_i32_17
  let c2_i32 : BitVec 32 := 2#32
  let v39 : BitVec 32 := Scalar.addi v38 c2_i32
  let c1_i32_90 : BitVec 32 := 1#32
  let v236 : BitVec 32 := Scalar.subi v39 c1_i32_90
  let c128_i32_91 : BitVec 32 := 128#32
  let v237 : BitVec 32 := Scalar.muli v236 c128_i32_91
  let v238 : BitVec 32 := Scalar.maxsi c0_i32_92 v237
  let v239 : BitVec 32 := Scalar.minsi c16000_i32_93 v238
  v239
def k0_mult4 (i : grid0.Coords) : BitVec 32 :=
  let c16000_i32_128 : BitVec 32 := 16000#32
  let c0_i32_127 : BitVec 32 := 0#32
  let arg0 : BitVec 32 := BitVec.ofNat 32 (i 0).val
  let c16_i32_18 : BitVec 32 := 16#32
  let v40 : BitVec 32 := Scalar.muli arg0 c16_i32_18
  let c3_i32 : BitVec 32 := 3#32
  let v41 : BitVec 32 := Scalar.addi v40 c3_i32
  let c1_i32_125 : BitVec 32 := 1#32
  let v342 : BitVec 32 := Scalar.subi v41 c1_i32_125
  let c128_i32_126 : BitVec 32 := 128#32
  let v343 : BitVec 32 := Scalar.muli v342 c128_i32_126
  let v344 : BitVec 32 := Scalar.maxsi c0_i32_127 v343
  let v345 : BitVec 32 := Scalar.minsi c16000_i32_128 v344
  v345
def k0_mult5 (i : grid0.Coords) : BitVec 32 :=
  let c16000_i32_172 : BitVec 32 := 16000#32
  let c0_i32_171 : BitVec 32 := 0#32
  let arg0 : BitVec 32 := BitVec.ofNat 32 (i 0).val
  let c16_i32_19 : BitVec 32 := 16#32
  let v42 : BitVec 32 := Scalar.muli arg0 c16_i32_19
  let c4_i32 : BitVec 32 := 4#32
  let v43 : BitVec 32 := Scalar.addi v42 c4_i32
  let c1_i32_169 : BitVec 32 := 1#32
  let v471 : BitVec 32 := Scalar.subi v43 c1_i32_169
  let c128_i32_170 : BitVec 32 := 128#32
  let v472 : BitVec 32 := Scalar.muli v471 c128_i32_170
  let v473 : BitVec 32 := Scalar.maxsi c0_i32_171 v472
  let v474 : BitVec 32 := Scalar.minsi c16000_i32_172 v473
  v474
def k0_mult6 (i : grid0.Coords) : BitVec 32 :=
  let c16000_i32_216 : BitVec 32 := 16000#32
  let c0_i32_215 : BitVec 32 := 0#32
  let arg0 : BitVec 32 := BitVec.ofNat 32 (i 0).val
  let c16_i32_20 : BitVec 32 := 16#32
  let v44 : BitVec 32 := Scalar.muli arg0 c16_i32_20
  let c5_i32 : BitVec 32 := 5#32
  let v45 : BitVec 32 := Scalar.addi v44 c5_i32
  let c1_i32_213 : BitVec 32 := 1#32
  let v600 : BitVec 32 := Scalar.subi v45 c1_i32_213
  let c128_i32_214 : BitVec 32 := 128#32
  let v601 : BitVec 32 := Scalar.muli v600 c128_i32_214
  let v602 : BitVec 32 := Scalar.maxsi c0_i32_215 v601
  let v603 : BitVec 32 := Scalar.minsi c16000_i32_216 v602
  v603
def k0_mult7 (i : grid0.Coords) : BitVec 32 :=
  let c16000_i32_260 : BitVec 32 := 16000#32
  let c0_i32_259 : BitVec 32 := 0#32
  let arg0 : BitVec 32 := BitVec.ofNat 32 (i 0).val
  let c16_i32_21 : BitVec 32 := 16#32
  let v46 : BitVec 32 := Scalar.muli arg0 c16_i32_21
  let c6_i32 : BitVec 32 := 6#32
  let v47 : BitVec 32 := Scalar.addi v46 c6_i32
  let c1_i32_257 : BitVec 32 := 1#32
  let v729 : BitVec 32 := Scalar.subi v47 c1_i32_257
  let c128_i32_258 : BitVec 32 := 128#32
  let v730 : BitVec 32 := Scalar.muli v729 c128_i32_258
  let v731 : BitVec 32 := Scalar.maxsi c0_i32_259 v730
  let v732 : BitVec 32 := Scalar.minsi c16000_i32_260 v731
  v732
def k0_mult8 (i : grid0.Coords) : BitVec 32 :=
  let c16000_i32_304 : BitVec 32 := 16000#32
  let c0_i32_303 : BitVec 32 := 0#32
  let arg0 : BitVec 32 := BitVec.ofNat 32 (i 0).val
  let c16_i32_22 : BitVec 32 := 16#32
  let v48 : BitVec 32 := Scalar.muli arg0 c16_i32_22
  let c7_i32 : BitVec 32 := 7#32
  let v49 : BitVec 32 := Scalar.addi v48 c7_i32
  let c1_i32_301 : BitVec 32 := 1#32
  let v858 : BitVec 32 := Scalar.subi v49 c1_i32_301
  let c128_i32_302 : BitVec 32 := 128#32
  let v859 : BitVec 32 := Scalar.muli v858 c128_i32_302
  let v860 : BitVec 32 := Scalar.maxsi c0_i32_303 v859
  let v861 : BitVec 32 := Scalar.minsi c16000_i32_304 v860
  v861
def k0_mult9 (i : grid0.Coords) : BitVec 32 :=
  let c16000_i32_348 : BitVec 32 := 16000#32
  let c0_i32_347 : BitVec 32 := 0#32
  let arg0 : BitVec 32 := BitVec.ofNat 32 (i 0).val
  let c16_i32_23 : BitVec 32 := 16#32
  let v50 : BitVec 32 := Scalar.muli arg0 c16_i32_23
  let c8_i32 : BitVec 32 := 8#32
  let v51 : BitVec 32 := Scalar.addi v50 c8_i32
  let c1_i32_345 : BitVec 32 := 1#32
  let v987 : BitVec 32 := Scalar.subi v51 c1_i32_345
  let c128_i32_346 : BitVec 32 := 128#32
  let v988 : BitVec 32 := Scalar.muli v987 c128_i32_346
  let v989 : BitVec 32 := Scalar.maxsi c0_i32_347 v988
  let v990 : BitVec 32 := Scalar.minsi c16000_i32_348 v989
  v990
def k0_mult10 (i : grid0.Coords) : BitVec 32 :=
  let c16000_i32_392 : BitVec 32 := 16000#32
  let c0_i32_391 : BitVec 32 := 0#32
  let arg0 : BitVec 32 := BitVec.ofNat 32 (i 0).val
  let c16_i32_24 : BitVec 32 := 16#32
  let v52 : BitVec 32 := Scalar.muli arg0 c16_i32_24
  let c9_i32 : BitVec 32 := 9#32
  let v53 : BitVec 32 := Scalar.addi v52 c9_i32
  let c1_i32_389 : BitVec 32 := 1#32
  let v1116 : BitVec 32 := Scalar.subi v53 c1_i32_389
  let c128_i32_390 : BitVec 32 := 128#32
  let v1117 : BitVec 32 := Scalar.muli v1116 c128_i32_390
  let v1118 : BitVec 32 := Scalar.maxsi c0_i32_391 v1117
  let v1119 : BitVec 32 := Scalar.minsi c16000_i32_392 v1118
  v1119
def k0_mult11 (i : grid0.Coords) : BitVec 32 :=
  let c16000_i32_436 : BitVec 32 := 16000#32
  let c0_i32_435 : BitVec 32 := 0#32
  let arg0 : BitVec 32 := BitVec.ofNat 32 (i 0).val
  let c16_i32_25 : BitVec 32 := 16#32
  let v54 : BitVec 32 := Scalar.muli arg0 c16_i32_25
  let c10_i32 : BitVec 32 := 10#32
  let v55 : BitVec 32 := Scalar.addi v54 c10_i32
  let c1_i32_433 : BitVec 32 := 1#32
  let v1245 : BitVec 32 := Scalar.subi v55 c1_i32_433
  let c128_i32_434 : BitVec 32 := 128#32
  let v1246 : BitVec 32 := Scalar.muli v1245 c128_i32_434
  let v1247 : BitVec 32 := Scalar.maxsi c0_i32_435 v1246
  let v1248 : BitVec 32 := Scalar.minsi c16000_i32_436 v1247
  v1248
def k0_mult12 (i : grid0.Coords) : BitVec 32 :=
  let c16000_i32_480 : BitVec 32 := 16000#32
  let c0_i32_479 : BitVec 32 := 0#32
  let arg0 : BitVec 32 := BitVec.ofNat 32 (i 0).val
  let c16_i32_26 : BitVec 32 := 16#32
  let v56 : BitVec 32 := Scalar.muli arg0 c16_i32_26
  let c11_i32 : BitVec 32 := 11#32
  let v57 : BitVec 32 := Scalar.addi v56 c11_i32
  let c1_i32_477 : BitVec 32 := 1#32
  let v1374 : BitVec 32 := Scalar.subi v57 c1_i32_477
  let c128_i32_478 : BitVec 32 := 128#32
  let v1375 : BitVec 32 := Scalar.muli v1374 c128_i32_478
  let v1376 : BitVec 32 := Scalar.maxsi c0_i32_479 v1375
  let v1377 : BitVec 32 := Scalar.minsi c16000_i32_480 v1376
  v1377
def k0_mult13 (i : grid0.Coords) : BitVec 32 :=
  let c16000_i32_524 : BitVec 32 := 16000#32
  let c0_i32_523 : BitVec 32 := 0#32
  let arg0 : BitVec 32 := BitVec.ofNat 32 (i 0).val
  let c16_i32_27 : BitVec 32 := 16#32
  let v58 : BitVec 32 := Scalar.muli arg0 c16_i32_27
  let c12_i32 : BitVec 32 := 12#32
  let v59 : BitVec 32 := Scalar.addi v58 c12_i32
  let c1_i32_521 : BitVec 32 := 1#32
  let v1503 : BitVec 32 := Scalar.subi v59 c1_i32_521
  let c128_i32_522 : BitVec 32 := 128#32
  let v1504 : BitVec 32 := Scalar.muli v1503 c128_i32_522
  let v1505 : BitVec 32 := Scalar.maxsi c0_i32_523 v1504
  let v1506 : BitVec 32 := Scalar.minsi c16000_i32_524 v1505
  v1506
def k0_mult14 (i : grid0.Coords) : BitVec 32 :=
  let c16000_i32_568 : BitVec 32 := 16000#32
  let c0_i32_567 : BitVec 32 := 0#32
  let arg0 : BitVec 32 := BitVec.ofNat 32 (i 0).val
  let c16_i32_28 : BitVec 32 := 16#32
  let v60 : BitVec 32 := Scalar.muli arg0 c16_i32_28
  let c13_i32 : BitVec 32 := 13#32
  let v61 : BitVec 32 := Scalar.addi v60 c13_i32
  let c1_i32_565 : BitVec 32 := 1#32
  let v1632 : BitVec 32 := Scalar.subi v61 c1_i32_565
  let c128_i32_566 : BitVec 32 := 128#32
  let v1633 : BitVec 32 := Scalar.muli v1632 c128_i32_566
  let v1634 : BitVec 32 := Scalar.maxsi c0_i32_567 v1633
  let v1635 : BitVec 32 := Scalar.minsi c16000_i32_568 v1634
  v1635
def k0_mult15 (i : grid0.Coords) : BitVec 32 :=
  let c16000_i32_612 : BitVec 32 := 16000#32
  let c0_i32_611 : BitVec 32 := 0#32
  let arg0 : BitVec 32 := BitVec.ofNat 32 (i 0).val
  let c16_i32_29 : BitVec 32 := 16#32
  let v62 : BitVec 32 := Scalar.muli arg0 c16_i32_29
  let c14_i32 : BitVec 32 := 14#32
  let v63 : BitVec 32 := Scalar.addi v62 c14_i32
  let c1_i32_609 : BitVec 32 := 1#32
  let v1761 : BitVec 32 := Scalar.subi v63 c1_i32_609
  let c128_i32_610 : BitVec 32 := 128#32
  let v1762 : BitVec 32 := Scalar.muli v1761 c128_i32_610
  let v1763 : BitVec 32 := Scalar.maxsi c0_i32_611 v1762
  let v1764 : BitVec 32 := Scalar.minsi c16000_i32_612 v1763
  v1764
def k0_mult16 (i : grid0.Coords) : BitVec 32 :=
  let c16000_i32_656 : BitVec 32 := 16000#32
  let c0_i32_655 : BitVec 32 := 0#32
  let arg0 : BitVec 32 := BitVec.ofNat 32 (i 0).val
  let c16_i32_30 : BitVec 32 := 16#32
  let v64 : BitVec 32 := Scalar.muli arg0 c16_i32_30
  let c15_i32 : BitVec 32 := 15#32
  let v65 : BitVec 32 := Scalar.addi v64 c15_i32
  let c1_i32_653 : BitVec 32 := 1#32
  let v1890 : BitVec 32 := Scalar.subi v65 c1_i32_653
  let c128_i32_654 : BitVec 32 := 128#32
  let v1891 : BitVec 32 := Scalar.muli v1890 c128_i32_654
  let v1892 : BitVec 32 := Scalar.maxsi c0_i32_655 v1891
  let v1893 : BitVec 32 := Scalar.minsi c16000_i32_656 v1892
  v1893
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S1x16384x512 : Shape := ⟨3, ![1, 16384, 512]⟩
abbrev S1x16384x128 : Shape := ⟨3, ![1, 16384, 128]⟩
abbrev S1x256x128 : Shape := ⟨3, ![1, 256, 128]⟩
abbrev S2x8 : Shape := ⟨2, ![2, 8]⟩
abbrev S2x1024x5632 : Shape := ⟨3, ![2, 1024, 5632]⟩
abbrev S2x2816x1024 : Shape := ⟨3, ![2, 2816, 1024]⟩
abbrev S1x8 : Shape := ⟨2, ![1, 8]⟩
abbrev S8 : Shape := ⟨1, ![8]⟩
abbrev S1x16384x8x64 : Shape := ⟨4, ![1, 16384, 8, 64]⟩
abbrev S1x16384x2x64 : Shape := ⟨4, ![1, 16384, 2, 64]⟩
abbrev S1x256x2x64 : Shape := ⟨4, ![1, 256, 2, 64]⟩
abbrev S1x128x128x2x4x64 : Shape := ⟨6, ![1, 128, 128, 2, 4, 64]⟩
abbrev S_ : Shape := ⟨0, ![]⟩
abbrev S1x16640x2x64 : Shape := ⟨4, ![1, 16640, 2, 64]⟩
abbrev S1x128x128x2x64 : Shape := ⟨5, ![1, 128, 128, 2, 64]⟩
abbrev S1x128x384x2x64 : Shape := ⟨5, ![1, 128, 384, 2, 64]⟩
abbrev S1x2x128x384x128x4 : Shape := ⟨6, ![1, 2, 128, 384, 128, 4]⟩
abbrev S1x2x4x128x128x384 : Shape := ⟨6, ![1, 2, 4, 128, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x1x1 : Shape := ⟨3, ![128, 1, 1]⟩
abbrev S1x1x384 : Shape := ⟨3, ![1, 1, 384]⟩
abbrev S128x1x384 : Shape := ⟨3, ![128, 1, 384]⟩
abbrev S128x384 : Shape := ⟨2, ![128, 384]⟩
abbrev S1x128x384 : Shape := ⟨3, ![1, 128, 384]⟩
abbrev S128x128x384 : Shape := ⟨3, ![128, 128, 384]⟩
abbrev S1x2x256x128x128x4 : Shape := ⟨6, ![1, 2, 256, 128, 128, 4]⟩
abbrev S1x2x4x128x128x256 : Shape := ⟨6, ![1, 2, 4, 128, 128, 256]⟩
abbrev S1x2x4x1x1x1 : Shape := ⟨6, ![1, 2, 4, 1, 1, 1]⟩
abbrev S1x2x4x128x128x1 : Shape := ⟨6, ![1, 2, 4, 128, 128, 1]⟩
abbrev S1x2x4x128x128x641 : Shape := ⟨6, ![1, 2, 4, 128, 128, 641]⟩
abbrev S1x2x4x128x128 : Shape := ⟨5, ![1, 2, 4, 128, 128]⟩
abbrev S1x128x2x64x4x128 : Shape := ⟨6, ![1, 128, 2, 64, 4, 128]⟩
abbrev S1x2x64x4x128x128 : Shape := ⟨6, ![1, 2, 64, 4, 128, 128]⟩
abbrev S128x128x2x4x64 : Shape := ⟨5, ![128, 128, 2, 4, 64]⟩
abbrev S128x128x4x2x64 : Shape := ⟨5, ![128, 128, 4, 2, 64]⟩
abbrev S16384x512 : Shape := ⟨2, ![16384, 512]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S1x256x128, .f32⟩
  | .hbm, ⟨4, _⟩ => ⟨S1x256x128, .f32⟩
  | .hbm, ⟨5, _⟩ => ⟨S2x8, .f32⟩
  | .hbm, ⟨6, _⟩ => ⟨S2x1024x5632, .f32⟩
  | .hbm, ⟨7, _⟩ => ⟨S2x2816x1024, .f32⟩
  | .hbm, ⟨8, _⟩ => ⟨S1x8, .f32⟩
  | .hbm, ⟨9, _⟩ => ⟨S8, .f32⟩
  | .hbm, ⟨10, _⟩ => ⟨S1x16384x8x64, .f32⟩
  | .hbm, ⟨11, _⟩ => ⟨S1x16384x2x64, .f32⟩
  | .hbm, ⟨12, _⟩ => ⟨S1x16384x2x64, .f32⟩
  | .hbm, ⟨13, _⟩ => ⟨S1x256x2x64, .f32⟩
  | .hbm, ⟨14, _⟩ => ⟨S1x256x2x64, .f32⟩
  | .hbm, ⟨15, _⟩ => ⟨S1x128x128x2x4x64, .f32⟩
  | .hbm, ⟨16, _⟩ => ⟨S_, .f32⟩
  | .hbm, ⟨17, _⟩ => ⟨S1x128x128x2x4x64, .f32⟩
  | .hbm, ⟨18, _⟩ => ⟨S1x128x128x2x4x64, .f32⟩
  | .hbm, ⟨19, _⟩ => ⟨S_, .i32⟩
  | .hbm, ⟨20, _⟩ => ⟨S_, .f32⟩
  | .hbm, ⟨21, _⟩ => ⟨S1x16640x2x64, .f32⟩
  | .hbm, ⟨22, _⟩ => ⟨S1x16384x2x64, .f32⟩
  | .hbm, ⟨23, _⟩ => ⟨S1x128x128x2x64, .f32⟩
  | .hbm, ⟨24, _⟩ => ⟨S1x16384x2x64, .f32⟩
  | .hbm, ⟨25, _⟩ => ⟨S1x128x128x2x64, .f32⟩
  | .hbm, ⟨26, _⟩ => ⟨S1x16384x2x64, .f32⟩
  | .hbm, ⟨27, _⟩ => ⟨S1x128x128x2x64, .f32⟩
  | .hbm, ⟨28, _⟩ => ⟨S1x128x384x2x64, .f32⟩
  | .hbm, ⟨29, _⟩ => ⟨S_, .i32⟩
  | .hbm, ⟨30, _⟩ => ⟨S_, .f32⟩
  | .hbm, ⟨31, _⟩ => ⟨S1x16640x2x64, .f32⟩
  | .hbm, ⟨32, _⟩ => ⟨S1x16384x2x64, .f32⟩
  | .hbm, ⟨33, _⟩ => ⟨S1x128x128x2x64, .f32⟩
  | .hbm, ⟨34, _⟩ => ⟨S1x16384x2x64, .f32⟩
  | .hbm, ⟨35, _⟩ => ⟨S1x128x128x2x64, .f32⟩
  | .hbm, ⟨36, _⟩ => ⟨S1x16384x2x64, .f32⟩
  | .hbm, ⟨37, _⟩ => ⟨S1x128x128x2x64, .f32⟩
  | .hbm, ⟨38, _⟩ => ⟨S1x128x384x2x64, .f32⟩
  | .hbm, ⟨39, _⟩ => ⟨S1x2x128x384x128x4, .f32⟩
  | .hbm, ⟨40, _⟩ => ⟨S1x2x4x128x128x384, .f32⟩
  | .hbm, ⟨41, _⟩ => ⟨S128, .i32⟩
  | .hbm, ⟨42, _⟩ => ⟨S128x1, .i32⟩
  | .hbm, ⟨43, _⟩ => ⟨S384, .i32⟩
  | .hbm, ⟨44, _⟩ => ⟨S1x384, .i32⟩
  | .hbm, ⟨45, _⟩ => ⟨S128, .i32⟩
  | .hbm, ⟨46, _⟩ => ⟨S128x1x1, .i32⟩
  | .hbm, ⟨47, _⟩ => ⟨S_, .i32⟩
  | .hbm, ⟨48, _⟩ => ⟨S128x1x1, .i32⟩
  | .hbm, ⟨49, _⟩ => ⟨S128x1x1, .i32⟩
  | .hbm, ⟨50, _⟩ => ⟨S1x1x384, .i32⟩
  | .hbm, ⟨51, _⟩ => ⟨S128x1x384, .i32⟩
  | .hbm, ⟨52, _⟩ => ⟨S128x1x384, .i32⟩
  | .hbm, ⟨53, _⟩ => ⟨S128x1x384, .i32⟩
  | .hbm, ⟨54, _⟩ => ⟨S_, .i32⟩
  | .hbm, ⟨55, _⟩ => ⟨S128x1x384, .i32⟩
  | .hbm, ⟨56, _⟩ => ⟨S128x1x384, .i32⟩
  | .hbm, ⟨57, _⟩ => ⟨S_, .i32⟩
  | .hbm, ⟨58, _⟩ => ⟨S1x384, .i32⟩
  | .hbm, ⟨59, _⟩ => ⟨S1x384, .i32⟩
  | .hbm, ⟨60, _⟩ => ⟨S128x384, .i32⟩
  | .hbm, ⟨61, _⟩ => ⟨S128x384, .i32⟩
  | .hbm, ⟨62, _⟩ => ⟨S128x384, .i32⟩
  | .hbm, ⟨63, _⟩ => ⟨S128x384, .i32⟩
  | .hbm, ⟨64, _⟩ => ⟨S_, .i32⟩
  | .hbm, ⟨65, _⟩ => ⟨S128x384, .i32⟩
  | .hbm, ⟨66, _⟩ => ⟨S128x384, .i1⟩
  | .hbm, ⟨67, _⟩ => ⟨S1x128x384, .i1⟩
  | .hbm, ⟨68, _⟩ => ⟨S_, .i32⟩
  | .hbm, ⟨69, _⟩ => ⟨S128x1x384, .i32⟩
  | .hbm, ⟨70, _⟩ => ⟨S128x1x384, .i1⟩
  | .hbm, ⟨71, _⟩ => ⟨S128x128x384, .i1⟩
  | .hbm, ⟨72, _⟩ => ⟨S128x128x384, .i1⟩
  | .hbm, ⟨73, _⟩ => ⟨S128x128x384, .i1⟩
  | .hbm, ⟨74, _⟩ => ⟨S_, .i32⟩
  | .hbm, ⟨75, _⟩ => ⟨S128x1x384, .i32⟩
  | .hbm, ⟨76, _⟩ => ⟨S128x1x384, .i1⟩
  | .hbm, ⟨77, _⟩ => ⟨S128x128x384, .i1⟩
  | .hbm, ⟨78, _⟩ => ⟨S128x128x384, .i1⟩
  | .hbm, ⟨79, _⟩ => ⟨S_, .f32⟩
  | .hbm, ⟨80, _⟩ => ⟨S_, .f32⟩
  | .hbm, ⟨81, _⟩ => ⟨S1x2x4x128x128x384, .i1⟩
  | .hbm, ⟨82, _⟩ => ⟨S1x2x4x128x128x384, .f32⟩
  | .hbm, ⟨83, _⟩ => ⟨S1x2x4x128x128x384, .f32⟩
  | .hbm, ⟨84, _⟩ => ⟨S1x2x256x128x128x4, .f32⟩
  | .hbm, ⟨85, _⟩ => ⟨S1x2x4x128x128x256, .f32⟩
  | .hbm, ⟨86, _⟩ => ⟨S1x2x4x1x1x1, .f32⟩
  | .hbm, ⟨87, _⟩ => ⟨S1x2x4x128x128x1, .f32⟩
  | .hbm, ⟨88, _⟩ => ⟨S1x2x4x128x128x641, .f32⟩
  | .hbm, ⟨89, _⟩ => ⟨S_, .f32⟩
  | .hbm, ⟨90, _⟩ => ⟨S1x2x4x128x128, .f32⟩
  | .hbm, ⟨91, _⟩ => ⟨S_, .f32⟩
  | .hbm, ⟨92, _⟩ => ⟨S1x2x4x128x128, .f32⟩
  | .hbm, ⟨93, _⟩ => ⟨S1x2x4x128x128, .f32⟩
  | .hbm, ⟨94, _⟩ => ⟨S1x2x4x128x128x1, .f32⟩
  | .hbm, ⟨95, _⟩ => ⟨S1x2x4x128x128x641, .f32⟩
  | .hbm, ⟨96, _⟩ => ⟨S1x2x4x128x128x641, .f32⟩
  | .hbm, ⟨97, _⟩ => ⟨S1x2x4x128x128x641, .f32⟩
  | .hbm, ⟨98, _⟩ => ⟨S_, .f32⟩
  | .hbm, ⟨99, _⟩ => ⟨S1x2x4x128x128, .f32⟩
  | .hbm, ⟨100, _⟩ => ⟨S1x2x4x128x128x1, .f32⟩
  | .hbm, ⟨101, _⟩ => ⟨S1x2x4x128x128x641, .f32⟩
  | .hbm, ⟨102, _⟩ => ⟨S1x2x4x128x128x641, .f32⟩
  | .hbm, ⟨103, _⟩ => ⟨S1x2x4x128x128x384, .f32⟩
  | .hbm, ⟨104, _⟩ => ⟨S1x128x2x64x4x128, .f32⟩
  | .hbm, ⟨105, _⟩ => ⟨S1x128x128x2x4x64, .f32⟩
  | .hbm, ⟨106, _⟩ => ⟨S1x2x4x128x128x256, .f32⟩
  | .hbm, ⟨107, _⟩ => ⟨S1x2x64x4x128x128, .f32⟩
  | .hbm, ⟨108, _⟩ => ⟨S1x128x128x2x4x64, .f32⟩
  | .hbm, ⟨109, _⟩ => ⟨S1x128x128x2x4x64, .f32⟩
  | .hbm, ⟨110, _⟩ => ⟨S128x128x2x4x64, .f32⟩
  | .hbm, ⟨111, _⟩ => ⟨S128x128x4x2x64, .f32⟩
  | .hbm, ⟨112, _⟩ => ⟨S16384x512, .f32⟩
  | .hbm, ⟨113, _⟩ => ⟨S16384x512, .bf16⟩
  | .hbm, ⟨114, _⟩ => ⟨S1x1024x5632, .f32⟩
  | .hbm, ⟨115, _⟩ => ⟨S1024x5632, .f32⟩
  | .hbm, ⟨116, _⟩ => ⟨S1024x5632, .bf16⟩
  | .hbm, ⟨117, _⟩ => ⟨S1x2816x1024, .f32⟩
  | .hbm, ⟨118, _⟩ => ⟨S2816x1024, .f32⟩
  | .hbm, ⟨119, _⟩ => ⟨S2816x1024, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_2 : Ref sig .tc := ⟨.hbm, 54, rfl⟩
abbrev main_v40 : Ref sig .tc := ⟨.hbm, 55, rfl⟩
abbrev main_v41 : Ref sig .tc := ⟨.hbm, 56, rfl⟩
abbrev main_c_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Proof.AttnBlock.lean ====
/- One block of 128 queries of the attention kernel's body, as one function of the values it loads; and what a grid
   point leaves in the output block, block by block. -/
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- Which of 128 lanes are below 64. -/
def low : IVec S1x128 1 := cmpi .slt (iota .tc S1x128 32 [1] iota_S1x128_d1_w32) (broadcast S1x128 64#32)

/-- The lanes of 384 rows that belong to key/value head 0. -/
def lowW : IVec S384x128 1 := broadcastTo S384x128 (shapeCast S1x128 low shapeCasts_S1x128_S1x128) broadcasts_S1x128_S384x128

/-- 384 rows of zeros. -/
def zeroW : FVec F S384x128 .bf16 := broadcast S384x128 (Scalar.ofBits .bf16 0x0000#16)

/-- The keys of both heads, each head's at its own lanes and zero at the other's: window then context, head by head. -/
def keys (kw : Vec F S384x128 .bf16) (c0 c1 : Vec F S1x256x128 .bf16) : FVec F S1280x128 .bf16 :=
  concatenate S1280x128 0
    [⟨S384x128, select lowW (shapeCast S384x128 kw shapeCasts_S384x128_S384x128) zeroW⟩,
     ⟨S256x128, shapeCast S256x128 c0 shapeCasts_S1x256x128_S256x128⟩,
     ⟨S384x128, select lowW zeroW (shapeCast S384x128 kw shapeCasts_S384x128_S384x128)⟩,
     ⟨S256x128, shapeCast S256x128 c1 shapeCasts_S1x256x128_S256x128⟩]
    concatenates_S384x128_S256x128_S384x128_S256x128_S1280x128_d0

/-- The lane of ones of head 0. -/
def onesRow : FVec F S1x128 .f32 :=
  select low (broadcast S1x128 (Scalar.ofBits .f32 0x3F800000#32)) (broadcast S1x128 (Scalar.ofBits .f32 0x00000000#32))

/-- 384 rows of a lane row. -/
def rowsOf (r : FVec F S1x128 .f32) : FVec F S384x128 .bf16 :=
  truncf .bf16 (broadcastTo S384x128 (shapeCast S1x128 r shapeCasts_S1x128_S1x128) broadcasts_S1x128_S384x128) bitsLt_bf16_f32

/-- The values of both heads beside the ones that add up the weights. -/
def vals (vw : Vec F S384x128 .bf16) (c0 c1 : Vec F S1x256x256 .bf16) : FVec F S1280x256 .bf16 :=
  concatenate S1280x256 0
    [⟨S384x256, concatenate S384x256 1
        [⟨S384x128, select lowW (shapeCast S384x128 vw shapeCasts_S384x128_S384x128) zeroW⟩, ⟨S384x128, rowsOf onesRow⟩]
        concatenates_S384x128_S384x128_S384x256_d1⟩,
     ⟨S256x256, shapeCast S256x256 c0 shapeCasts_S1x256x256_S256x256⟩,
     ⟨S384x256, concatenate S384x256 1
        [⟨S384x128, select lowW zeroW (shapeCast S384x128 vw shapeCasts_S384x128_S384x128)⟩,
         ⟨S384x128, rowsOf (subf (broadcast S1x128 (Scalar.ofBits .f32 0x3F800000#32)) onesRow)⟩]
        concatenates_S384x128_S384x128_S384x256_d1⟩,
     ⟨S256x256, shapeCast S256x256 c1 shapeCasts_S1x256x256_S256x256⟩]
    concatenates_S384x256_S256x256_S384x256_S256x256_S1280x256_d0

/-- The block's queries, the four groups of heads one below the other. -/
def queries (q : Vec F S128x512 .bf16) : FVec F S512x128 .bf16 :=
  concatenate S512x128 0
    [⟨S128x128, extractStridedSlice S128x128 ![0, 0] (shapeCast S128x512 q shapeCasts_S128x512_S128x512) slices_S128x512_o0_0_S128x128⟩,
     ⟨S128x128, extractStridedSlice S128x128 ![0, 128] (shapeCast S128x512 q shapeCasts_S128x512_S128x512) slices_S128x512_o0_128_S128x128⟩,
     ⟨S128x128, extractStridedSlice S128x128 ![0, 256] (shapeCast S128x512 q shapeCasts_S128x512_S128x512) slices_S128x512_o0_256_S128x128⟩,
     ⟨S128x128, extractStridedSlice S128x128 ![0, 384] (shapeCast S128x512 q shapeCasts_S128x512_S128x512) slices_S128x512_o0_384_S128x128⟩]
    concatenates_S128x128_S128x128_S128x128_S128x128_S512x128_d0

/-- The scores. -/
def scores (q : FVec F S512x128 .bf16) (k : FVec F S1280x128 .bf16) : FVec F S512x1280 .f32 :=
  matmul dot_S512x128_S1280x128_S512x1280_1_1_0_0_n_n none q k (constant S512x1280 .f32 0x00000000#32)

/-- Whether a key of the window is within 128 positions of a query: `w` the block's number, `st` the window's first position. -/
def near (w st : BitVec 32) : IVec S128x384 1 :=
  cmpi .sle (absi (subi (addi (broadcast S128x384 st) (iota .tc S128x384 32 [1] iota_S128x384_d1_w32))
      (addi (broadcast S128x384 (Scalar.muli w 128#32)) (iota .tc S128x384 32 [0] iota_S128x384_d0_w32))))
    (broadcast S128x384 128#32)

/-- … for the four groups. -/
def near4 (w st : BitVec 32) : IVec S512x384 1 :=
  concatenate S512x384 0 [⟨S128x384, near w st⟩, ⟨S128x384, near w st⟩, ⟨S128x384, near w st⟩, ⟨S128x384, near w st⟩]
    concatenates_S128x384_S128x384_S128x384_S128x384_S512x384_d0

/-- The scores, those of far keys masked. -/
def masked (w st : BitVec 32) (s : FVec F S512x1280 .f32) : FVec F S512x1280 .f32 :=
  concatenate S512x1280 1
    [⟨S512x384, select (near4 w st) (extractStridedSlice S512x384 ![0, 0] s slices_S512x1280_o0_0_S512x384)
        (broadcast S512x384 (Named.named κ "mask" 0xF149F2CA#32))⟩,
     ⟨S512x256, extractStridedSlice S512x256 ![0, 384] s slices_S512x1280_o0_384_S512x256⟩,
     ⟨S512x384, select (near4 w st) (extractStridedSlice S512x384 ![0, 640] s slices_S512x1280_o0_640_S512x384)
        (broadcast S512x384 (Named.named κ "mask" 0xF149F2CA#32))⟩,
     ⟨S512x256, extractStridedSlice S512x256 ![0, 1024] s slices_S512x1280_o0_1024_S512x256⟩]
    concatenates_S512x384_S512x256_S512x384_S512x256_S512x1280_d1

/-- The largest score of each row of one head's half. -/
def top (h : FVec F S512x640 .f32) : FVec F S512x1 .f32 :=
  shapeCast S512x1 (multiReduction .maximumf [1] S512 h 0xFF800000#32 reduces_S512x640_S512 (.inl rfl) rfl) shapeCasts_S512_S512x1

/-- Powers of two of one head's scores less the row's largest. -/
def powers (h : FVec F S512x640 .f32) : FVec F S512x640 .bf16 :=
  truncf .bf16 (exp2 (subf h (broadcastTo S512x640 (top h) broadcasts_S512x1_S512x640))) bitsLt_bf16_f32

/-- One head's half of the scores. -/
def half0 (s : FVec F S512x1280 .f32) : FVec F S512x640 .f32 := extractStridedSlice S512x640 ![0, 0] s slices_S512x1280_o0_0_S512x640
def half1 (s : FVec F S512x1280 .f32) : FVec F S512x640 .f32 := extractStridedSlice S512x640 ![0, 640] s slices_S512x1280_o0_640_S512x640

/-- A scalar as a column of 128 rows. -/
def colOf (v : Vec F S1x1x1 .f32) : FVec F S128x1 .f32 :=
  broadcastTo S128x1 (shapeCast S1x1 (shapeCast S1x1 v shapeCasts_S1x1x1_S1x1) shapeCasts_S1x1_S1x1) broadcasts_S1x1_S128x1

/-- The sinks of the four heads of one key/value head, a column. -/
def sinkCol (a b c d : Vec F S1x1x1 .f32) : FVec F S512x1 .f32 :=
  concatenate S512x1 0 [⟨S128x1, colOf a⟩, ⟨S128x1, colOf b⟩, ⟨S128x1, colOf c⟩, ⟨S128x1, colOf d⟩]
    concatenates_S128x1_S128x1_S128x1_S128x1_S512x1_d0

/-- Weighted values and weight sums. -/
def mix (s : FVec F S512x1280 .f32) (v : FVec F S1280x256 .bf16) : FVec F S512x256 .f32 :=
  matmul dot_S512x1280_S1280x256_S512x256_1_0_0_1_n_n none
    (concatenate S512x1280 1 [⟨S512x640, powers (half0 s)⟩, ⟨S512x640, powers (half1 s)⟩] concatenates_S512x640_S512x640_S512x1280_d1)
    v (constant S512x256 .f32 0x00000000#32)

/-- The weighted values divided by the sum of the weights and the sink's. -/
def normal (o : FVec F S512x256 .f32) (t0 t1 : FVec F S512x1 .f32) : FVec F S512x128 .bf16 :=
  truncf .bf16 (divf (extractStridedSlice S512x128 ![0, 0] o slices_S512x256_o0_0_S512x128)
    (addf (extractStridedSlice S512x128 ![0, 128] o slices_S512x256_o0_128_S512x128)
      (select (broadcastTo S512x128 (shapeCast S1x128 low shapeCasts_S1x128_S1x128) broadcasts_S1x128_S512x128)
        (broadcastTo S512x128 (shapeCast S512x1 t0 shapeCasts_S512x1_S512x1) broadcasts_S512x1_S512x128)
        (broadcastTo S512x128 (shapeCast S512x1 t1 shapeCasts_S512x1_S512x1) broadcasts_S512x1_S512x128)))) bitsLt_bf16_f32

/-- One block's result from its masked scores. -/
def result (s : FVec F S512x1280 .f32) (v : FVec F S1280x256 .bf16) (k0 k1 : FVec F S512x1 .f32) : FVec F S512x128 .bf16 :=
  normal (mix s v) (exp2 (subf k0 (top (half0 s)))) (exp2 (subf k1 (top (half1 s))))

/-! ## Block `r` of grid point `i`, from the point's input blocks -/

/-- The block's number in the whole sequence, as a word. -/
def word (i : grid0.Coords) (r : Fin 16) : BitVec 32 :=
  Scalar.addi (Scalar.muli (BitVec.ofNat 32 (i 0).val) 16#32) (BitVec.ofNat 32 r.val)

/-- The first position of the block's window, as a word. -/
def startWord (i : grid0.Coords) (r : Fin 16) : BitVec 32 :=
  Scalar.minsi 16000#32 (Scalar.maxsi 0#32 (Scalar.muli (Scalar.subi (word i r) 1#32) 128#32))

theorem q_inb (r : Fin 16) : ∀ a, (![128 * r.val, 0] : Fin 2 → Nat) a + S128x512.size a ≤ S2048x512.size a := by
  intro a; have := r.isLt; fin_cases a <;> simp [S128x512, S2048x512] <;> omega

/-- The window of 384 rows of keys or values. -/
def window (i : grid0.Coords) (r : Fin 16) (x : Vec F S16384x128 .bf16) : Vec F S384x128 .bf16 :=
  View.ld x (Rect.unit (s := S16384x128) (k0_off1 i (BitVec.ofNat 32 r.val)) S384x128.size (k0_off1_inb i r))

theorem sink_inb (n : Fin 8) : ∀ a, (![0, n.val, 0] : Fin 3 → Nat) a + S1x1x1.size a ≤ S1x8x128.size a := by
  intro a; have := n.isLt; fin_cases a <;> simp [S1x1x1, S1x8x128] <;> omega

/-- Head `n`'s sink. -/
def sink (n : Fin 8) (x5 : Vec F S1x8x128 .f32) : Vec F S1x1x1 .f32 :=
  View.ld x5 (Rect.unit (s := S1x8x128) ![0, n.val, 0] S1x1x1.size (sink_inb n))

/-- The masked scores of block `r`. -/
def blockScores (i : grid0.Coords) (r : Fin 16) (x0 : Vec F S2048x512 .bf16) (x1 : Vec F S16384x128 .bf16)
    (x3 : Vec F S2x256x128 .bf16) : FVec F S512x1280 .f32 :=
  masked (word i r) (startWord i r)
    (scores (queries (View.ld x0 (Rect.unit (s := S2048x512) ![128 * r.val, 0] S128x512.size (q_inb r))))
      (keys (window i r x1)
        (View.ld x3 (Rect.unit (s := S2x256x128) ![0, 0, 0] S1x256x128.size inb_S2x256x128_S1x256x128_0_0_0))
        (View.ld x3 (Rect.unit (s := S2x256x128) ![1, 0, 0] S1x256x128.size inb_S2x256x128_S1x256x128_1_0_0))))

/-- The values of block `r`. -/
def blockVals (i : grid0.Coords) (r : Fin 16) (x2 : Vec F S16384x128 .bf16) (x4 : Vec F S2x256x256 .bf16) : FVec F S1280x256 .bf16 :=
  vals (window i r x2)
    (View.ld x4 (Rect.unit (s := S2x256x256) ![0, 0, 0] S1x256x256.size inb_S2x256x256_S1x256x256_0_0_0))
    (View.ld x4 (Rect.unit (s := S2x256x256) ![1, 0, 0] S1x256x256.size inb_S2x256x256_S1x256x256_1_0_0))

/-- Block `r`'s 512 rows: four groups of 128 queries. -/
def block (i : grid0.Coords) (r : Fin 16) (x0 : Vec F S2048x512 .bf16) (x1 x2 : Vec F S16384x128 .bf16)
    (x3 : Vec F S2x256x128 .bf16) (x4 : Vec F S2x256x256 .bf16) (x5 : Vec F S1x8x128 .f32) : FVec F S512x128 .bf16 :=
  result (blockScores i r x0 x1 x3) (blockVals i r x2 x4)
    (sinkCol (sink 0 x5) (sink 1 x5) (sink 2 x5) (sink 3 x5)) (sinkCol (sink 4 x5) (sink 5 x5) (sink 6 x5) (sink 7 x5))

theorem group_slices (g : Fin 4) : S512x128.Slices ![128 * g.val, 0] S128x128 :=
  ⟨rfl, by intro a; have := g.isLt; fin_cases a <;> simp [S128x128, S512x128] <;> omega⟩

/-- Group `g` of a block's rows. -/
def group (g : Fin 4) (b : FVec F S512x128 .bf16) : FVec F S128x128 .bf16 :=
  extractStridedSlice S128x128 ![128 * g.val, 0] b (group_slices g)

theorem out_inb (r : Fin 16) (g : Fin 4) :
    ∀ a, (![128 * r.val, 128 * g.val] : Fin 2 → Nat) a + S128x128.size a ≤ S2048x512.size a := by
  intro a; have := r.isLt; have := g.isLt; fin_cases a <;> simp [S128x128, S2048x512] <;> omega

/-- What the body stores for group `g` of block `r`, and where. -/
def piece (b : Fin 16 → FVec F S512x128 .bf16) (n : Fin 16 × Fin 4) : View.Piece (Elt F) S2048x512 .bf16 :=
  ⟨Rect.unit (s := S2048x512) ![128 * n.1.val, 128 * n.2.val] S128x128.size (out_inb n.1 n.2), group n.2 (b n.1)⟩

/-- The stores in order, last first. -/
def storeOrder : List (Fin 16 × Fin 4) :=
  [15, 14, 13, 12, 11, 10, 9, 8, 7, 6, 5, 4, 3, 2, 1, 0].flatMap fun r => [(r, 3), (r, 2), (r, 1), (r, 0)]

/-- The body's stores are the sixteen blocks' four groups. -/
theorem pieces (c : Dev nD) (i : grid0.Coords) (arg1 : Memref sig .tc .vmem S2048x512 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2x256x128 .bf16) (harg4 : arg4.IsWhole) (arg5 : Memref sig .tc .vmem S2x256x256 .bf16) (harg5 : arg5.IsWhole) (arg6 : Memref sig .tc .vmem S1x8x128 .f32) (harg6 : arg6.IsWhole) (arg7 : Memref sig .tc .vmem S2048x512 .bf16) (harg7 : arg7.IsWhole)
    (x0 : Vec F S2048x512 .bf16) (x1 : Vec F S16384x128 .bf16) (x2 : Vec F S16384x128 .bf16) (x3 : Vec F S2x256x128 .bf16) (x4 : Vec F S2x256x256 .bf16) (x5 : Vec F S1x8x128 .f32) :
    (kernelRun0_A c i arg1 harg1 arg2 harg2 arg3 harg3 arg4 harg4 arg5 harg5 arg6 harg6 arg7 harg7 x0 x1 x2 x3 x4 x5).1
      = storeOrder.map (piece fun r => block i r x0 x1 x2 x3 x4 x5) := by
  unfold kernelRun0_A
  dsimp only
  sl_unfold_words
  simp only [View.readAt_eq_ld]
  have h1 : View.read (Elt F) arg1.view (harg1.unread x0) = x0 := harg1.read_unread x0
  have h2 : View.read (Elt F) arg2.view (harg2.unread x1) = x1 := harg2.read_unread x1
  have h3 : View.read (Elt F) arg3.view (harg3.unread x2) = x2 := harg3.read_unread x2
  have h4 : View.read (Elt F) arg4.view (harg4.unread x3) = x3 := harg4.read_unread x3
  have h5 : View.read (Elt F) arg5.view (harg5.unread x4) = x4 := harg5.read_unread x4
  have h6 : View.read (Elt F) arg6.view (harg6.unread x5) = x5 := harg6.read_unread x5
  generalize View.read (Elt F) arg1.view (harg1.unread x0) = y1 at h1 ⊢
  subst h1
  generalize View.read (Elt F) arg2.view (harg2.unread x1) = y2 at h2 ⊢
  subst h2
  generalize View.read (Elt F) arg3.view (harg3.unread x2) = y3 at h3 ⊢
  subst h3
  generalize View.read (Elt F) arg4.view (harg4.unread x3) = y4 at h4 ⊢
  subst h4
  generalize View.read (Elt F) arg5.view (harg5.unread x4) = y5 at h5 ⊢
  subst h5
  generalize View.read (Elt F) arg6.view (harg6.unread x5) = y6 at h6 ⊢
  subst h6
  sl_kernel_rfl

/-- The output block's element of 2048 rows and 512 columns, out of the sixteen blocks. -/
def outAt (b : Fin 16 → FVec F S512x128 .bf16) (y : S2048x512.Idx) : Elt F .bf16 :=
  b ⟨(y 0).val / 128, by have : (y 0).val < 2048 := (y 0).isLt; omega⟩
    (ix2 ⟨128 * ((y 1).val / 128) + (y 0).val % 128, by have : (y 1).val < 512 := (y 1).isLt; omega⟩ ⟨(y 1).val % 128, by omega⟩)

theorem piece_at (b : Fin 16 → FVec F S512x128 .bf16) (n : Fin 16 × Fin 4) (x : (piece b n).1.shape.Idx) :
    (piece b n).2 x = outAt b ((piece b n).1.emb x) := by
  have h0 : (x 0).val < 128 := (x 0).isLt
  have h1 : (x 1).val < 128 := (x 1).isLt
  have e0 : (((piece b n).1.emb x) 0).val = 128 * n.1.val + (x 0).val := by
    show 128 * n.1.val + 1 * (x 0).val = _; rw [one_mul]
  have e1 : (((piece b n).1.emb x) 1).val = 128 * n.2.val + (x 1).val := by
    show 128 * n.2.val + 1 * (x 1).val = _; rw [one_mul]
  unfold outAt
  have hb : (⟨(((piece b n).1.emb x) 0).val / 128, by omega⟩ : Fin 16) = n.1 := by ext; simp only [e0]; omega
  rw [hb]
  refine extractStridedSlice_apply (t := S128x128) ![128 * n.2.val, 0] (b n.1) (group_slices n.2) x _ fun a => ?_
  fin_cases a
  · simp [e0, e1]; omega
  · simp [e1]; omega

/-- What a grid point leaves at an element of the output block. -/
theorem out_at (c : Dev nD) (i : grid0.Coords) (arg1 : Memref sig .tc .vmem S2048x512 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2x256x128 .bf16) (harg4 : arg4.IsWhole) (arg5 : Memref sig .tc .vmem S2x256x256 .bf16) (harg5 : arg5.IsWhole) (arg6 : Memref sig .tc .vmem S1x8x128 .f32) (harg6 : arg6.IsWhole) (arg7 : Memref sig .tc .vmem S2048x512 .bf16) (harg7 : arg7.IsWhole)
    (x0 : Vec F S2048x512 .bf16) (x1 : Vec F S16384x128 .bf16) (x2 : Vec F S16384x128 .bf16) (x3 : Vec F S2x256x128 .bf16) (x4 : Vec F S2x256x256 .bf16) (x5 : Vec F S1x8x128 .f32) (y : S2048x512.Idx) :
    out0_A_6 c i arg1 harg1 arg2 harg2 arg3 harg3 arg4 harg4 arg5 harg5 arg6 harg6 arg7 harg7 x0 x1 x2 x3 x4 x5 y = outAt (fun r => block i r x0 x1 x2 x3 x4 x5) y := by
  unfold out0_A_6
  rw [View.read_writes_eq_canon _ _ _ (cover0_A_6 c i arg1 harg1 arg2 harg2 arg3 harg3 arg4 harg4 arg5 harg5 arg6 harg6 arg7 harg7 x0 x1 x2 x3 x4 x5)]
  have hc := cover0_A_6 c i arg1 harg1 arg2 harg2 arg3 harg3 arg4 harg4 arg5 harg5 arg6 harg6 arg7 harg7 x0 x1 x2 x3 x4 x5 y
  rw [pieces] at hc ⊢
  refine View.canon_apply_of_pieces _ _ ?_ y hc
  intro p hp x
  obtain ⟨n, -, rfl⟩ := List.mem_map.mp hp
  exact piece_at _ n x

end Cert.KernelIdeal.Attn

end
-- ==== Proof.AttnMath.lean ====
/- Sums of weighted values over the extended reals: the softmax of finite scores, however far the scores were shifted
   before the exponential and whether the division comes before or after the sum. -/
module

public import Idealize.ShloMosaic.Lib.Pointwise

@[expose] public section

noncomputable section

namespace Cert.AttnMath

open Idealize.ShloMosaic

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real distributes over any finite sum. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- Sums over a window and over the whole sequence, the same terms selected in both. -/
theorem sum_window {M : Type*} [AddCommMonoid M] {W N : ℕ} (P : Fin W → Prop) [DecidablePred P] (Q : Fin N → Prop)
    [DecidablePred Q] (e : Fin W → ℕ) (g : Fin W → M) (f : Fin N → M)
    (hpos : ∀ j, P j → ∃ h : e j < N, Q ⟨e j, h⟩ ∧ g j = f ⟨e j, h⟩)
    (inj : ∀ i j, P i → P j → e i = e j → i = j) (sur : ∀ k, Q k → ∃ j, P j ∧ e j = k.val) :
    (∑ j, if P j then g j else 0) = ∑ k, if Q k then f k else 0 := by
  rw [← Finset.sum_filter, ← Finset.sum_filter]
  refine Finset.sum_bij (fun j hj => ⟨e j, (hpos j (Finset.mem_filter.mp hj).2).1⟩) ?_ ?_ ?_ ?_
  · intro j hj
    exact Finset.mem_filter.mpr ⟨Finset.mem_univ _, (hpos j (Finset.mem_filter.mp hj).2).2.1⟩
  · intro i hi j hj h
    exact inj i j (Finset.mem_filter.mp hi).2 (Finset.mem_filter.mp hj).2 (congrArg Fin.val h)
  · intro k hk
    obtain ⟨j, hj, h⟩ := sur k (Finset.mem_filter.mp hk).2
    exact ⟨j, Finset.mem_filter.mpr ⟨Finset.mem_univ _, hj⟩, Fin.ext h⟩
  · intro j hj
    exact (hpos j (Finset.mem_filter.mp hj).2).2.2

/-- The sum of the exponentials: the near keys, the context keys, the sink. -/
def total {N L : ℕ} (Q : Fin N → Prop) [DecidablePred Q] (S : Fin N → ℝ) (T : Fin L → ℝ) (σ : ℝ) : ℝ :=
  (∑ k, if Q k then Real.exp (S k) else 0) + ∑ l, Real.exp (T l) + Real.exp σ

/-- Attention: the near keys' values and the context's, each weighted by its exponential's share of the total. -/
def attn {N L : ℕ} (Q : Fin N → Prop) [DecidablePred Q] (S : Fin N → ℝ) (T : Fin L → ℝ) (σ : ℝ) (V : Fin N → EReal)
    (C : Fin L → EReal) : EReal :=
  (∑ k, if Q k then ((Real.exp (S k) / total Q S T σ : ℝ) : EReal) * V k else 0)
    + ∑ l, ((Real.exp (T l) / total Q S T σ : ℝ) : EReal) * C l

theorem total_pos {N L : ℕ} (Q : Fin N → Prop) [DecidablePred Q] (S : Fin N → ℝ) (T : Fin L → ℝ) (σ : ℝ) : 0 < total Q S T σ := by
  unfold total
  have h1 : 0 ≤ ∑ k, if Q k then Real.exp (S k) else 0 :=
    Finset.sum_nonneg fun k _ => by split <;> [exact (Real.exp_pos _).le; exact le_refl _]
  have h2 : 0 ≤ ∑ l, Real.exp (T l) := Finset.sum_nonneg fun l _ => (Real.exp_pos _).le
  have := Real.exp_pos σ
  linarith

section
variable {W N L : ℕ} (P : Fin W → Prop) [DecidablePred P] (Q : Fin N → Prop) [DecidablePred Q] (e : Fin W → ℕ)
  (S : Fin N → ℝ) (T : Fin L → ℝ) (σ : ℝ) (V : Fin N → EReal) (C : Fin L → EReal) (s : Fin W → ℝ) (v : Fin W → EReal)
  (hpos : ∀ j, P j → ∃ h : e j < N, Q ⟨e j, h⟩ ∧ s j = S ⟨e j, h⟩ ∧ v j = V ⟨e j, h⟩)
  (inj : ∀ i j, P i → P j → e i = e j → i = j) (sur : ∀ k, Q k → ∃ j, P j ∧ e j = k.val)
include hpos inj sur

/-- Weights that are all one positive multiple of the exponentials add up to that multiple of the total. -/
theorem total_window (c : ℝ) :
    (∑ j, if P j then ((c * Real.exp (s j) : ℝ) : EReal) else 0) + (∑ l, ((c * Real.exp (T l) : ℝ) : EReal))
      + ((c * Real.exp σ : ℝ) : EReal) = ((c * total Q S T σ : ℝ) : EReal) := by
  have hw : (∑ j, if P j then ((c * Real.exp (s j) : ℝ) : EReal) else 0)
      = ∑ k, if Q k then ((c * Real.exp (S k) : ℝ) : EReal) else 0 :=
    sum_window P Q e _ (fun k => ((c * Real.exp (S k) : ℝ) : EReal))
      (fun j hj => let ⟨h, a, b, _⟩ := hpos j hj; ⟨h, a, by rw [b]⟩) inj sur
  have he : ∀ k, (if Q k then ((c * Real.exp (S k) : ℝ) : EReal) else 0) = ((c * (if Q k then Real.exp (S k) else 0) : ℝ) : EReal) := by
    intro k; by_cases h : Q k <;> simp [h]
  rw [hw, Finset.sum_congr rfl (fun k _ => he k), ← coe_sum, ← coe_sum, ← EReal.coe_add, ← EReal.coe_add]
  congr 1
  rw [total, ← Finset.mul_sum, ← Finset.mul_sum]; ring

/-- Dividing each weight and then adding up. -/
theorem attn_of_shares (c : ℝ) (hc : 0 < c) :
    (∑ j, Ideal.div (if P j then ((c * Real.exp (s j) : ℝ) : EReal) else 0) ((c * total Q S T σ : ℝ) : EReal) * v j)
      + ∑ l, Ideal.div ((c * Real.exp (T l) : ℝ) : EReal) ((c * total Q S T σ : ℝ) : EReal) * C l = attn Q S T σ V C := by
  have hD := total_pos Q S T σ
  have hne : c * total Q S T σ ≠ 0 := (mul_pos hc hD).ne'
  have hq : ∀ x : ℝ, ((c * Real.exp x : ℝ) : EReal) * ((1 / (c * total Q S T σ) : ℝ) : EReal)
      = ((Real.exp x / total Q S T σ : ℝ) : EReal) := by
    intro x; rw [← EReal.coe_mul]; congr 1; field_simp
  unfold attn
  congr 1
  · rw [← sum_window P Q e (fun j => ((Real.exp (s j) / total Q S T σ : ℝ) : EReal) * v j) _
      (fun j hj => let ⟨h, a, b, d⟩ := hpos j hj; ⟨h, a, by rw [b, d]⟩) inj sur]
    refine Finset.sum_congr rfl fun j _ => ?_
    rw [Ideal.div_coe hne]
    by_cases h : P j
    · rw [if_pos h, if_pos h, hq]
    · rw [if_neg h, if_neg h, zero_mul, zero_mul]
  · refine Finset.sum_congr rfl fun l _ => ?_
    rw [Ideal.div_coe hne, hq]

/-- Adding up and then dividing once. -/
theorem attn_of_quotient (c : ℝ) (hc : 0 < c) :
    Ideal.div ((∑ j, (if P j then ((c * Real.exp (s j) : ℝ) : EReal) else 0) * v j)
      + ∑ l, ((c * Real.exp (T l) : ℝ) : EReal) * C l) ((c * total Q S T σ : ℝ) : EReal) = attn Q S T σ V C := by
  have hD := total_pos Q S T σ
  have hne : c * total Q S T σ ≠ 0 := (mul_pos hc hD).ne'
  have hnn : (0 : ℝ) ≤ 1 / (c * total Q S T σ) := (one_div_pos.mpr (mul_pos hc hD)).le
  rw [← attn_of_shares P Q e S T σ V C s v hpos inj sur c hc, Ideal.div_coe hne, mul_comm,
    EReal.left_distrib_of_nonneg_of_ne_top (EReal.coe_nonneg.mpr hnn) (EReal.coe_ne_top _), mul_sum _ _ hnn, mul_sum _ _ hnn]
  congr 1 <;> refine Finset.sum_congr rfl fun j _ => ?_ <;> rw [Ideal.div_coe hne, ← mul_assoc] <;> congr 1 <;> rw [mul_comm]

end

/-- The power of two of a score in the logarithm's unit, shifted by a real, is a multiple of the exponential. -/
theorem exp2_shift (x m : ℝ) :
    Ideal.exp2 (((x * (1 / Real.log 2) : ℝ) : EReal) - (m : EReal)) = ((Real.rpow 2 (-m) * Real.exp x : ℝ) : EReal) := by
  rw [← EReal.coe_sub, Ideal.exp2_coe]
  congr 1
  have h2 : (0 : ℝ) < 2 := by norm_num
  have hl : Real.log 2 ≠ 0 := (Real.log_pos (by norm_num)).ne'
  show (2 : ℝ) ^ (x * (1 / Real.log 2) - m) = (2 : ℝ) ^ (-m) * Real.exp x
  rw [sub_eq_neg_add, Real.rpow_add h2]
  congr 1
  rw [Real.rpow_def_of_pos h2]
  congr 1; field_simp

/-- The exponential of a shifted score is a multiple of the exponential. -/
theorem exp_shift (x m : ℝ) : Ideal.exp ((x : EReal) - (m : EReal)) = ((Real.exp (-m) * Real.exp x : ℝ) : EReal) := by
  rw [← EReal.coe_sub, Ideal.exp_coe, ← Real.exp_add]; congr 2; ring

theorem bot_sub_coe (m : ℝ) : (⊥ : EReal) - (m : EReal) = ⊥ := by
  rw [sub_eq_add_neg]; exact EReal.bot_add _

/-- The largest of finitely many scores, none of them infinite above and at least one real, is a real. -/
theorem fold_max_real {ι : Type*} [Fintype ι] (f : ι → EReal) (i : ι) (hi : f i ≠ ⊥) (h : ∀ j, f j ≠ ⊤) :
    ∃ m : ℝ, Finset.univ.fold max ⊥ f = (m : EReal) := by
  classical
  have le : ∀ s : Finset ι, i ∈ s → f i ≤ s.fold max ⊥ f := by
    intro s
    induction s using Finset.induction_on with
    | empty => intro hm; simp at hm
    | insert a s ha ih =>
      intro hm; rw [Finset.fold_insert ha]
      rcases Finset.mem_insert.mp hm with rfl | hm
      · exact le_max_left _ _
      · exact (ih hm).trans (le_max_right _ _)
  have lt : ∀ s : Finset ι, s.fold max ⊥ f < ⊤ := by
    intro s
    induction s using Finset.induction_on with
    | empty => simp
    | insert a s ha ih => rw [Finset.fold_insert ha]; exact max_lt (lt_top_iff_ne_top.mpr (h a)) ih
  have hb : Finset.univ.fold max ⊥ f ≠ ⊥ := fun hx => hi (le_bot_iff.mp (hx ▸ le Finset.univ (Finset.mem_univ i)))
  have ht : Finset.univ.fold max ⊥ f ≠ ⊤ := (lt Finset.univ).ne
  exact ⟨_, (EReal.coe_toReal ht hb).symm⟩

/-- A sum over `n + k` places, the first `n` and then the rest. -/
theorem sum_parts {M : Type*} [AddCommMonoid M] (n k : ℕ) (g : Fin (n + k) → M) :
    ∑ i, g i = (∑ i : Fin n, g ⟨i.val, by omega⟩) + ∑ i : Fin k, g ⟨n + i.val, by omega⟩ := Fin.sum_univ_add g

/-- 1280 keys: two heads' halves, each a window of 384 keys and 256 of the context. -/
theorem sum_1280 {M : Type*} [AddCommMonoid M] (f : Fin 1280 → M) :
    ∑ k, f k = ((∑ j : Fin 384, f ⟨j.val, by omega⟩) + ∑ l : Fin 256, f ⟨384 + l.val, by omega⟩)
      + ((∑ j : Fin 384, f ⟨640 + j.val, by omega⟩) + ∑ l : Fin 256, f ⟨1024 + l.val, by omega⟩) := by
  rw [sum_parts 640 640 f, sum_parts 384 256 (fun i => f ⟨i.val, by omega⟩), sum_parts 384 256 (fun i => f ⟨640 + i.val, by omega⟩)]
  congr 2

/-- 640 keys: a window of 384 and 256 of the context. -/
theorem sum_640 {M : Type*} [AddCommMonoid M] (f : Fin 640 → M) :
    ∑ k, f k = (∑ j : Fin 384, f ⟨j.val, by omega⟩) + ∑ l : Fin 256, f ⟨384 + l.val, by omega⟩ :=
  sum_parts 384 256 f

/-- 128 lanes of which one head's 64 count. -/
theorem sum_low (f g : Fin 128 → EReal) :
    (∑ l : Fin 128, f l * if l.val < 64 then g l else 0) = ∑ d : Fin 64, f ⟨d.val, by omega⟩ * g ⟨d.val, by omega⟩ := by
  refine (sum_parts 64 64 _).trans ?_
  have z : ∀ i : Fin 64, (f ⟨64 + i.val, by omega⟩ * if 64 + i.val < 64 then g ⟨64 + i.val, by omega⟩ else 0) = 0 := by
    intro i; rw [if_neg (by omega), mul_zero]
  rw [Finset.sum_eq_zero (f := fun i : Fin 64 => _) (fun i _ => z i), add_zero]
  exact Finset.sum_congr rfl fun d _ => by rw [if_pos (show d.val < 64 from d.isLt)]

theorem sum_high (f g : Fin 128 → EReal) :
    (∑ l : Fin 128, f l * if l.val < 64 then 0 else g l) = ∑ d : Fin 64, f ⟨64 + d.val, by omega⟩ * g ⟨64 + d.val, by omega⟩ := by
  refine (sum_parts 64 64 _).trans ?_
  have z : ∀ i : Fin 64, (f ⟨i.val, by omega⟩ * if i.val < 64 then 0 else g ⟨i.val, by omega⟩) = 0 := by
    intro i; rw [if_pos i.isLt, mul_zero]
  rw [Finset.sum_eq_zero (f := fun i : Fin 64 => _) (fun i _ => z i), zero_add]
  exact Finset.sum_congr rfl fun d _ => by rw [if_neg (show ¬ 64 + d.val < 64 by omega)]

/-! ## Words of positions -/

theorem near_word (x y : ℕ) (hx : x < 65536) (hy : y < 65536) :
    IntOp.cmpi .sle (IntOp.absi (BitVec.ofNat 32 x - BitVec.ofNat 32 y)) 128#32 = if x ≤ y + 128 ∧ y ≤ x + 128 then 1#1 else 0#1 := by
  have hd : (BitVec.ofNat 32 x - BitVec.ofNat 32 y).toNat = if y ≤ x then x - y else 2 ^ 32 + x - y := by
    rw [BitVec.toNat_sub, BitVec.toNat_ofNat, BitVec.toNat_ofNat]; split <;> omega
  have ha : (IntOp.absi (BitVec.ofNat 32 x - BitVec.ofNat 32 y)).toNat = if y ≤ x then x - y else y - x := by
    unfold IntOp.absi
    by_cases h : y ≤ x
    · rw [if_pos h] at hd ⊢
      rw [if_neg (by rw [BitVec.msb_eq_decide, hd]; simp; omega), hd]
    · rw [if_neg h] at hd ⊢
      rw [if_pos (by rw [BitVec.msb_eq_decide, hd]; simp; omega), BitVec.toNat_neg, hd]; omega
  have hs : (IntOp.absi (BitVec.ofNat 32 x - BitVec.ofNat 32 y)).toInt = ((if y ≤ x then x - y else y - x : ℕ) : ℤ) := by
    rw [BitVec.toInt_eq_toNat_cond, ha]; split <;> split <;> omega
  have : IntOp.cmpi .sle (IntOp.absi (BitVec.ofNat 32 x - BitVec.ofNat 32 y)) 128#32
      = BitVec.ofBool (decide ((if y ≤ x then x - y else y - x : ℕ) ≤ 128)) := by
    unfold IntOp.cmpi
    simp only [BitVec.sle_eq_decide, hs]
    congr 1
    rw [show (128#32 : BitVec 32).toInt = 128 by decide]
    exact decide_eq_decide.mpr (by norm_cast)
  rw [this]
  by_cases h : x ≤ y + 128 ∧ y ≤ x + 128
  · rw [if_pos h, decide_eq_true (by split <;> omega)]; rfl
  · rw [if_neg h, decide_eq_false (by split <;> omega)]; rfl

/-- A position less 128, as a signed word. -/
theorem toInt_less (n : ℕ) (hn : n < 65536) : (BitVec.ofNat 32 n - 128#32).toInt = (n : ℤ) - 128 := by
  rw [BitVec.toInt_eq_toNat_cond, BitVec.toNat_sub, BitVec.toNat_ofNat, BitVec.toNat_ofNat]
  split <;> omega

theorem ge_word (n : ℕ) (hn : n < 65536) :
    IntOp.cmpi .sge (BitVec.ofNat 32 n - 128#32) 0#32 = if 128 ≤ n then 1#1 else 0#1 := by
  unfold IntOp.cmpi
  simp only [BitVec.sle_eq_decide, toInt_less n hn, show (0#32 : BitVec 32).toInt = 0 by decide]
  by_cases h : 128 ≤ n
  · rw [if_pos h, decide_eq_true (by omega)]; rfl
  · rw [if_neg h, decide_eq_false (by omega)]; rfl

theorem lt_word (n : ℕ) (hn : n < 65536) :
    IntOp.cmpi .slt (BitVec.ofNat 32 n - 128#32) 16384#32 = if n < 16512 then 1#1 else 0#1 := by
  unfold IntOp.cmpi
  simp only [BitVec.slt_eq_decide, toInt_less n hn, show (16384#32 : BitVec 32).toInt = 16384 by decide]
  by_cases h : n < 16512
  · rw [if_pos h, decide_eq_true (by omega)]; rfl
  · rw [if_neg h, decide_eq_false (by omega)]; rfl

/-! ## The layer's attention: a query's own neighbourhood, the context and the head's sink -/

section
variable (q : Fin 16384 → Fin 512 → ℝ) (k : Fin 16384 → Fin 128 → ℝ) (kc : Fin 256 → Fin 128 → ℝ) (sk : Fin 8 → ℝ)
  (v : Fin 16384 → Fin 128 → EReal) (vc : Fin 256 → Fin 128 → EReal)

/-- Keys at most 128 positions from the query. -/
def Near (p t : Fin 16384) : Prop := t.val ≤ p.val + 128 ∧ p.val ≤ t.val + 128

instance (p : Fin 16384) : DecidablePred (Near p) := fun t => inferInstanceAs (Decidable (_ ∧ _))

/-- The score of the key at `t` against query head `(kv, g)` at `p`. -/
def keyScore (p : Fin 16384) (kv : Fin 2) (g : Fin 4) (t : Fin 16384) : ℝ :=
  ∑ d : Fin 64, k t ⟨kv.val * 64 + d.val, by omega⟩ * (q p ⟨kv.val * 256 + g.val * 64 + d.val, by omega⟩ * (1 / 8))

/-- … of the context's key `l`. -/
def ctxScore (p : Fin 16384) (kv : Fin 2) (g : Fin 4) (l : Fin 256) : ℝ :=
  ∑ d : Fin 64, kc l ⟨kv.val * 64 + d.val, by omega⟩ * (q p ⟨kv.val * 256 + g.val * 64 + d.val, by omega⟩ * (1 / 8))

/-- The attention's output for one lane of one head at one position. -/
def spec (p : Fin 16384) (kv : Fin 2) (g : Fin 4) (d : Fin 64) : EReal :=
  attn (Near p) (keyScore q k p kv g) (ctxScore q kc p kv g) (sk ⟨kv.val * 4 + g.val, by omega⟩)
    (fun t => v t ⟨kv.val * 64 + d.val, by omega⟩) (fun l => vc l ⟨kv.val * 64 + d.val, by omega⟩)

end

end Cert.AttnMath

end
-- ==== Proof.AttnPure.lean ====
/- The attention block read at an index over the extended reals. -/
module

public import proofs.«01_k».proof.Proof.AttnBlock
public import proofs.«01_k».proof.Proof.AttnMath

@[expose] public section

set_option maxRecDepth 16384

noncomputable section

namespace Cert.KernelIdeal.Attn

open Cert.KernelIdeal Cert.KernelIdeal.Gen Cert.AttnMath Idealize.ShloMosaic Idealize.ShloMosaic.TcCoe Idealize.SL.Sem

/-- Lane `n` is below 64, as a word. -/
theorem low_word (n : Fin 128) : IntOp.cmpi .slt (BitVec.ofNat 32 n.val) 64#32 = if n.val < 64 then 1#1 else 0#1 := by
  revert n; decide

theorem low_at (n : Fin 128) : low (ix2 0 n) = if n.val < 64 then 1#1 else 0#1 := by
  pointwise [low, low_word]

theorem sel_low {α : Type} (n : Fin 128) (a b : α) :
    Scalar.select (if n.val < 64 then 1#1 else 0#1) a b = if n.val < 64 then a else b := by
  split <;> rfl

theorem lowW_at (j : Fin 384) (n : Fin 128) : lowW (ix2 j n) = if n.val < 64 then 1#1 else 0#1 := by
  pointwise [lowW]
  exact low_at n

section
variable (kw : FVec Ideal S384x128 .bf16) (c0 c1 : FVec Ideal S1x256x128 .bf16)

theorem keys_w0 (j : Fin 384) (n : Fin 128) :
    keys (F := Ideal) kw c0 c1 (ix2 ⟨j.val, by omega⟩ n) = if n.val < 64 then kw (ix2 j n) else 0 := by
  have := j.isLt
  pointwise [keys, zeroW, lowW_at, sel_low]

theorem keys_c0 (l : Fin 256) (n : Fin 128) :
    keys (F := Ideal) kw c0 c1 (ix2 ⟨384 + l.val, by omega⟩ n) = c0 (ix3 0 l n) := by
  have := l.isLt
  pointwise [keys, zeroW, lowW_at, sel_low]

theorem keys_w1 (j : Fin 384) (n : Fin 128) :
    keys (F := Ideal) kw c0 c1 (ix2 ⟨640 + j.val, by omega⟩ n) = if n.val < 64 then 0 else kw (ix2 j n) := by
  have := j.isLt
  pointwise [keys, zeroW, lowW_at, sel_low]
  rw [dif_neg (by omega), dif_neg (by omega), dif_pos (by omega)]
  simp only [show 640 + j.val - 384 - 256 = j.val by omega, Fin.eta]

theorem keys_c1 (l : Fin 256) (n : Fin 128) :
    keys (F := Ideal) kw c0 c1 (ix2 ⟨1024 + l.val, by omega⟩ n) = c1 (ix3 0 l n) := by
  have := l.isLt
  pointwise [keys, zeroW, lowW_at, sel_low]
  rw [dif_neg (by omega), dif_neg (by omega), dif_neg (by omega)]
  simp only [show 1024 + l.val - 384 - 256 - 384 = l.val by omega, Fin.eta]
end

section
variable (vw : FVec Ideal S384x128 .bf16) (c0 c1 : FVec Ideal S1x256x256 .bf16)

theorem vals_w0 (j : Fin 384) (n : Fin 128) :
    vals (F := Ideal) vw c0 c1 (ix2 ⟨j.val, by omega⟩ ⟨n.val, by omega⟩) = if n.val < 64 then vw (ix2 j n) else 0 := by
  have := j.isLt
  have := n.isLt
  pointwise [vals, zeroW, lowW_at, sel_low]

theorem vals_o0 (j : Fin 384) (n : Fin 128) :
    vals (F := Ideal) vw c0 c1 (ix2 ⟨j.val, by omega⟩ ⟨128 + n.val, by omega⟩) = if n.val < 64 then 1 else 0 := by
  have := j.isLt
  have := n.isLt
  pointwise [vals, zeroW, rowsOf, onesRow, lowW_at, low_at, sel_low]

theorem vals_c0 (l : Fin 256) (n : Fin 256) :
    vals (F := Ideal) vw c0 c1 (ix2 ⟨384 + l.val, by omega⟩ n) = c0 (ix3 0 l n) := by
  have := l.isLt
  pointwise [vals, zeroW, lowW_at, sel_low]

theorem vals_w1 (j : Fin 384) (n : Fin 128) :
    vals (F := Ideal) vw c0 c1 (ix2 ⟨640 + j.val, by omega⟩ ⟨n.val, by omega⟩) = if n.val < 64 then 0 else vw (ix2 j n) := by
  have := j.isLt
  have := n.isLt
  pointwise [vals, zeroW, lowW_at, sel_low]
  rw [dif_neg (by omega), dif_neg (by omega), dif_pos (by omega)]
  simp only [show 640 + j.val - 384 - 256 = j.val by omega, Fin.eta]

theorem vals_o1 (j : Fin 384) (n : Fin 128) :
    vals (F := Ideal) vw c0 c1 (ix2 ⟨640 + j.val, by omega⟩ ⟨128 + n.val, by omega⟩) = if n.val < 64 then 0 else 1 := by
  have := j.isLt
  have := n.isLt
  pointwise [vals, zeroW, rowsOf, onesRow, lowW_at, low_at, sel_low]
  rw [dif_neg (by omega), dif_neg (by omega), dif_pos (by omega)]
  by_cases h : n.val < 64
  · simp only [h, ↓reduceIte]
    show ((1 : ℝ) : EReal) - ((1 : ℝ) : EReal) = 0
    rw [← EReal.coe_sub, sub_self, EReal.coe_zero]
  · simp [h]

theorem vals_c1 (l : Fin 256) (n : Fin 256) :
    vals (F := Ideal) vw c0 c1 (ix2 ⟨1024 + l.val, by omega⟩ n) = c1 (ix3 0 l n) := by
  have := l.isLt
  pointwise [vals, zeroW, lowW_at, sel_low]
  rw [dif_neg (by omega), dif_neg (by omega), dif_neg (by omega)]
  simp only [show 1024 + l.val - 384 - 256 - 384 = l.val by omega, Fin.eta]
end

theorem queries_at (q : FVec Ideal S128x512 .bf16) (g : Fin 4) (a : Fin 128) (n : Fin 128) :
    queries (F := Ideal) q (ix2 ⟨128 * g.val + a.val, by omega⟩ n) = q (ix2 a ⟨128 * g.val + n.val, by omega⟩) := by
  have := a.isLt
  pointwise [queries]
  fin_cases g
  · simp
  · simp
  · simp; rw [dif_neg (by omega), dif_neg (by omega), dif_pos (by omega)]; simp only [show 256 + a.val - 128 - 128 = a.val by omega, Fin.eta]
  · simp; rw [dif_neg (by omega), dif_neg (by omega), dif_neg (by omega)]; simp only [show 384 + a.val - 128 - 128 - 128 = a.val by omega, Fin.eta]

theorem scores_at (q : FVec Ideal S512x128 .bf16) (k : FVec Ideal S1280x128 .bf16) (i : Fin 512) (j : Fin 1280) :
    scores (F := Ideal) q k (ix2 i j) = ∑ n : Fin 128, q (ix2 i n) * k (ix2 j n) := by
  pointwise [scores]

theorem ninf : Ideal.ofBits .f32 0xFF800000#32 = ⊥ := by simp [Ideal.ofBits, Ideal.ieee]

theorem top_at (h : FVec Ideal S512x640 .f32) (i : Fin 512) :
    top (F := Ideal) h (ix2 i 0) = Finset.univ.fold max ⊥ fun k : Fin 640 => h (ix2 i k) := by
  pointwise [top]
  rw [ninf]

/-- A row's largest score in one head's half, `o` the half's first column. -/
def most (s : FVec Ideal S512x1280 .f32) (o : ℕ) (ho : o ≤ 640) (i : Fin 512) : EReal :=
  Finset.univ.fold max ⊥ fun k : Fin 640 => s (ix2 i ⟨o + k.val, by omega⟩)

/-- A weight: the power of two of a score less the half's largest. -/
def wgt (s : FVec Ideal S512x1280 .f32) (o : ℕ) (ho : o ≤ 640) (i : Fin 512) (k : Fin 640) : EReal :=
  Ideal.exp2 (s (ix2 i ⟨o + k.val, by omega⟩) - most s o ho i)

theorem half0_at (s : FVec Ideal S512x1280 .f32) (i : Fin 512) (k : Fin 640) :
    half0 (F := Ideal) s (ix2 i k) = s (ix2 i ⟨0 + k.val, by omega⟩) := by
  unfold half0
  refine extractStridedSlice_apply _ s _ _ _ fun a => ?_
  fin_cases a <;> simp

theorem half1_at (s : FVec Ideal S512x1280 .f32) (i : Fin 512) (k : Fin 640) :
    half1 (F := Ideal) s (ix2 i k) = s (ix2 i ⟨640 + k.val, by omega⟩) := by
  unfold half1
  refine extractStridedSlice_apply _ s _ _ _ fun a => ?_
  fin_cases a <;> simp

theorem top0_at (s : FVec Ideal S512x1280 .f32) (i : Fin 512) : top (F := Ideal) (half0 s) (ix2 i 0) = most s 0 (by omega) i := by
  rw [top_at]; unfold most
  exact congrArg (fun f => Finset.univ.fold max ⊥ f) (funext fun k => half0_at s i k)

theorem top1_at (s : FVec Ideal S512x1280 .f32) (i : Fin 512) : top (F := Ideal) (half1 s) (ix2 i 0) = most s 640 (by omega) i := by
  rw [top_at]; unfold most
  exact congrArg (fun f => Finset.univ.fold max ⊥ f) (funext fun k => half1_at s i k)

theorem powers0_at (s : FVec Ideal S512x1280 .f32) (i : Fin 512) (k : Fin 640) :
    powers (F := Ideal) (half0 s) (ix2 i k) = wgt s 0 (by omega) i k := by
  pointwise [powers, wgt, top0_at, half0_at]
  rfl

theorem powers1_at (s : FVec Ideal S512x1280 .f32) (i : Fin 512) (k : Fin 640) :
    powers (F := Ideal) (half1 s) (ix2 i k) = wgt s 640 (by omega) i k := by
  pointwise [powers, wgt, top1_at, half1_at]
  rfl

theorem mix_at (s : FVec Ideal S512x1280 .f32) (v : FVec Ideal S1280x256 .bf16) (i : Fin 512) (n : Fin 256) :
    mix (F := Ideal) s v (ix2 i n) = (∑ k : Fin 640, wgt s 0 (by omega) i k * v (ix2 ⟨k.val, by omega⟩ n))
      + ∑ k : Fin 640, wgt s 640 (by omega) i k * v (ix2 ⟨640 + k.val, by omega⟩ n) := by
  pointwise [mix, powers0_at, powers1_at]

theorem normal_at (o : FVec Ideal S512x256 .f32) (t0 t1 : FVec Ideal S512x1 .f32) (i : Fin 512) (n : Fin 128) :
    normal (F := Ideal) o t0 t1 (ix2 i n)
      = Ideal.div (o (ix2 i ⟨n.val, by omega⟩)) (o (ix2 i ⟨128 + n.val, by omega⟩) + if n.val < 64 then t0 (ix2 i 0) else t1 (ix2 i 0)) := by
  pointwise [normal, low_at, sel_low]

/-! ## The distance test -/

theorem near_at (w st : ℕ) (hw : w < 128) (hst : st ≤ 16000) (a : Fin 128) (j : Fin 384) :
    near (BitVec.ofNat 32 w) (BitVec.ofNat 32 st) (ix2 a j)
      = if st + j.val ≤ (128 * w + a.val) + 128 ∧ 128 * w + a.val ≤ (st + j.val) + 128 then 1#1 else 0#1 := by
  have := a.isLt
  have := j.isLt
  rw [← near_word (st + j.val) (128 * w + a.val) (by omega) (by omega)]
  pointwise [near]
  simp only [BitVec.ofNat_add, BitVec.ofNat_mul, BitVec.mul_comm (BitVec.ofNat 32 128)]
  rfl

theorem near4_at (w st : BitVec 32) (g : Fin 4) (a : Fin 128) (j : Fin 384) :
    near4 w st (ix2 ⟨128 * g.val + a.val, by omega⟩ j) = near w st (ix2 a j) := by
  have := a.isLt
  pointwise [near4]
  fin_cases g
  · simp
  · simp
  · simp; rw [dif_neg (by omega), dif_neg (by omega), dif_pos (by omega)]; simp only [show 256 + a.val - 128 - 128 = a.val by omega, Fin.eta]
  · simp; rw [dif_neg (by omega), dif_neg (by omega), dif_neg (by omega)]; simp only [show 384 + a.val - 128 - 128 - 128 = a.val by omega, Fin.eta]

theorem mask_bot : Named.named (F := Ideal) κ "mask" (φ := .f32) 0xF149F2CA#32 = ⊥ := IdealRules.named_const.ideal_named_scalar _ _ _ _ rfl

section
variable (w st : BitVec 32) (s : FVec Ideal S512x1280 .f32)

theorem masked_w0 (i : Fin 512) (j : Fin 384) :
    masked (F := Ideal) w st s (ix2 i ⟨j.val, by omega⟩) = Scalar.select (near4 w st (ix2 i j)) (s (ix2 i ⟨j.val, by omega⟩)) ⊥ := by
  have := j.isLt
  pointwise [masked, mask_bot]

theorem masked_c0 (i : Fin 512) (l : Fin 256) :
    masked (F := Ideal) w st s (ix2 i ⟨384 + l.val, by omega⟩) = s (ix2 i ⟨384 + l.val, by omega⟩) := by
  have := l.isLt
  pointwise [masked, mask_bot]

theorem masked_w1 (i : Fin 512) (j : Fin 384) :
    masked (F := Ideal) w st s (ix2 i ⟨640 + j.val, by omega⟩) = Scalar.select (near4 w st (ix2 i j)) (s (ix2 i ⟨640 + j.val, by omega⟩)) ⊥ := by
  have := j.isLt
  pointwise [masked, mask_bot]
  rw [dif_neg (by omega), dif_neg (by omega), dif_pos (by omega)]
  simp only [show 640 + j.val - 384 - 256 = j.val by omega, Fin.eta]

theorem masked_c1 (i : Fin 512) (l : Fin 256) :
    masked (F := Ideal) w st s (ix2 i ⟨1024 + l.val, by omega⟩) = s (ix2 i ⟨1024 + l.val, by omega⟩) := by
  have := l.isLt
  pointwise [masked, mask_bot]
  rw [dif_neg (by omega), dif_neg (by omega), dif_neg (by omega)]
  simp only [show 1024 + (1024 + l.val - 384 - 256 - 384) = 1024 + l.val by omega, Fin.eta]
end

theorem colOf_at (v : FVec Ideal S1x1x1 .f32) (a : Fin 128) : colOf (F := Ideal) v (ix2 a 0) = v (ix3 0 0 0) := by
  pointwise [colOf]

theorem sink_at (x5 : FVec Ideal S1x8x128 .f32) (h : Fin 8) : sink (F := Ideal) h x5 (ix3 0 0 0) = x5 (ix3 0 h 0) := by
  unfold sink
  show x5 _ = x5 _
  congr 1
  funext a
  apply Fin.ext
  fin_cases a
  · rfl
  · show h.val + 1 * 0 = _; rfl
  · rfl

theorem sinkCol_cases (x y z t : FVec Ideal S1x1x1 .f32) (g : Fin 4) (a : Fin 128) :
    sinkCol (F := Ideal) x y z t (ix2 ⟨128 * g.val + a.val, by omega⟩ 0)
      = if g.val = 0 then x (ix3 0 0 0) else if g.val = 1 then y (ix3 0 0 0) else if g.val = 2 then z (ix3 0 0 0) else t (ix3 0 0 0) := by
  have := a.isLt
  pointwise [sinkCol, colOf_at]
  fin_cases g
  · simp
  · simp
  · simp; rw [if_neg (by omega), if_neg (by omega), if_pos (by omega)]
  · simp; rw [if_neg (by omega), if_neg (by omega), if_neg (by omega)]

/-- The sinks of four heads, `o` the first. -/
theorem sinkCol_at (x5 : FVec Ideal S1x8x128 .f32) (o : ℕ) (ho : o + 3 < 8) (g : Fin 4) (a : Fin 128) :
    sinkCol (F := Ideal) (sink ⟨o, by omega⟩ x5) (sink ⟨o + 1, by omega⟩ x5) (sink ⟨o + 2, by omega⟩ x5) (sink ⟨o + 3, by omega⟩ x5)
      (ix2 ⟨128 * g.val + a.val, by omega⟩ 0) = x5 (ix3 0 ⟨o + g.val, by omega⟩ 0) := by
  rw [sinkCol_cases]
  simp only [sink_at]
  fin_cases g <;> rfl

theorem word_eq (i : grid0.Coords) (r : Fin 16) : word i r = BitVec.ofNat 32 (16 * (i 0).val + r.val) := by
  unfold word
  rw [BitVec.ofNat_add, BitVec.ofNat_mul, BitVec.mul_comm]
  rfl

/-- The first position of the window of block `b`. -/
def first (b : ℕ) : ℕ := min 16000 ((b - 1) * 128)

theorem start_word : ∀ b : Fin 128, Scalar.minsi 16000#32 (Scalar.maxsi 0#32 (Scalar.muli (Scalar.subi (BitVec.ofNat 32 b.val) 1#32) 128#32))
    = BitVec.ofNat 32 (first b.val) := by decide

theorem coord_lt (i : grid0.Coords) : (i 0).val < 8 := (i 0).isLt

theorem startWord_eq (i : grid0.Coords) (r : Fin 16) : startWord i r = BitVec.ofNat 32 (first (16 * (i 0).val + r.val)) := by
  have := coord_lt i
  have := r.isLt
  unfold startWord
  rw [word_eq]
  exact start_word ⟨16 * (i 0).val + r.val, by omega⟩

theorem first_le (b : ℕ) : first b ≤ 16000 := min_le_left _ _

theorem window_at (i : grid0.Coords) (r : Fin 16) (x : FVec Ideal S16384x128 .bf16) (j : Fin 384) (n : Fin 128) :
    window (F := Ideal) i r x (ix2 j n)
      = x (ix2 ⟨first (16 * (i 0).val + r.val) + j.val, by have := first_le (16 * (i 0).val + r.val); omega⟩ n) := by
  have h := startWord_eq i r
  have hl := first_le (16 * (i 0).val + r.val)
  unfold window
  show x _ = x _
  congr 1
  funext a
  apply Fin.ext
  fin_cases a
  · show (startWord i r).toNat + 1 * j.val = _
    rw [h, BitVec.toNat_ofNat, Nat.mod_eq_of_lt (by omega), one_mul]
    rfl
  · show 0 + 1 * n.val = _
    rw [zero_add, one_mul]
    rfl

/-! ## A block's result -/

section
variable (s : FVec Ideal S512x1280 .f32) (vw : FVec Ideal S384x128 .bf16) (c0 c1 : FVec Ideal S1x256x256 .bf16)
  (k0 k1 : FVec Ideal S512x1 .f32) (i : Fin 512) (n : Fin 128)

/-- A lane of head 0: the other head's rows have zeros there. -/
theorem result_low (hn : n.val < 64) (h1 : ∀ l : Fin 256, c0 (ix3 0 l ⟨128 + n.val, by omega⟩) = 1)
    (z : ∀ l : Fin 256, c1 (ix3 0 l ⟨n.val, by omega⟩) = 0) (z' : ∀ l : Fin 256, c1 (ix3 0 l ⟨128 + n.val, by omega⟩) = 0) :
    result (F := Ideal) s (vals vw c0 c1) k0 k1 (ix2 i n)
      = Ideal.div ((∑ j : Fin 384, wgt s 0 (by omega) i ⟨j.val, by omega⟩ * vw (ix2 j n))
          + ∑ l : Fin 256, wgt s 0 (by omega) i ⟨384 + l.val, by omega⟩ * c0 (ix3 0 l ⟨n.val, by omega⟩))
        ((∑ j : Fin 384, wgt s 0 (by omega) i ⟨j.val, by omega⟩) + (∑ l : Fin 256, wgt s 0 (by omega) i ⟨384 + l.val, by omega⟩)
          + Ideal.exp2 (k0 (ix2 i 0) - most s 0 (by omega) i)) := by
  unfold result
  rw [normal_at, if_pos hn, mix_at, mix_at, sum_640, sum_640, sum_640, sum_640]
  have e : exp2 (subf k0 (top (F := Ideal) (half0 s))) (ix2 i 0) = Ideal.exp2 (k0 (ix2 i 0) - most s 0 (by omega) i) := by
    rw [← top0_at]; rfl
  rw [e]
  have w0 := fun j : Fin 384 => vals_w0 vw c0 c1 j n
  have o0 := fun j : Fin 384 => vals_o0 vw c0 c1 j n
  have w1 := fun j : Fin 384 => vals_w1 vw c0 c1 j n
  have o1 := fun j : Fin 384 => vals_o1 vw c0 c1 j n
  have p0 := fun l : Fin 256 => vals_c0 vw c0 c1 l
  have p1 := fun l : Fin 256 => vals_c1 vw c0 c1 l
  simp only [← Nat.add_assoc, Nat.reduceAdd, w0, o0, w1, o1, p0, p1, if_pos hn, h1, z, z', mul_zero, mul_one, Finset.sum_const_zero, add_zero]

/-- A lane of head 1. -/
theorem result_high (hn : ¬ n.val < 64) (h1 : ∀ l : Fin 256, c1 (ix3 0 l ⟨128 + n.val, by omega⟩) = 1)
    (z : ∀ l : Fin 256, c0 (ix3 0 l ⟨n.val, by omega⟩) = 0) (z' : ∀ l : Fin 256, c0 (ix3 0 l ⟨128 + n.val, by omega⟩) = 0) :
    result (F := Ideal) s (vals vw c0 c1) k0 k1 (ix2 i n)
      = Ideal.div ((∑ j : Fin 384, wgt s 640 (by omega) i ⟨j.val, by omega⟩ * vw (ix2 j n))
          + ∑ l : Fin 256, wgt s 640 (by omega) i ⟨384 + l.val, by omega⟩ * c1 (ix3 0 l ⟨n.val, by omega⟩))
        ((∑ j : Fin 384, wgt s 640 (by omega) i ⟨j.val, by omega⟩) + (∑ l : Fin 256, wgt s 640 (by omega) i ⟨384 + l.val, by omega⟩)
          + Ideal.exp2 (k1 (ix2 i 0) - most s 640 (by omega) i)) := by
  unfold result
  rw [normal_at, if_neg hn, mix_at, mix_at, sum_640, sum_640, sum_640, sum_640]
  have e : exp2 (subf k1 (top (F := Ideal) (half1 s))) (ix2 i 0) = Ideal.exp2 (k1 (ix2 i 0) - most s 640 (by omega) i) := by
    rw [← top1_at]; rfl
  rw [e]
  have w0 := fun j : Fin 384 => vals_w0 vw c0 c1 j n
  have o0 := fun j : Fin 384 => vals_o0 vw c0 c1 j n
  have w1 := fun j : Fin 384 => vals_w1 vw c0 c1 j n
  have o1 := fun j : Fin 384 => vals_o1 vw c0 c1 j n
  have p0 := fun l : Fin 256 => vals_c0 vw c0 c1 l
  have p1 := fun l : Fin 256 => vals_c1 vw c0 c1 l
  simp only [← Nat.add_assoc, Nat.reduceAdd, w0, o0, w1, o1, p0, p1, if_neg hn, h1, z, z', mul_zero, mul_one, Finset.sum_const_zero, zero_add]
end

end Cert.KernelIdeal.Attn

end
-- ==== Proof.AttnValue.lean ====
/- A block of the attention kernel over the extended reals: the attention of the real scores. -/
module

public import proofs.«01_k».proof.Proof.AttnPure

@[expose] public section

set_option maxRecDepth 16384

noncomputable section

namespace Cert.KernelIdeal.Attn

open Cert.KernelIdeal Cert.KernelIdeal.Gen Cert.AttnMath Idealize.ShloMosaic Idealize.ShloMosaic.TcCoe Idealize.SL.Sem

section
variable (s : FVec Ideal S512x1280 .f32) (o : ℕ) (ho : o ≤ 640) (R : Fin 512) (P : Fin 384 → Prop) [DecidablePred P]
  (S : Fin 384 → ℝ) (T : Fin 256 → ℝ)
  (hw : ∀ j : Fin 384, s (ix2 R ⟨o + j.val, by omega⟩) = if P j then ((S j * (1 / Real.log 2) : ℝ) : EReal) else ⊥)
  (hc : ∀ l : Fin 256, s (ix2 R ⟨o + (384 + l.val), by omega⟩) = ((T l * (1 / Real.log 2) : ℝ) : EReal))
include hw hc

/-- The largest score of a row's half is a real. -/
theorem most_real : ∃ m : ℝ, most s o ho R = (m : EReal) := by
  refine fold_max_real _ ⟨384, by omega⟩ ?_ fun k => ?_
  · have := hc ⟨0, by omega⟩
    simp only [Nat.add_zero] at this
    show s (ix2 R ⟨o + 384, by omega⟩) ≠ ⊥
    rw [this]; exact EReal.coe_ne_bot _
  · rcases Nat.lt_or_ge k.val 384 with h | h
    · have := hw ⟨k.val, h⟩
      simp only at this
      rw [this]; split
      · exact EReal.coe_ne_top _
      · exact bot_ne_top
    · have := hc ⟨k.val - 384, by omega⟩
      simp only [show 384 + (k.val - 384) = k.val by omega] at this
      rw [this]; exact EReal.coe_ne_top _

theorem wgt_near (m : ℝ) (hm : most s o ho R = (m : EReal)) (j : Fin 384) :
    wgt s o ho R ⟨j.val, by omega⟩ = if P j then ((Real.rpow 2 (-m) * Real.exp (S j) : ℝ) : EReal) else 0 := by
  unfold wgt
  rw [hm]
  show Ideal.exp2 (s (ix2 R ⟨o + j.val, by omega⟩) - (m : EReal)) = _
  rw [hw]
  split
  · exact exp2_shift _ _
  · rw [bot_sub_coe]; exact Ideal.exp2_bot

theorem wgt_ctx (m : ℝ) (hm : most s o ho R = (m : EReal)) (l : Fin 256) :
    wgt s o ho R ⟨384 + l.val, by omega⟩ = ((Real.rpow 2 (-m) * Real.exp (T l) : ℝ) : EReal) := by
  unfold wgt
  rw [hm]
  show Ideal.exp2 (s (ix2 R ⟨o + (384 + l.val), by omega⟩) - (m : EReal)) = _
  rw [hc]
  exact exp2_shift _ _

/-- The quotient of a row's half is the attention over the whole sequence. -/
theorem half_attn {N : ℕ} (Q : Fin N → Prop) [DecidablePred Q] (e : Fin 384 → ℕ) (S' : Fin N → ℝ) (σ : ℝ) (W : Fin N → EReal)
    (C : Fin 256 → EReal) (v : Fin 384 → EReal)
    (hpos : ∀ j, P j → ∃ h : e j < N, Q ⟨e j, h⟩ ∧ S j = S' ⟨e j, h⟩ ∧ v j = W ⟨e j, h⟩)
    (inj : ∀ i j, P i → P j → e i = e j → i = j) (sur : ∀ k, Q k → ∃ j, P j ∧ e j = k.val) :
    Ideal.div ((∑ j : Fin 384, wgt s o ho R ⟨j.val, by omega⟩ * v j) + ∑ l : Fin 256, wgt s o ho R ⟨384 + l.val, by omega⟩ * C l)
      ((∑ j : Fin 384, wgt s o ho R ⟨j.val, by omega⟩) + (∑ l : Fin 256, wgt s o ho R ⟨384 + l.val, by omega⟩)
        + Ideal.exp2 (((σ * (1 / Real.log 2) : ℝ) : EReal) - most s o ho R))
      = attn Q S' T σ W C := by
  obtain ⟨m, hm⟩ := most_real s o ho R P S T hw hc
  rw [← attn_of_quotient P Q e S' T σ W C S v hpos inj sur (Real.rpow 2 (-m)) (Real.rpow_pos_of_pos (by norm_num) _),
    ← total_window P Q e S' T σ W S v hpos inj sur (Real.rpow 2 (-m)), hm, exp2_shift]
  refine congrArg₂ Ideal.div (congrArg₂ (· + ·) ?_ ?_) (congrArg (· + _) (congrArg₂ (· + ·) ?_ ?_))
  · exact Finset.sum_congr rfl fun j _ => by rw [wgt_near s o ho R P S T hw hc m hm]
  · exact Finset.sum_congr rfl fun l _ => by rw [wgt_ctx s o ho R P S T hw hc m hm]
  · exact Finset.sum_congr rfl fun j _ => by rw [wgt_near s o ho R P S T hw hc m hm]
  · exact Finset.sum_congr rfl fun l _ => by rw [wgt_ctx s o ho R P S T hw hc m hm]

end

/-! ## A block -/

theorem ld_kc (x3 : FVec Ideal S2x256x128 .bf16) (n : Fin 2) (hb : ∀ ax, (![n.val, 0, 0] : Fin 3 → Nat) ax + S1x256x128.size ax ≤ S2x256x128.size ax) (l : Fin 256) (w : Fin 128) :
    (View.ld x3 (Rect.unit (s := S2x256x128) ![n.val, 0, 0] S1x256x128.size hb) : Vec Ideal S1x256x128 .bf16) (ix3 0 l w) = x3 (ix3 n l w) := by
  show x3 _ = x3 _
  congr 1
  funext ax
  apply Fin.ext
  fin_cases ax
  · show n.val + 1 * 0 = n.val; omega
  · show 0 + 1 * l.val = l.val; omega
  · show 0 + 1 * w.val = w.val; omega

theorem ld_vc (x4 : FVec Ideal S2x256x256 .bf16) (n : Fin 2) (hb : ∀ ax, (![n.val, 0, 0] : Fin 3 → Nat) ax + S1x256x256.size ax ≤ S2x256x256.size ax) (l : Fin 256) (w : Fin 256) :
    (View.ld x4 (Rect.unit (s := S2x256x256) ![n.val, 0, 0] S1x256x256.size hb) : Vec Ideal S1x256x256 .bf16) (ix3 0 l w) = x4 (ix3 n l w) := by
  show x4 _ = x4 _
  congr 1
  funext ax
  apply Fin.ext
  fin_cases ax
  · show n.val + 1 * 0 = n.val; omega
  · show 0 + 1 * l.val = l.val; omega
  · show 0 + 1 * w.val = w.val; omega

theorem ld_kc0 (x3 : FVec Ideal S2x256x128 .bf16) (l : Fin 256) (w : Fin 128) :
    (View.ld x3 (Rect.unit (s := S2x256x128) ![0, 0, 0] S1x256x128.size inb_S2x256x128_S1x256x128_0_0_0) : Vec Ideal S1x256x128 .bf16) (ix3 0 l w)
      = x3 (ix3 0 l w) := ld_kc x3 0 _ l w

theorem ld_kc1 (x3 : FVec Ideal S2x256x128 .bf16) (l : Fin 256) (w : Fin 128) :
    (View.ld x3 (Rect.unit (s := S2x256x128) ![1, 0, 0] S1x256x128.size inb_S2x256x128_S1x256x128_1_0_0) : Vec Ideal S1x256x128 .bf16) (ix3 0 l w)
      = x3 (ix3 1 l w) := ld_kc x3 1 _ l w

/-- A window place that the query at place `a` of block `b` sees. -/
def Sees (b : ℕ) (a : Fin 128) (j : Fin 384) : Prop :=
  first b + j.val ≤ (128 * b + a.val) + 128 ∧ 128 * b + a.val ≤ (first b + j.val) + 128

instance (b : ℕ) (a : Fin 128) : DecidablePred (Sees b a) := fun j => inferInstanceAs (Decidable (_ ∧ _))

section
variable (i : grid0.Coords) (r : Fin 16) (x0 : FVec Ideal S2048x512 .bf16) (x1 x2 : FVec Ideal S16384x128 .bf16)
  (x3 : FVec Ideal S2x256x128 .bf16) (x4 : FVec Ideal S2x256x256 .bf16) (x5 : FVec Ideal S1x8x128 .f32)
  (q : Fin 16384 → Fin 512 → ℝ) (k : Fin 16384 → Fin 128 → ℝ) (kc : Fin 256 → Fin 128 → ℝ) (sk : Fin 8 → ℝ)
  (v : Fin 16384 → Fin 128 → EReal) (vc : Fin 256 → Fin 128 → EReal)

theorem block_lt : 16 * (i 0).val + r.val < 128 := by have := coord_lt i; omega

/-- The position of place `a` of block `r` of the grid point. -/
def posOf (a : Fin 128) : Fin 16384 := ⟨(16 * (i 0).val + r.val) * 128 + a.val, by have := block_lt i r; omega⟩

/-- The position of window place `j`. -/
def winPos (j : Fin 384) : Fin 16384 := ⟨first (16 * (i 0).val + r.val) + j.val, by have := first_le (16 * (i 0).val + r.val); omega⟩

/-- What the point's input blocks hold. -/
structure Holds : Prop where
  q : ∀ (a : Fin 128) (g : Fin 4) (kv : Fin 2) (d : Fin 64),
    x0 (ix2 ⟨128 * r.val + a.val, by omega⟩ ⟨128 * g.val + 64 * kv.val + d.val, by omega⟩)
      = ((q (posOf i r a) ⟨kv.val * 256 + g.val * 64 + d.val, by omega⟩ * (1 / 8 * (1 / Real.log 2)) : ℝ) : EReal)
  k : ∀ p n, x1 (ix2 p n) = (k p n : EReal)
  v : ∀ p n, x2 (ix2 p n) = v p n
  kc0 : ∀ l n, x3 (ix3 0 l n) = if n.val < 64 then (kc l n : EReal) else 0
  kc1 : ∀ l n, x3 (ix3 1 l n) = if n.val < 64 then 0 else (kc l n : EReal)
  vc0 : ∀ (l : Fin 256) (n : Fin 128), x4 (ix3 0 l ⟨n.val, by omega⟩) = if n.val < 64 then vc l n else 0
  vc1 : ∀ (l : Fin 256) (n : Fin 128), x4 (ix3 1 l ⟨n.val, by omega⟩) = if n.val < 64 then 0 else vc l n
  ones0 : ∀ (l : Fin 256) (n : Fin 128), x4 (ix3 0 l ⟨128 + n.val, by omega⟩) = if n.val < 64 then (1 : EReal) else 0
  ones1 : ∀ (l : Fin 256) (n : Fin 128), x4 (ix3 1 l ⟨128 + n.val, by omega⟩) = 1 - if n.val < 64 then (1 : EReal) else 0
  sink : ∀ h, x5 (ix3 0 h 0) = ((sk h * (1 / Real.log 2) : ℝ) : EReal)

variable (H : Holds i r x0 x1 x2 x3 x4 x5 q k kc sk v vc)
include H

/-- A row of the queries. -/
theorem query_at (g : Fin 4) (a : Fin 128) (kv : Fin 2) (d : Fin 64) :
    queries (F := Ideal) (View.ld x0 (Rect.unit (s := S2048x512) ![128 * r.val, 0] S128x512.size (q_inb r)))
      (ix2 ⟨128 * g.val + a.val, by omega⟩ ⟨64 * kv.val + d.val, by omega⟩)
      = ((q (posOf i r a) ⟨kv.val * 256 + g.val * 64 + d.val, by omega⟩ * (1 / 8 * (1 / Real.log 2)) : ℝ) : EReal) := by
  rw [queries_at, ← H.q]
  show x0 _ = x0 _
  congr 1
  funext ax
  apply Fin.ext
  fin_cases ax
  · show 128 * r.val + 1 * a.val = 128 * r.val + a.val; omega
  · show 0 + 1 * (128 * g.val + (64 * kv.val + d.val)) = 128 * g.val + 64 * kv.val + d.val; omega

/-- 64 products of a query and a key, in the logarithm's unit. -/
theorem products (g : Fin 4) (a : Fin 128) (kv : Fin 2) (y : Fin 64 → ℝ) :
    (∑ d : Fin 64, queries (F := Ideal) (View.ld x0 (Rect.unit (s := S2048x512) ![128 * r.val, 0] S128x512.size (q_inb r)))
      (ix2 ⟨128 * g.val + a.val, by omega⟩ ⟨64 * kv.val + d.val, by omega⟩) * (y d : EReal))
      = (((∑ d : Fin 64, y d * (q (posOf i r a) ⟨kv.val * 256 + g.val * 64 + d.val, by omega⟩ * (1 / 8))) * (1 / Real.log 2) : ℝ) : EReal) := by
  rw [Finset.sum_mul, coe_sum]
  refine Finset.sum_congr rfl fun d _ => ?_
  rw [query_at i r x0 x1 x2 x3 x4 x5 q k kc sk v vc H, ← EReal.coe_mul]
  congr 1; ring

theorem score_w0 (g : Fin 4) (a : Fin 128) (j : Fin 384) :
    blockScores (F := Ideal) i r x0 x1 x3 (ix2 ⟨128 * g.val + a.val, by omega⟩ ⟨j.val, by omega⟩)
      = if Sees (16 * (i 0).val + r.val) a j then ((keyScore q k (posOf i r a) 0 g (winPos i r j) * (1 / Real.log 2) : ℝ) : EReal) else ⊥ := by
  unfold blockScores
  rw [masked_w0, near4_at, word_eq, startWord_eq, near_at _ _ (block_lt i r) (first_le _), scores_at]
  by_cases h : Sees (16 * (i 0).val + r.val) a j
  · have h' := h
    unfold Sees at h
    rw [if_pos h, if_pos h', show ∀ x y : EReal, Scalar.select 1#1 x y = x from fun _ _ => rfl]
    refine Eq.trans ?_ (products i r x0 x1 x2 x3 x4 x5 q k kc sk v vc H g a 0 fun d => k (winPos i r j) ⟨(0 : Fin 2).val * 64 + d.val, by omega⟩)
    refine (Finset.sum_congr rfl fun n _ => by rw [keys_w0]).trans ((sum_low _ _).trans ?_)
    refine Finset.sum_congr rfl fun d _ => congrArg₂ (· * ·) (congrArg _ ?_) ?_
    · exact congrArg _ (Fin.ext (by show d.val = 64 * 0 + d.val; omega))
    · rw [window_at, H.k]
      exact congrArg (fun n => ((k _ n : ℝ) : EReal)) (Fin.ext (by show d.val = 0 * 64 + d.val; omega))
  · rw [if_neg h]; unfold Sees at h; rw [if_neg h]; rfl

theorem score_w1 (g : Fin 4) (a : Fin 128) (j : Fin 384) :
    blockScores (F := Ideal) i r x0 x1 x3 (ix2 ⟨128 * g.val + a.val, by omega⟩ ⟨640 + j.val, by omega⟩)
      = if Sees (16 * (i 0).val + r.val) a j then ((keyScore q k (posOf i r a) 1 g (winPos i r j) * (1 / Real.log 2) : ℝ) : EReal) else ⊥ := by
  unfold blockScores
  rw [masked_w1, near4_at, word_eq, startWord_eq, near_at _ _ (block_lt i r) (first_le _), scores_at]
  by_cases h : Sees (16 * (i 0).val + r.val) a j
  · have h' := h
    unfold Sees at h
    rw [if_pos h, if_pos h', show ∀ x y : EReal, Scalar.select 1#1 x y = x from fun _ _ => rfl]
    refine Eq.trans ?_ (products i r x0 x1 x2 x3 x4 x5 q k kc sk v vc H g a 1 fun d => k (winPos i r j) ⟨(1 : Fin 2).val * 64 + d.val, by omega⟩)
    refine (Finset.sum_congr rfl fun n _ => by rw [keys_w1]).trans ((sum_high _ _).trans ?_)
    refine Finset.sum_congr rfl fun d _ => congrArg₂ (· * ·) rfl ?_
    rw [window_at, H.k]
    rfl
  · rw [if_neg h]; unfold Sees at h; rw [if_neg h]; rfl

theorem score_c0 (g : Fin 4) (a : Fin 128) (l : Fin 256) :
    blockScores (F := Ideal) i r x0 x1 x3 (ix2 ⟨128 * g.val + a.val, by omega⟩ ⟨384 + l.val, by omega⟩)
      = ((ctxScore q kc (posOf i r a) 0 g l * (1 / Real.log 2) : ℝ) : EReal) := by
  unfold blockScores
  rw [masked_c0, scores_at]
  refine Eq.trans ?_ (products i r x0 x1 x2 x3 x4 x5 q k kc sk v vc H g a 0 fun d => kc l ⟨(0 : Fin 2).val * 64 + d.val, by omega⟩)
  refine (Finset.sum_congr rfl fun n _ => by rw [keys_c0, ld_kc0, H.kc0]).trans ((sum_low _ _).trans ?_)
  refine Finset.sum_congr rfl fun d _ => congrArg₂ (· * ·) (congrArg _ ?_) ?_
  · exact congrArg _ (Fin.ext (by show d.val = 64 * 0 + d.val; omega))
  · exact congrArg (fun n => ((kc _ n : ℝ) : EReal)) (Fin.ext (by show d.val = 0 * 64 + d.val; omega))

theorem score_c1 (g : Fin 4) (a : Fin 128) (l : Fin 256) :
    blockScores (F := Ideal) i r x0 x1 x3 (ix2 ⟨128 * g.val + a.val, by omega⟩ ⟨1024 + l.val, by omega⟩)
      = ((ctxScore q kc (posOf i r a) 1 g l * (1 / Real.log 2) : ℝ) : EReal) := by
  unfold blockScores
  rw [masked_c1, scores_at]
  refine Eq.trans ?_ (products i r x0 x1 x2 x3 x4 x5 q k kc sk v vc H g a 1 fun d => kc l ⟨(1 : Fin 2).val * 64 + d.val, by omega⟩)
  refine (Finset.sum_congr rfl fun n _ => by rw [keys_c1, ld_kc1, H.kc1]).trans ((sum_high _ _).trans ?_)
  exact Finset.sum_congr rfl fun d _ => congrArg₂ (· * ·) rfl rfl

omit H in
theorem sees_near (a : Fin 128) (j : Fin 384) (h : Sees (16 * (i 0).val + r.val) a j) : Near (posOf i r a) (winPos i r j) := by
  unfold Sees at h
  unfold Near posOf winPos
  simp only
  omega

omit H in
theorem sees_inj (a : Fin 128) (j j' : Fin 384) (h : (winPos i r j).val = (winPos i r j').val) : j = j' := by
  unfold winPos at h
  simp only at h
  exact Fin.ext (by omega)

omit H in
theorem sees_sur (a : Fin 128) (t : Fin 16384) (h : Near (posOf i r a) t) :
    ∃ j, Sees (16 * (i 0).val + r.val) a j ∧ (winPos i r j).val = t.val := by
  have hb := block_lt i r
  have hf : first (16 * (i 0).val + r.val) = min 16000 ((16 * (i 0).val + r.val - 1) * 128) := rfl
  generalize hbb : 16 * (i 0).val + r.val = b at *
  unfold Near posOf at h
  simp only [hbb] at h
  have := t.isLt
  refine ⟨⟨t.val - first b, by omega⟩, ?_, ?_⟩
  · unfold Sees; simp only; omega
  · unfold winPos; simp only [hbb]; omega

/-- A block's element is the attention at its position. -/
theorem block_low (g : Fin 4) (a : Fin 128) (d : Fin 64) :
    block (F := Ideal) i r x0 x1 x2 x3 x4 x5 (ix2 ⟨128 * g.val + a.val, by omega⟩ ⟨64 * (0 : Fin 2).val + d.val, by omega⟩)
      = spec q k kc sk v vc (posOf i r a) 0 g d := by
  have hn : 64 * (0 : Fin 2).val + d.val < 64 := by show 64 * 0 + d.val < 64; omega
  unfold block blockVals
  have w0 : ∀ l w, (View.ld x4 (Rect.unit (s := S2x256x256) ![0, 0, 0] S1x256x256.size inb_S2x256x256_S1x256x256_0_0_0) : Vec Ideal S1x256x256 .bf16)
      (ix3 0 l w) = x4 (ix3 0 l w) := fun l w => ld_vc x4 0 _ l w
  have w1 : ∀ l w, (View.ld x4 (Rect.unit (s := S2x256x256) ![1, 0, 0] S1x256x256.size inb_S2x256x256_S1x256x256_1_0_0) : Vec Ideal S1x256x256 .bf16)
      (ix3 0 l w) = x4 (ix3 1 l w) := fun l w => ld_vc x4 1 _ l w
  generalize (View.ld x4 (Rect.unit (s := S2x256x256) ![0, 0, 0] S1x256x256.size inb_S2x256x256_S1x256x256_0_0_0) : Vec Ideal S1x256x256 .bf16) = c0 at w0 ⊢
  generalize (View.ld x4 (Rect.unit (s := S2x256x256) ![1, 0, 0] S1x256x256.size inb_S2x256x256_S1x256x256_1_0_0) : Vec Ideal S1x256x256 .bf16) = c1 at w1 ⊢
  rw [result_low _ _ c0 c1 _ _ _ _ hn (fun l => (w0 l _).trans ((H.ones0 l _).trans (if_pos hn)))
    (fun l => (w1 l _).trans ((H.vc1 l _).trans (if_pos hn)))
    (fun l => (w1 l _).trans ((H.ones1 l _).trans (by rw [if_pos hn]; exact EReal.sub_self (by decide) (by decide))))]
  rw [show sinkCol (F := Ideal) (sink 0 x5) (sink 1 x5) (sink 2 x5) (sink 3 x5) (ix2 ⟨128 * g.val + a.val, by omega⟩ 0) = _ from
    (sinkCol_at x5 0 (by omega) g a).trans (H.sink _)]
  have hv : ∀ l : Fin 256, c0 (ix3 0 l ⟨64 * (0 : Fin 2).val + d.val, by omega⟩) = vc l ⟨(0 : Fin 2).val * 64 + d.val, by omega⟩ := fun l =>
    (w0 l _).trans ((H.vc0 l ⟨64 * (0 : Fin 2).val + d.val, by omega⟩).trans ((if_pos hn).trans (congrArg _ (Fin.ext (by show 64 * 0 + d.val = 0 * 64 + d.val; omega)))))
  simp only [hv]
  refine (half_attn (blockScores i r x0 x1 x3) 0 (by omega) ⟨128 * g.val + a.val, by omega⟩ (Sees (16 * (i 0).val + r.val) a)
    (fun j => keyScore q k (posOf i r a) 0 g (winPos i r j)) (fun l => ctxScore q kc (posOf i r a) 0 g l) ?_ ?_
    (Near (posOf i r a)) (fun j => (winPos i r j).val) (keyScore q k (posOf i r a) 0 g) _ (fun t => v t ⟨(0 : Fin 2).val * 64 + d.val, by omega⟩) _ _ ?_ ?_ ?_).trans ?_
  · intro j
    rw [← score_w0 i r x0 x1 x2 x3 x4 x5 q k kc sk v vc H]
    exact congrArg _ (congrArg _ (Fin.ext (Nat.zero_add _)))
  · intro l
    rw [← score_c0 i r x0 x1 x2 x3 x4 x5 q k kc sk v vc H]
    exact congrArg _ (congrArg _ (Fin.ext (Nat.zero_add _)))
  · intro j hj
    refine ⟨(winPos i r j).isLt, sees_near i r a j hj, rfl, ?_⟩
    rw [window_at, H.v]
    exact congrArg _ (Fin.ext (by show 64 * 0 + d.val = 0 * 64 + d.val; omega))
  · exact fun j j' _ _ h => sees_inj i r a j j' h
  · exact fun t ht => sees_sur i r a t ht
  · rfl

theorem block_high (g : Fin 4) (a : Fin 128) (d : Fin 64) :
    block (F := Ideal) i r x0 x1 x2 x3 x4 x5 (ix2 ⟨128 * g.val + a.val, by omega⟩ ⟨64 * (1 : Fin 2).val + d.val, by omega⟩)
      = spec q k kc sk v vc (posOf i r a) 1 g d := by
  have hn : ¬ 64 * (1 : Fin 2).val + d.val < 64 := by show ¬ 64 * 1 + d.val < 64; omega
  unfold block blockVals
  have w0 : ∀ l w, (View.ld x4 (Rect.unit (s := S2x256x256) ![0, 0, 0] S1x256x256.size inb_S2x256x256_S1x256x256_0_0_0) : Vec Ideal S1x256x256 .bf16)
      (ix3 0 l w) = x4 (ix3 0 l w) := fun l w => ld_vc x4 0 _ l w
  have w1 : ∀ l w, (View.ld x4 (Rect.unit (s := S2x256x256) ![1, 0, 0] S1x256x256.size inb_S2x256x256_S1x256x256_1_0_0) : Vec Ideal S1x256x256 .bf16)
      (ix3 0 l w) = x4 (ix3 1 l w) := fun l w => ld_vc x4 1 _ l w
  generalize (View.ld x4 (Rect.unit (s := S2x256x256) ![0, 0, 0] S1x256x256.size inb_S2x256x256_S1x256x256_0_0_0) : Vec Ideal S1x256x256 .bf16) = c0 at w0 ⊢
  generalize (View.ld x4 (Rect.unit (s := S2x256x256) ![1, 0, 0] S1x256x256.size inb_S2x256x256_S1x256x256_1_0_0) : Vec Ideal S1x256x256 .bf16) = c1 at w1 ⊢
  rw [result_high _ _ c0 c1 _ _ _ _ hn (fun l => (w1 l _).trans ((H.ones1 l _).trans (by rw [if_neg hn]; exact sub_zero _)))
    (fun l => (w0 l _).trans ((H.vc0 l _).trans (if_neg hn)))
    (fun l => (w0 l _).trans ((H.ones0 l _).trans (if_neg hn)))]
  rw [show sinkCol (F := Ideal) (sink 4 x5) (sink 5 x5) (sink 6 x5) (sink 7 x5) (ix2 ⟨128 * g.val + a.val, by omega⟩ 0) = _ from
    (sinkCol_at x5 4 (by omega) g a).trans (H.sink _)]
  have hv : ∀ l : Fin 256, c1 (ix3 0 l ⟨64 * (1 : Fin 2).val + d.val, by omega⟩) = vc l ⟨(1 : Fin 2).val * 64 + d.val, by omega⟩ := fun l =>
    (w1 l _).trans ((H.vc1 l ⟨64 * (1 : Fin 2).val + d.val, by omega⟩).trans (if_neg hn))
  simp only [hv]
  refine (half_attn (blockScores i r x0 x1 x3) 640 (by omega) ⟨128 * g.val + a.val, by omega⟩ (Sees (16 * (i 0).val + r.val) a)
    (fun j => keyScore q k (posOf i r a) 1 g (winPos i r j)) (fun l => ctxScore q kc (posOf i r a) 1 g l) ?_ ?_
    (Near (posOf i r a)) (fun j => (winPos i r j).val) (keyScore q k (posOf i r a) 1 g) _ (fun t => v t ⟨(1 : Fin 2).val * 64 + d.val, by omega⟩) _ _ ?_ ?_ ?_).trans ?_
  · exact fun j => score_w1 i r x0 x1 x2 x3 x4 x5 q k kc sk v vc H g a j
  · intro l
    rw [← score_c1 i r x0 x1 x2 x3 x4 x5 q k kc sk v vc H]
    exact congrArg _ (congrArg _ (Fin.ext (by show 640 + (384 + l.val) = 1024 + l.val; omega)))
  · intro j hj
    refine ⟨(winPos i r j).isLt, sees_near i r a j hj, rfl, ?_⟩
    rw [window_at, H.v]
    rfl
  · exact fun j j' _ _ h => sees_inj i r a j j' h
  · exact fun t ht => sees_sur i r a t ht
  · rfl

end

end Cert.KernelIdeal.Attn

end
-- ==== Proof.AttnHost.lean ====
/- The attention kernel's prepared arrays, read at an index: what the host operations leave for the grid. -/
module

public import proofs.«01_k».proof.Proof.AttnPure
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD)

theorem host_k (p : Fin 16384) (n : Fin 128) :
    (V m c main_v62 : FVec Ideal S16384x128 .bf16) (ix2 p n) = (m ((c : Thread nD τ).loc main_arg1) : FVec Ideal S1x16384x128 .f32) (ix3 0 p n) := by
  unfold V
  after_reads_at

theorem host_v (p : Fin 16384) (n : Fin 128) :
    (V m c main_v64 : FVec Ideal S16384x128 .bf16) (ix2 p n) = (m ((c : Thread nD τ).loc main_arg2) : FVec Ideal S1x16384x128 .f32) (ix3 0 p n) := by
  unfold V
  after_reads_at

/-- The scale's factor: one over the logarithm of two. -/
theorem unit_bits : Ideal.div (Ideal.ofBits .f32 1065353216#32) (Ideal.log (Ideal.ofBits .f32 1073741824#32)) = ((1 / Real.log 2 : ℝ) : EReal) := by
  have h1 : Ideal.ofBits .f32 1065353216#32 = ((1 : ℝ) : EReal) := by
    simp [Ideal.ofBits, Ideal.ieee]; rw [← EReal.coe_mul]; norm_num
  have h2 : Ideal.ofBits .f32 1073741824#32 = ((2 : ℝ) : EReal) := by
    simp [Ideal.ofBits, Ideal.ieee]; rw [← EReal.coe_mul]; norm_num
  have hl : Real.log 2 ≠ 0 := (Real.log_pos (by norm_num)).ne'
  rw [h1, h2, show Ideal.log ((2 : ℝ) : EReal) = ((Real.log 2 : ℝ) : EReal) from (Ideal.log_coe (r := 2)).trans (if_neg (by norm_num)), Ideal.div_coe hl, ← EReal.coe_mul, one_mul]

theorem host_sink (h : Fin 8) (n : Fin 128) :
    (V m c main_v60 : FVec Ideal S2x8x128 .f32) (ix3 1 h n)
      = (show EReal from (m ((c : Thread nD τ).loc main_arg5) : FVec Ideal S2x8 .f32) (ix2 1 h)) * ((1 / Real.log 2 : ℝ) : EReal) := by
  rw [← unit_bits]
  unfold V
  after_reads_at

theorem host_kc0 (l : Fin 256) (n : Fin 128) :
    (V m c main_v33 : FVec Ideal S2x256x128 .bf16) (ix3 0 l n)
      = if n.val < 64 then (show EReal from (m ((c : Thread nD τ).loc main_arg3) : FVec Ideal S1x256x128 .f32) (ix3 0 l n)) else 0 := by
  rw [← sel_low]
  unfold V
  after_reads_at
  rw [low_word]

theorem host_kc1 (l : Fin 256) (n : Fin 128) :
    (V m c main_v33 : FVec Ideal S2x256x128 .bf16) (ix3 1 l n)
      = if n.val < 64 then 0 else (show EReal from (m ((c : Thread nD τ).loc main_arg3) : FVec Ideal S1x256x128 .f32) (ix3 0 l n)) := by
  rw [← sel_low]
  unfold V
  after_reads_at
  rw [low_word]

theorem host_vc0 (l : Fin 256) (n : Fin 128) :
    (V m c main_v56 : FVec Ideal S2x256x256 .bf16) (ix3 0 l ⟨n.val, by omega⟩)
      = if n.val < 64 then (show EReal from (m ((c : Thread nD τ).loc main_arg4) : FVec Ideal S1x256x128 .f32) (ix3 0 l n)) else 0 := by
  rw [← sel_low]
  unfold V
  have := n.isLt
  after_reads_at
  after_reads_at
  rw [low_word]

theorem host_vc1 (l : Fin 256) (n : Fin 128) :
    (V m c main_v56 : FVec Ideal S2x256x256 .bf16) (ix3 1 l ⟨n.val, by omega⟩)
      = if n.val < 64 then 0 else (show EReal from (m ((c : Thread nD τ).loc main_arg4) : FVec Ideal S1x256x128 .f32) (ix3 0 l n)) := by
  rw [← sel_low]
  unfold V
  have := n.isLt
  after_reads_at
  after_reads_at
  rw [low_word]

theorem host_ones0 (l : Fin 256) (n : Fin 128) :
    (V m c main_v56 : FVec Ideal S2x256x256 .bf16) (ix3 0 l ⟨128 + n.val, by omega⟩)
      = if n.val < 64 then (1 : EReal) else 0 := by
  rw [← sel_low]
  unfold V
  have := n.isLt
  after_reads_at
  after_reads_at
  rw [low_word]

theorem host_ones1 (l : Fin 256) (n : Fin 128) :
    (V m c main_v56 : FVec Ideal S2x256x256 .bf16) (ix3 1 l ⟨128 + n.val, by omega⟩)
      = 1 - if n.val < 64 then (1 : EReal) else 0 := by
  rw [← sel_low]
  unfold V
  have := n.isLt
  after_reads_at
  after_reads_at
  rw [low_word]

set_option maxHeartbeats 4000000 in
theorem host_q (p : Fin 16384) (g : Fin 4) (kv : Fin 2) (d : Fin 64) :
    (V m c main_v22 : FVec Ideal S16384x512 .bf16) (ix2 p ⟨128 * g.val + 64 * kv.val + d.val, by omega⟩)
      = (show EReal from (m ((c : Thread nD τ).loc main_arg0) : FVec Ideal S1x16384x512 .f32) (ix3 0 p ⟨kv.val * 256 + g.val * 64 + d.val, by omega⟩))
        * (Ideal.ofBits .f32 1040187392#32 * Ideal.div (Ideal.ofBits .f32 1065353216#32) (Ideal.log (Ideal.ofBits .f32 1073741824#32))) := by
  unfold V
  have := d.isLt
  have := g.isLt
  have := kv.isLt
  after_reads_at
  after_reads_at
  refine congrArg (· * _) ?_
  have e : ∀ x y : Fin 512, x.val = y.val → (m ((c : Thread nD τ).loc main_arg0) : FVec Ideal S1x16384x512 .f32) (ix3 0 p x)
      = (m ((c : Thread nD τ).loc main_arg0) : FVec Ideal S1x16384x512 .f32) (ix3 0 p y) := fun x y h => by rw [Fin.ext h]
  repeat' split
  all_goals exact e _ _ (by simp only; omega)

end Cert.KernelIdeal.Attn

end
-- ==== Proof.AttnFinal.lean ====
/- The attention kernel's whole result: the attention of the real queries, keys and sink scores. -/
module

public import proofs.«01_k».proof.Proof.AttnValue
public import proofs.«01_k».proof.Proof.AttnHost
public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Cert.KernelIdeal.Value Cert.AttnMath Idealize.ShloMosaic Idealize.ShloMosaic.TcCoe Idealize.SL.Sem

/-- An eighth, read off its word. -/
theorem eighth : Ideal.ofBits .f32 1040187392#32 = ((1 / 8 : ℝ) : EReal) := by
  simp [Ideal.ofBits, Ideal.ieee]; rw [← EReal.coe_mul]; norm_num

/-- Where each window's block lies, at every grid point. -/
theorem index_facts : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![1, 0, 0] ∧ win0_6.index t = ![t.val, 0]
    ∧ (grid0.coords t 0).val = t.val :=
  (by decide +kernel : ∀ t : Fin grid0.N, win0_0.index t = ![t.val, 0] ∧ win0_1.index t = ![0, 0] ∧ win0_2.index t = ![0, 0]
    ∧ win0_3.index t = ![0, 0, 0] ∧ win0_4.index t = ![0, 0, 0] ∧ win0_5.index t = ![1, 0, 0] ∧ win0_6.index t = ![t.val, 0]
    ∧ (grid0.coords t 0).val = t.val)

section
variable (m : (ℓ : Loc nD τ sig) → Buf (Elt Ideal) ℓ) (c : Dev nD) (t : Fin cfg0.N)

theorem point_lt : t.val < 8 := lt_of_lt_of_eq t.isLt (by decide)

theorem blk_q (a : Fin 2048) (b : Fin 512) :
    (iblk m c 0 t : Vec Ideal S2048x512 .bf16) (ix2 a b)
      = (V m c main_v22 : FVec Ideal S16384x512 .bf16) (ix2 ⟨2048 * t.val + a.val, by have := point_lt t; omega⟩ b) := by
  obtain ⟨e0, -⟩ := index_facts t
  blk_simp [iblk]
  blk_ext [e0]

theorem blk_k (a : Fin 16384) (b : Fin 128) :
    (iblk m c 1 t : Vec Ideal S16384x128 .bf16) (ix2 a b) = (V m c main_v62 : FVec Ideal S16384x128 .bf16) (ix2 a b) := by
  obtain ⟨-, e0, -⟩ := index_facts t
  blk_simp [iblk]
  blk_ext [e0]

theorem blk_v (a : Fin 16384) (b : Fin 128) :
    (iblk m c 2 t : Vec Ideal S16384x128 .bf16) (ix2 a b) = (V m c main_v64 : FVec Ideal S16384x128 .bf16) (ix2 a b) := by
  obtain ⟨-, -, e0, -⟩ := index_facts t
  blk_simp [iblk]
  blk_ext [e0]

theorem blk_kc (h : Fin 2) (a : Fin 256) (b : Fin 128) :
    (iblk m c 3 t : Vec Ideal S2x256x128 .bf16) (ix3 h a b) = (V m c main_v33 : FVec Ideal S2x256x128 .bf16) (ix3 h a b) := by
  obtain ⟨-, -, -, e0, -⟩ := index_facts t
  blk_simp [iblk]
  blk_ext [e0]

theorem blk_vc (h : Fin 2) (a : Fin 256) (b : Fin 256) :
    (iblk m c 4 t : Vec Ideal S2x256x256 .bf16) (ix3 h a b) = (V m c main_v56 : FVec Ideal S2x256x256 .bf16) (ix3 h a b) := by
  obtain ⟨-, -, -, -, e0, -⟩ := index_facts t
  blk_simp [iblk]
  blk_ext [e0]

theorem blk_sink (a : Fin 8) (b : Fin 128) :
    (iblk m c 5 t : Vec Ideal S1x8x128 .f32) (ix3 0 a b) = (V m c main_v60 : FVec Ideal S2x8x128 .f32) (ix3 1 a b) := by
  obtain ⟨-, -, -, -, -, e0, -⟩ := index_facts t
  blk_simp [iblk]
  blk_ext [e0]

variable (q : Fin 16384 → Fin 512 → ℝ) (k : Fin 16384 → Fin 128 → ℝ) (kc : Fin 256 → Fin 128 → ℝ) (sk : Fin 8 → ℝ)
  (hq : ∀ p n, (m ((c : Thread nD τ).loc main_arg0) : FVec Ideal S1x16384x512 .f32) (ix3 0 p n) = (q p n : EReal))
  (hk : ∀ p n, (m ((c : Thread nD τ).loc main_arg1) : FVec Ideal S1x16384x128 .f32) (ix3 0 p n) = (k p n : EReal))
  (hkc : ∀ p n, (m ((c : Thread nD τ).loc main_arg3) : FVec Ideal S1x256x128 .f32) (ix3 0 p n) = (kc p n : EReal))
  (hs : ∀ h, (m ((c : Thread nD τ).loc main_arg5) : FVec Ideal S2x8 .f32) (ix2 1 h) = (sk h : EReal))
include hq hk hkc hs

/-- The input blocks of a grid point hold what a block's proof asks of them. -/
theorem holds (r : Fin 16) : Holds (grid0.coords t) r (iblk m c 0 t) (iblk m c 1 t) (iblk m c 2 t) (iblk m c 3 t) (iblk m c 4 t) (iblk m c 5 t) q k kc sk
    (fun p n => (m ((c : Thread nD τ).loc main_arg2) : FVec Ideal S1x16384x128 .f32) (ix3 0 p n))
    (fun l n => (m ((c : Thread nD τ).loc main_arg4) : FVec Ideal S1x256x128 .f32) (ix3 0 l n)) where
  q a g kv d := by
    refine (blk_q m c t _ _).trans ((host_q m c _ g kv d).trans ?_)
    rw [unit_bits, eighth]
    rw [hq, ← EReal.coe_mul, ← EReal.coe_mul]
    congr 3
    obtain ⟨-, -, -, -, -, -, -, e⟩ := index_facts t
    exact Fin.ext (by show 2048 * t.val + (128 * r.val + a.val) = (16 * (grid0.coords t 0).val + r.val) * 128 + a.val; omega)
  k p n := (blk_k m c t p n).trans ((host_k m c p n).trans (hk p n))
  v p n := (blk_v m c t p n).trans (host_v m c p n)
  kc0 l n := (blk_kc m c t 0 l n).trans ((host_kc0 m c l n).trans (by rw [hkc]))
  kc1 l n := (blk_kc m c t 1 l n).trans ((host_kc1 m c l n).trans (by rw [hkc]))
  vc0 l n := (blk_vc m c t 0 l _).trans (host_vc0 m c l n)
  vc1 l n := (blk_vc m c t 1 l _).trans (host_vc1 m c l n)
  ones0 l n := (blk_vc m c t 0 l _).trans (host_ones0 m c l n)
  ones1 l n := (blk_vc m c t 1 l _).trans (host_ones1 m c l n)
  sink h := (blk_sink m c t h 0).trans ((host_sink m c h 0).trans (by rw [hs, ← EReal.coe_mul]))

end

/-- An array of the result's shape, from its value at each position, head and place. -/
def layOut (f : Fin 16384 → Fin 2 → Fin 4 → Fin 64 → EReal) (i : S16384x512.Idx) : EReal :=
  f ⟨(i 0).val, (i 0).isLt⟩ ⟨(i 1).val % 128 / 64, by omega⟩ ⟨(i 1).val / 128, by have : (i 1).val < 512 := (i 1).isLt; omega⟩ ⟨(i 1).val % 64, by omega⟩

/-- A grid point's sixteen blocks, laid out in its output block, are its rows of the whole array. -/
theorem out_lay (b : Fin 16 → FVec Ideal S512x128 .bf16) (f : Fin 16384 → Fin 2 → Fin 4 → Fin 64 → EReal) (T : ℕ) (hT : T < 8)
    (hl : ∀ (r : Fin 16) (g : Fin 4) (a : Fin 128) (d : Fin 64),
      b r (ix2 ⟨128 * g.val + a.val, by omega⟩ ⟨64 * (0 : Fin 2).val + d.val, by omega⟩) = f ⟨2048 * T + (128 * r.val + a.val), by omega⟩ 0 g d)
    (hh : ∀ (r : Fin 16) (g : Fin 4) (a : Fin 128) (d : Fin 64),
      b r (ix2 ⟨128 * g.val + a.val, by omega⟩ ⟨64 * (1 : Fin 2).val + d.val, by omega⟩) = f ⟨2048 * T + (128 * r.val + a.val), by omega⟩ 1 g d)
    (y : S2048x512.Idx) (i : S16384x512.Idx) (i0 : (i 0).val = 2048 * T + (y 0).val) (i1 : (i 1).val = (y 1).val) :
    outAt b y = layOut f i := by
  have h0 : (y 0).val < 2048 := (y 0).isLt
  have h1 : (y 1).val < 512 := (y 1).isLt
  unfold outAt layOut
  have e0 : (⟨(i 0).val, (i 0).isLt⟩ : Fin 16384) = ⟨2048 * T + (128 * ((y 0).val / 128) + (y 0).val % 128), by omega⟩ :=
    Fin.ext (by show (i 0).val = 2048 * T + (128 * ((y 0).val / 128) + (y 0).val % 128); omega)
  have e2 : (⟨(i 1).val / 128, by omega⟩ : Fin 4) = ⟨(y 1).val / 128, by omega⟩ := Fin.ext (by show (i 1).val / 128 = (y 1).val / 128; omega)
  have e3 : (⟨(i 1).val % 64, by omega⟩ : Fin 64) = ⟨(y 1).val % 64, by omega⟩ := Fin.ext (by show (i 1).val % 64 = (y 1).val % 64; omega)
  rw [e0, e2, e3]
  by_cases hc : (y 1).val % 128 < 64
  · have e1 : (⟨(i 1).val % 128 / 64, by omega⟩ : Fin 2) = 0 := Fin.ext (by show (i 1).val % 128 / 64 = 0; omega)
    rw [e1]
    refine Eq.trans ?_ (hl ⟨(y 0).val / 128, by omega⟩ ⟨(y 1).val / 128, by omega⟩ ⟨(y 0).val % 128, by omega⟩ ⟨(y 1).val % 64, by omega⟩)
    refine congrArg _ (congrArg (ix2 _) (Fin.ext ?_))
    show (y 1).val % 128 = 64 * 0 + (y 1).val % 64
    omega
  · have e1 : (⟨(i 1).val % 128 / 64, by omega⟩ : Fin 2) = 1 := Fin.ext (by show (i 1).val % 128 / 64 = 1; omega)
    rw [e1]
    refine Eq.trans ?_ (hh ⟨(y 0).val / 128, by omega⟩ ⟨(y 1).val / 128, by omega⟩ ⟨(y 0).val % 128, by omega⟩ ⟨(y 1).val % 64, by omega⟩)
    refine congrArg _ (congrArg (ix2 _) (Fin.ext ?_))
    show (y 1).val % 128 = 64 * 1 + (y 1).val % 64
    omega

section
variable (m : (ℓ : Loc nD τ sig) → Buf (Elt Ideal) ℓ) (c : Dev nD)
  (q : Fin 16384 → Fin 512 → ℝ) (k : Fin 16384 → Fin 128 → ℝ) (kc : Fin 256 → Fin 128 → ℝ) (sk : Fin 8 → ℝ)
  (hq : ∀ p n, (m ((c : Thread nD τ).loc main_arg0) : FVec Ideal S1x16384x512 .f32) (ix3 0 p n) = (q p n : EReal))
  (hk : ∀ p n, (m ((c : Thread nD τ).loc main_arg1) : FVec Ideal S1x16384x128 .f32) (ix3 0 p n) = (k p n : EReal))
  (hkc : ∀ p n, (m ((c : Thread nD τ).loc main_arg3) : FVec Ideal S1x256x128 .f32) (ix3 0 p n) = (kc p n : EReal))
  (hs : ∀ h, (m ((c : Thread nD τ).loc main_arg5) : FVec Ideal S2x8 .f32) (ix2 1 h) = (sk h : EReal))
include hq hk hkc hs

/-- The result array after the run. -/
theorem result_array : ((dats m 0 c).arrAt 6 cfg0.N : S16384x512.Idx → EReal)
    = layOut (spec q k kc sk
      (fun p n => (m ((c : Thread nD τ).loc main_arg2) : FVec Ideal S1x16384x128 .f32) (ix3 0 p n))
      (fun l n => (m ((c : Thread nD τ).loc main_arg4) : FVec Ideal S1x256x128 .f32) (ix3 0 l n))) := by
  refine (dats m 0 c).arrAt_eq_of_covers 6 _ (by decide +kernel) fun t hf y => ?_
  obtain ⟨-, -, -, -, -, -, e, e'⟩ := index_facts t
  have h0 : (y 0).val < 2048 := (y 0).isLt
  have h1 : (y 1).val < 512 := (y 1).isLt
  blk_simp
  rw [after0_6]
  unfold outsAt0
  rw [out_at]
  have H := fun r => holds m c t q k kc sk hq hk hkc hs r
  refine out_lay _ _ t.val (point_lt t) ?_ ?_ y _ (by blk_simp [e]; omega) (by blk_simp [e])
  · intro r g a d
    refine (block_low _ _ _ _ _ _ _ _ q k kc sk _ _ (H r) g a d).trans (congrArg (fun p => spec q k kc sk _ _ p 0 g d) (Fin.ext ?_))
    show (16 * (grid0.coords t 0).val + r.val) * 128 + a.val = 2048 * t.val + (128 * r.val + a.val)
    omega
  · intro r g a d
    refine (block_high _ _ _ _ _ _ _ _ q k kc sk _ _ (H r) g a d).trans (congrArg (fun p => spec q k kc sk _ _ p 1 g d) (Fin.ext ?_))
    show (16 * (grid0.coords t 0).val + r.val) * 128 + a.val = 2048 * t.val + (128 * r.val + a.val)
    omega

end

end Cert.KernelIdeal.Attn

end
-- ==== Proof.AttnRef.lean ====
/- The reference's attention read at an index over the extended reals. -/
module

public import proofs.«01_k».proof.Proof.Gen.ReferenceIdeal.Read
public import proofs.«01_k».proof.Proof.AttnMath

@[expose] public section

set_option maxRecDepth 16384

noncomputable section

namespace Cert.ReferenceIdeal.Attn

open Cert.ReferenceIdeal Cert.ReferenceIdeal.Value Cert.ReferenceIdeal.Gen Cert.ReferenceIdeal.Read Cert.AttnMath Idealize.ShloMosaic Idealize.ShloMosaic.TcCoe Idealize.SL.Sem

variable (x0 : FVec Ideal S1x16384x512 .f32) (x1 x2 : FVec Ideal S1x16384x128 .f32) (x3 x4 : FVec Ideal S1x256x128 .f32)
  (x5 : FVec Ideal S2x8 .f32)

theorem eighth : Ideal.ofBits .f32 1040187392#32 = ((1 / 8 : ℝ) : EReal) := by
  simp [Ideal.ofBits, Ideal.ieee]
  rw [← EReal.coe_mul]; norm_num

theorem q_at (b a : Fin 128) (kv : Fin 2) (g : Fin 4) (d : Fin 64) :
    val_main_v9 (F := Ideal) x0 (ix6 0 b a kv g d)
      = x0 (ix3 0 ⟨b.val * 128 + a.val, by omega⟩ ⟨kv.val * 256 + g.val * 64 + d.val, by omega⟩) * ((1 / 8 : ℝ) : EReal) := by
  rw [← eighth]
  pointwise [val_main_v9, val_main_v8, val_main_cst, val_main_v2, val_main_v7]

theorem k_at (b : Fin 128) (j : Fin 384) (kv : Fin 2) (d : Fin 64) (hl : 128 ≤ b.val * 128 + j.val) (hr : b.val * 128 + j.val - 128 < 16384) :
    val_main_v17 (F := Ideal) x1 (ix5 0 b j kv d) = x1 (ix3 0 ⟨b.val * 128 + j.val - 128, hr⟩ ⟨kv.val * 64 + d.val, by omega⟩) := by
  pointwise [val_main_v17, fn_main_v17, val_main_v12, val_main_v14, val_main_v16, val_main_v11, val_main_v13, val_main_v15, val_main_v10, val_main_v3, val_main_call0_v0, val_main_c]
  have := b.isLt
  have := j.isLt
  by_cases h1 : j.val < 128
  · rw [dif_pos h1, dif_pos ⟨hl, hr⟩]
  · rw [dif_neg h1]
    by_cases h2 : j.val - 128 < 128
    · rw [dif_pos h2, dif_pos (by omega)]
      congr 2; exact Fin.ext (by show b.val * 128 + (j.val - 128) = b.val * 128 + j.val - 128; omega)
    · rw [dif_neg h2, dif_pos (by omega)]
      congr 2; exact Fin.ext (by show 256 + (b.val * 128 + (j.val - 128 - 128)) - 128 = b.val * 128 + j.val - 128; omega)

theorem s_at (b a : Fin 128) (kv : Fin 2) (g : Fin 4) (j : Fin 384) :
    val_main_v27 (F := Ideal) x0 x1 (ix6 0 kv g b a j)
      = ∑ x : Fin 64, val_main_v17 (F := Ideal) x1 (ix5 0 b j kv x) * val_main_v9 (F := Ideal) x0 (ix6 0 b a kv g x) := by
  pointwise [val_main_v27, val_main_v26]

theorem mask_at (b a : Fin 128) (j : Fin 384) :
    val_main_v59 (F := Ideal) (ix3 b a j)
      = if (j.val ≤ a.val + 256 ∧ a.val ≤ j.val) ∧ 128 ≤ b.val * 128 + j.val ∧ b.val * 128 + j.val < 16512 then 1#1 else 0#1 := by
  have e : IntOp.andi (IntOp.andi
      (IntOp.cmpi .sle (IntOp.absi (BitVec.ofNat 32 j.val - BitVec.ofNat 32 (a.val + 128))) 128#32)
      (IntOp.cmpi .sge (BitVec.ofNat 32 (b.val * 128 + j.val) - 128#32) 0#32))
      (IntOp.cmpi .slt (BitVec.ofNat 32 (b.val * 128 + j.val) - 128#32) 16384#32)
      = if (j.val ≤ a.val + 256 ∧ a.val ≤ j.val) ∧ 128 ≤ b.val * 128 + j.val ∧ b.val * 128 + j.val < 16512 then 1#1 else 0#1 := by
    rw [near_word _ _ (by omega) (by omega), ge_word _ (by omega), lt_word _ (by omega)]
    simp only [show (j.val ≤ a.val + 128 + 128 ∧ a.val + 128 ≤ j.val + 128) ↔ (j.val ≤ a.val + 256 ∧ a.val ≤ j.val) by omega]
    by_cases h1 : j.val ≤ a.val + 256 ∧ a.val ≤ j.val <;> by_cases h2 : 128 ≤ b.val * 128 + j.val <;>
      by_cases h3 : b.val * 128 + j.val < 16512 <;> simp only [h1, h2, h3, and_true, true_and, and_false, false_and, if_true, if_false] <;> rfl
  have w : (BitVec.ofNat 32 j.val - 128#32) - BitVec.ofNat 32 a.val = BitVec.ofNat 32 j.val - BitVec.ofNat 32 (a.val + 128) := by
    apply BitVec.eq_of_toNat_eq
    simp only [BitVec.toNat_sub, BitVec.toNat_ofNat]
    omega
  rw [← e, ← w, BitVec.ofNat_add (b.val * 128), BitVec.ofNat_mul]
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_c_1, val_main_c_2, val_main_c_3, val_main_c_4, val_main_c_5, val_main_c_6]
  rfl

theorem sc_at (b a : Fin 128) (kv : Fin 2) (g : Fin 4) (l : Fin 256) :
    val_main_v62 (F := Ideal) x0 x3 (ix6 0 kv g b a l)
      = ∑ x : Fin 64, x3 (ix3 0 l ⟨kv.val * 64 + x.val, by omega⟩) * val_main_v9 (F := Ideal) x0 (ix6 0 b a kv g x) := by
  pointwise [val_main_v62, val_main_v61, val_main_v5]

theorem sink_at (b a : Fin 128) (kv : Fin 2) (g : Fin 4) :
    val_main_v64 (F := Ideal) x5 (ix6 0 kv g b a 0) = x5 (ix2 1 ⟨kv.val * 4 + g.val, by omega⟩) := by
  pointwise [val_main_v64, val_main_v63, val_main_v1, val_main_v0]

theorem ninf : Ideal.ofBits .f32 4286578688#32 = ⊥ := by simp [Ideal.ofBits, Ideal.ieee]

theorem row_near (b a : Fin 128) (kv : Fin 2) (g : Fin 4) (j : Fin 384) :
    val_main_v65 (F := Ideal) x0 x1 x3 x5 (ix6 0 kv g b a ⟨j.val, by omega⟩)
      = Scalar.select (val_main_v59 (F := Ideal) (ix3 b a j)) (val_main_v27 (F := Ideal) x0 x1 (ix6 0 kv g b a j)) ⊥ := by
  have := j.isLt
  rw [← ninf]
  pointwise [val_main_v65, fn_main_v65, val_main_v60, val_main_call2_v1, val_main_call2_v2, val_main_call2_v0, val_main_cst_7]
  rfl

theorem row_ctx (b a : Fin 128) (kv : Fin 2) (g : Fin 4) (l : Fin 256) :
    val_main_v65 (F := Ideal) x0 x1 x3 x5 (ix6 0 kv g b a ⟨384 + l.val, by omega⟩)
      = val_main_v62 (F := Ideal) x0 x3 (ix6 0 kv g b a l) := by
  have := l.isLt
  pointwise [val_main_v65, fn_main_v65, val_main_v60, val_main_call2_v1, val_main_call2_v2, val_main_call2_v0, val_main_cst_7]

theorem row_sink (b a : Fin 128) (kv : Fin 2) (g : Fin 4) :
    val_main_v65 (F := Ideal) x0 x1 x3 x5 (ix6 0 kv g b a ⟨640, by omega⟩) = val_main_v64 (F := Ideal) x5 (ix6 0 kv g b a 0) := by
  pointwise [val_main_v65, fn_main_v65, val_main_v60, val_main_call2_v1, val_main_call2_v2, val_main_call2_v0, val_main_cst_7]

/-- The largest entry of a row, as a fold over the row. -/
theorem max_at (b a : Fin 128) (kv : Fin 2) (g : Fin 4) :
    val_main_v68 (F := Ideal) x0 x1 x3 x5 (ix5 0 kv g b a)
      = Finset.univ.fold max ⊥ fun j : Fin 641 => val_main_v65 (F := Ideal) x0 x1 x3 x5 (ix6 0 kv g b a j) := by
  have h : val_main_v66 (F := Ideal) x0 x1 x3 x5 (ix5 0 kv g b a)
      = Finset.univ.fold max ⊥ fun j : Fin 641 => val_main_v65 (F := Ideal) x0 x1 x3 x5 (ix6 0 kv g b a j) := by
    unfold val_main_v66
    generalize val_main_v65 (F := Ideal) x0 x1 x3 x5 = y0
    rw [← ninf]
    refine (Host.reduce_eq_fold_single (max : EReal → EReal → EReal) y0 _ reducesTo_S1x2x4x128x128x641_S1x2x4x128x128_d5 (by decide) h_S_ _).trans ?_
    refine congrArg (Finset.fold _ _ · _) (funext fun k => ?_)
    exact congrArg y0 (funext fun a => Fin.ext (by match a with | ⟨0, _⟩ => rfl | ⟨1, _⟩ => rfl | ⟨2, _⟩ => rfl | ⟨3, _⟩ => rfl | ⟨4, _⟩ => rfl | ⟨5, _⟩ => rfl))
  rw [val_main_v68_apply, h]
  show max (Ideal.ofBits .f32 4286578688#32) _ = _
  rw [ninf]
  exact max_bot_left _

/-- A row's exponentials. -/
theorem exp_at (b a : Fin 128) (kv : Fin 2) (g : Fin 4) (j : Fin 641) :
    val_main_v72 (F := Ideal) x0 x1 x3 x5 (ix6 0 kv g b a j)
      = Ideal.exp (val_main_v65 (F := Ideal) x0 x1 x3 x5 (ix6 0 kv g b a j) - val_main_v68 (F := Ideal) x0 x1 x3 x5 (ix5 0 kv g b a)) := by
  pointwise [val_main_v72, val_main_v71, val_main_v70, val_main_v69]

theorem sum_at (b a : Fin 128) (kv : Fin 2) (g : Fin 4) :
    val_main_v73 (F := Ideal) x0 x1 x3 x5 (ix5 0 kv g b a)
      = ∑ j : Fin 641, val_main_v72 (F := Ideal) x0 x1 x3 x5 (ix6 0 kv g b a j) := by
  rw [val_main_v73_apply]
  have z : val_main_cst_10 (F := Ideal) (Shape.Idx.first h_S_) = 0 := by
    rw [val_main_cst_10_apply]
    exact (by simp [Ideal.ofBits, Ideal.ieee] : Ideal.ofBits .f32 0x00000000#32 = 0)
  rw [z, zero_add]
  refine Finset.sum_congr rfl fun k _ => congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

theorem share_at (b a : Fin 128) (kv : Fin 2) (g : Fin 4) (j : Fin 641) :
    val_main_v76 (F := Ideal) x0 x1 x3 x5 (ix6 0 kv g b a j)
      = Ideal.div (val_main_v72 (F := Ideal) x0 x1 x3 x5 (ix6 0 kv g b a j)) (val_main_v73 (F := Ideal) x0 x1 x3 x5 (ix5 0 kv g b a)) := by
  pointwise [val_main_v76, val_main_v75, val_main_v74]

theorem v_at (b : Fin 128) (j : Fin 384) (kv : Fin 2) (d : Fin 64) (hl : 128 ≤ b.val * 128 + j.val) (hr : b.val * 128 + j.val - 128 < 16384) :
    val_main_v25 (F := Ideal) x2 (ix5 0 b j kv d) = x2 (ix3 0 ⟨b.val * 128 + j.val - 128, hr⟩ ⟨kv.val * 64 + d.val, by omega⟩) :=
  k_at x2 b j kv d hl hr

theorem out_at (b a : Fin 128) (kv : Fin 2) (g : Fin 4) (d : Fin 64) :
    val_main_v87 (F := Ideal) x0 x1 x2 x3 x4 x5 (ix2 ⟨128 * b.val + a.val, by omega⟩ ⟨128 * g.val + 64 * kv.val + d.val, by omega⟩)
      = (∑ x : Fin 384, val_main_v25 (F := Ideal) x2 (ix5 0 b x kv d) * val_main_v76 (F := Ideal) x0 x1 x3 x5 (ix6 0 kv g b a ⟨x.val, by omega⟩))
        + ∑ x : Fin 256, x4 (ix3 0 x ⟨kv.val * 64 + d.val, by omega⟩) * val_main_v76 (F := Ideal) x0 x1 x3 x5 (ix6 0 kv g b a ⟨384 + x.val, by omega⟩) := by
  pointwise [val_main_v87, val_main_v86, val_main_v85, val_main_v84, val_main_v83, val_main_v82, val_main_v81, val_main_v80, val_main_v79, val_main_v78, val_main_v77, val_main_v6]

/-! ## The reference's value -/

section
variable (q : Fin 16384 → Fin 512 → ℝ) (k : Fin 16384 → Fin 128 → ℝ) (kc : Fin 256 → Fin 128 → ℝ) (sk : Fin 8 → ℝ)

/-- A window place `j` of block `b` that the query at place `a` sees. -/
def Seen (b a : Fin 128) (j : Fin 384) : Prop :=
  (j.val ≤ a.val + 256 ∧ a.val ≤ j.val) ∧ 128 ≤ b.val * 128 + j.val ∧ b.val * 128 + j.val < 16512

instance (b a : Fin 128) : DecidablePred (Seen b a) := fun j => inferInstanceAs (Decidable (_ ∧ _))

/-- The score at a window place. -/
def placeScore (b a : Fin 128) (kv : Fin 2) (g : Fin 4) (j : Fin 384) : ℝ :=
  if h : b.val * 128 + j.val - 128 < 16384 then keyScore q k ⟨b.val * 128 + a.val, by omega⟩ kv g ⟨_, h⟩ else 0

variable (hq : ∀ p n, x0 (ix3 0 p n) = (q p n : EReal)) (hk : ∀ p n, x1 (ix3 0 p n) = (k p n : EReal))
  (hkc : ∀ p n, x3 (ix3 0 p n) = (kc p n : EReal)) (hs : ∀ h, x5 (ix2 1 h) = (sk h : EReal))
include hq hk hkc hs

theorem near_real (b a : Fin 128) (kv : Fin 2) (g : Fin 4) (j : Fin 384) :
    val_main_v65 (F := Ideal) x0 x1 x3 x5 (ix6 0 kv g b a ⟨j.val, by omega⟩)
      = if Seen b a j then ((placeScore q k b a kv g j : ℝ) : EReal) else ⊥ := by
  rw [row_near, mask_at]
  by_cases h : Seen b a j
  · have h' := h
    unfold Seen at h
    have hr : b.val * 128 + j.val - 128 < 16384 := by omega
    rw [if_pos h, if_pos h']
    show val_main_v27 (F := Ideal) x0 x1 (ix6 0 kv g b a j) = _
    rw [s_at, placeScore, dif_pos hr, keyScore, coe_sum]
    refine Finset.sum_congr rfl fun d _ => ?_
    rw [k_at x1 b j kv d h.2.1 hr, q_at, hq, hk, ← EReal.coe_mul, ← EReal.coe_mul]
  · rw [if_neg h]; unfold Seen at h; rw [if_neg h]; rfl

theorem ctx_real (b a : Fin 128) (kv : Fin 2) (g : Fin 4) (l : Fin 256) :
    val_main_v65 (F := Ideal) x0 x1 x3 x5 (ix6 0 kv g b a ⟨384 + l.val, by omega⟩)
      = ((ctxScore q kc ⟨b.val * 128 + a.val, by omega⟩ kv g l : ℝ) : EReal) := by
  rw [row_ctx, sc_at, ctxScore, coe_sum]
  refine Finset.sum_congr rfl fun d _ => ?_
  rw [q_at, hq, hkc, ← EReal.coe_mul, ← EReal.coe_mul]

theorem sink_real (b a : Fin 128) (kv : Fin 2) (g : Fin 4) :
    val_main_v65 (F := Ideal) x0 x1 x3 x5 (ix6 0 kv g b a ⟨640, by omega⟩) = (sk ⟨kv.val * 4 + g.val, by omega⟩ : EReal) := by
  rw [row_sink, sink_at, hs]

theorem max_real (b a : Fin 128) (kv : Fin 2) (g : Fin 4) :
    ∃ m : ℝ, val_main_v68 (F := Ideal) x0 x1 x3 x5 (ix5 0 kv g b a) = (m : EReal) := by
  rw [max_at]
  refine fold_max_real _ ⟨640, by omega⟩ ?_ fun j => ?_
  · rw [sink_real x0 x1 x3 x5 q k kc sk hq hk hkc hs]; exact EReal.coe_ne_bot _
  · rcases Nat.lt_or_ge j.val 384 with h | h
    · have := near_real x0 x1 x3 x5 q k kc sk hq hk hkc hs b a kv g ⟨j.val, h⟩
      simp only [Fin.eta] at this
      rw [this]; split
      · exact EReal.coe_ne_top _
      · exact bot_ne_top
    · rcases Nat.lt_or_ge j.val 640 with h' | h'
      · have := ctx_real x0 x1 x3 x5 q k kc sk hq hk hkc hs b a kv g ⟨j.val - 384, by omega⟩
        simp only [show 384 + (j.val - 384) = j.val by omega, Fin.eta] at this
        rw [this]; exact EReal.coe_ne_top _
      · have e : j = ⟨640, by omega⟩ := Fin.ext (by have := j.isLt; show j.val = 640; omega)
        rw [e, sink_real x0 x1 x3 x5 q k kc sk hq hk hkc hs]; exact EReal.coe_ne_top _

/-- The reference's attention is the attention of the real scores. -/
theorem value (b a : Fin 128) (kv : Fin 2) (g : Fin 4) (d : Fin 64) :
    val_main_v87 (F := Ideal) x0 x1 x2 x3 x4 x5 (ix2 ⟨128 * b.val + a.val, by omega⟩ ⟨128 * g.val + 64 * kv.val + d.val, by omega⟩)
      = spec q k kc sk (fun p n => x2 (ix3 0 p n)) (fun p n => x4 (ix3 0 p n)) ⟨b.val * 128 + a.val, by omega⟩ kv g d := by
  obtain ⟨m, hm⟩ := max_real x0 x1 x3 x5 q k kc sk hq hk hkc hs b a kv g
  have near : ∀ j : Fin 384, val_main_v72 (F := Ideal) x0 x1 x3 x5 (ix6 0 kv g b a ⟨j.val, by omega⟩)
      = if Seen b a j then ((Real.exp (-m) * Real.exp (placeScore q k b a kv g j) : ℝ) : EReal) else 0 := by
    intro j
    rw [exp_at, hm, near_real x0 x1 x3 x5 q k kc sk hq hk hkc hs]
    split
    · exact exp_shift _ _
    · rw [bot_sub_coe]; exact Ideal.exp_bot
  have ctx : ∀ l : Fin 256, val_main_v72 (F := Ideal) x0 x1 x3 x5 (ix6 0 kv g b a ⟨384 + l.val, by omega⟩)
      = ((Real.exp (-m) * Real.exp (ctxScore q kc ⟨b.val * 128 + a.val, by omega⟩ kv g l) : ℝ) : EReal) := by
    intro l
    rw [exp_at, hm, ctx_real x0 x1 x3 x5 q k kc sk hq hk hkc hs]
    exact exp_shift _ _
  have sink : val_main_v72 (F := Ideal) x0 x1 x3 x5 (ix6 0 kv g b a ⟨640, by omega⟩)
      = ((Real.exp (-m) * Real.exp (sk ⟨kv.val * 4 + g.val, by omega⟩) : ℝ) : EReal) := by
    rw [exp_at, hm, sink_real x0 x1 x3 x5 q k kc sk hq hk hkc hs]
    exact exp_shift _ _
  have hpos : ∀ j, Seen b a j → ∃ h : b.val * 128 + j.val - 128 < 16384, Near ⟨b.val * 128 + a.val, by omega⟩ ⟨b.val * 128 + j.val - 128, h⟩
      ∧ placeScore q k b a kv g j = keyScore q k ⟨b.val * 128 + a.val, by omega⟩ kv g ⟨b.val * 128 + j.val - 128, h⟩
      ∧ val_main_v25 (F := Ideal) x2 (ix5 0 b j kv d) = x2 (ix3 0 ⟨b.val * 128 + j.val - 128, h⟩ ⟨kv.val * 64 + d.val, by omega⟩) := by
    intro j hj
    unfold Seen at hj
    have hr : b.val * 128 + j.val - 128 < 16384 := by omega
    refine ⟨hr, ?_, ?_, v_at x2 b j kv d hj.2.1 hr⟩
    · unfold Near; constructor <;> show _ ≤ _ <;> simp only <;> omega
    · unfold placeScore; rw [dif_pos hr]
  have inj : ∀ i j, Seen b a i → Seen b a j → b.val * 128 + i.val - 128 = b.val * 128 + j.val - 128 → i = j := by
    intro i j hi hj h
    unfold Seen at hi hj
    exact Fin.ext (by omega)
  have sur : ∀ t : Fin 16384, Near ⟨b.val * 128 + a.val, by omega⟩ t → ∃ j, Seen b a j ∧ b.val * 128 + j.val - 128 = t.val := by
    intro t ht
    unfold Near at ht
    simp only at ht
    have := t.isLt
    refine ⟨⟨t.val + 128 - b.val * 128, by omega⟩, ?_, ?_⟩
    · unfold Seen; simp only; omega
    · simp only; omega
  have sum : val_main_v73 (F := Ideal) x0 x1 x3 x5 (ix5 0 kv g b a)
      = ((Real.exp (-m) * total (Near ⟨b.val * 128 + a.val, by omega⟩) (keyScore q k ⟨b.val * 128 + a.val, by omega⟩ kv g)
          (ctxScore q kc ⟨b.val * 128 + a.val, by omega⟩ kv g) (sk ⟨kv.val * 4 + g.val, by omega⟩) : ℝ) : EReal) := by
    rw [sum_at, ← total_window (Seen b a) (Near ⟨b.val * 128 + a.val, by omega⟩) (fun j => b.val * 128 + j.val - 128)
      (keyScore q k ⟨b.val * 128 + a.val, by omega⟩ kv g) (ctxScore q kc ⟨b.val * 128 + a.val, by omega⟩ kv g)
      (sk ⟨kv.val * 4 + g.val, by omega⟩) (fun t => x2 (ix3 0 t ⟨kv.val * 64 + d.val, by omega⟩)) (placeScore q k b a kv g)
      (fun j => val_main_v25 (F := Ideal) x2 (ix5 0 b j kv d)) hpos inj sur (Real.exp (-m))]
    refine (Fin.sum_univ_castSucc _).trans (congrArg₂ (· + ·) ((sum_640 _).trans (congrArg₂ (· + ·) ?_ ?_)) sink)
    · exact Finset.sum_congr rfl fun j _ => near j
    · exact Finset.sum_congr rfl fun l _ => ctx l
  rw [out_at, spec, ← attn_of_shares (Seen b a) (Near ⟨b.val * 128 + a.val, by omega⟩) (fun j => b.val * 128 + j.val - 128)
      (keyScore q k ⟨b.val * 128 + a.val, by omega⟩ kv g) (ctxScore q kc ⟨b.val * 128 + a.val, by omega⟩ kv g)
      (sk ⟨kv.val * 4 + g.val, by omega⟩) (fun t => x2 (ix3 0 t ⟨kv.val * 64 + d.val, by omega⟩)) _ (placeScore q k b a kv g)
      (fun j => val_main_v25 (F := Ideal) x2 (ix5 0 b j kv d)) hpos inj sur (Real.exp (-m)) (Real.exp_pos _)]
  refine congrArg₂ (· + ·) ?_ ?_
  · refine Finset.sum_congr rfl fun j _ => ?_
    rw [share_at, sum, near, mul_comm]
  · refine Finset.sum_congr rfl fun l _ => ?_
    rw [share_at, sum, ctx, mul_comm]

end

end Cert.ReferenceIdeal.Attn

end
-- ==== Proof.AttnClaim.lean ====
/- The attention claim: what the precondition says of the arguments, and the two runs' equal results. -/
module

public import proofs.«01_k».proof.Defs
public import proofs.«01_k».proof.Proof.AttnFinal
public import proofs.«01_k».proof.Proof.AttnRef
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import Idealize.ShloMosaic.Lib.ReduceAll

@[expose] public section

set_option maxRecDepth 16384

noncomputable section

namespace Cert.AttnClaim

open Idealize.ShloMosaic Idealize.ShloMosaic.TcCoe Idealize.SL.Sem Cert.AttnMath

/-- The word of plus infinity. -/
theorem inf_bits : Ideal.ofBits .f32 2139095040#32 = (⊤ : EReal) := by
  simp [Ideal.ofBits, Ideal.ieee]

/-- An extended real whose absolute value is less than plus infinity is a real. -/
theorem real_of_abs_lt (x : EReal) (h : Ideal.cmp .olt (max x (-x)) (Ideal.ofBits .f32 2139095040#32) = 1#1) : x = ((x.toReal : ℝ) : EReal) := by
  rw [inf_bits] at h
  refine (EReal.coe_toReal ?_ ?_).symm
  · rintro rfl
    simp [Ideal.cmp] at h
  · rintro rfl
    simp [Ideal.cmp] at h

/-- An index of the result, by block, place, head of a pair, group and feature. -/
theorem index_parts (i : Cert.KernelIdeal.S16384x512.Idx) : ∃ (b a : Fin 128) (kv : Fin 2) (g : Fin 4) (d : Fin 64),
    i = ix2 ⟨128 * b.val + a.val, by omega⟩ ⟨128 * g.val + 64 * kv.val + d.val, by omega⟩ := by
  have h0 : (i 0).val < 16384 := (i 0).isLt
  have h1 : (i 1).val < 512 := (i 1).isLt
  refine ⟨⟨(i 0).val / 128, by omega⟩, ⟨(i 0).val % 128, by omega⟩, ⟨(i 1).val % 128 / 64, by omega⟩, ⟨(i 1).val / 128, by omega⟩,
    ⟨(i 1).val % 64, by omega⟩, (eq_ix2 i).trans (congrArg₂ ix2 (Fin.ext ?_) (Fin.ext ?_))⟩
  · show (i 0).val = 128 * ((i 0).val / 128) + (i 0).val % 128; omega
  · show (i 1).val = 128 * ((i 1).val / 128) + 64 * ((i 1).val % 128 / 64) + (i 1).val % 64; omega

theorem lay_at (f : Fin 16384 → Fin 2 → Fin 4 → Fin 64 → EReal) (b a : Fin 128) (kv : Fin 2) (g : Fin 4) (d : Fin 64) :
    Cert.KernelIdeal.Attn.layOut f (ix2 ⟨128 * b.val + a.val, by omega⟩ ⟨128 * g.val + 64 * kv.val + d.val, by omega⟩)
      = f ⟨b.val * 128 + a.val, by omega⟩ kv g d := by
  unfold Cert.KernelIdeal.Attn.layOut
  congr 1
  · exact Fin.ext (by show 128 * b.val + a.val = b.val * 128 + a.val; omega)
  · exact Fin.ext (by show (128 * g.val + 64 * kv.val + d.val) % 128 / 64 = kv.val; omega)
  · exact Fin.ext (by show (128 * g.val + 64 * kv.val + d.val) / 128 = g.val; omega)
  · exact Fin.ext (by show (128 * g.val + 64 * kv.val + d.val) % 64 = d.val; omega)

section
variable (x0 : FVec Ideal Cert.Pre_finite_scores.S1x16384x512 .f32) (x1 x2 : FVec Ideal Cert.Pre_finite_scores.S1x16384x128 .f32)
  (x3 x4 : FVec Ideal Cert.Pre_finite_scores.S1x256x128 .f32) (x5 : FVec Ideal Cert.Pre_finite_scores.S2x8 .f32)

/-- What the precondition says: the queries, keys, context keys and the layer's sink scores are reals. -/
theorem finite (h : Cert.Pre_finite_scores.fn (F := Ideal) x0 x1 x2 x3 x4 x5 = fun _ => 1#1) :
    (∀ i, x0 i = ((EReal.toReal (x0 i) : ℝ) : EReal)) ∧ (∀ i, x1 i = ((EReal.toReal (x1 i) : ℝ) : EReal))
      ∧ (∀ i, x3 i = ((EReal.toReal (x3 i) : ℝ) : EReal)) ∧ ∀ n : Fin 8, x5 (ix2 1 n) = ((EReal.toReal (x5 (ix2 1 n)) : ℝ) : EReal) := by
  have e := congrFun h ix0
  unfold Cert.Pre_finite_scores.fn Cert.Pre_finite_scores.fn_part1 at e
  obtain ⟨e, e5⟩ := IntOp.andi_eq_one.1 e
  obtain ⟨e, e3⟩ := IntOp.andi_eq_one.1 e
  obtain ⟨e0, e1⟩ := IntOp.andi_eq_one.1 e
  haveI : Subsingleton Cert.Pre_finite_scores.S_.Idx := ⟨fun a b => funext fun x => x.elim0⟩
  refine ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e3 i), fun n => ?_⟩
  have := Host.reduce_andi_all _ _ _ _ _ e5 (ix1 n)
  refine real_of_abs_lt _ (Eq.trans ?_ this)
  pointwise
  rfl

end

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m ρ m' ρ' hpre hagree
  refine ⟨fun c => (Cert.KernelIdeal.Gen.dats m 0 c).arrAt 6 Cert.KernelIdeal.cfg0.N, Cert.KernelIdeal.Value.run_blocks m ρ,
    (θ_run Cert.ReferenceIdeal.defs _ _).mono (fun _ h c => ⟨(h c).1.trans ?_, (h c).2⟩) (Cert.ReferenceIdeal.Value.run m' ρ')⟩
  obtain ⟨e0, e1, e2, e3, e4, e5⟩ := hagree c
  obtain ⟨f0, f1, f3, f5⟩ := finite _ _ _ _ _ _ (hpre c)
  rw [Cert.ReferenceIdeal.Read.val_main_v87_eq, e0, e1, e2, e3, e4, e5]
  have H := Cert.KernelIdeal.Attn.result_array m c _ _ _ _ (fun p n => f0 (ix3 0 p n)) (fun p n => f1 (ix3 0 p n)) (fun p n => f3 (ix3 0 p n)) (fun h => f5 h)
  refine Eq.trans ?_ H.symm
  funext i
  obtain ⟨b, a, kv, g, d, rfl⟩ := index_parts i
  refine (Cert.ReferenceIdeal.Attn.value _ _ _ _ _ _ _ _ _ _ (fun p n => f0 (ix3 0 p n)) (fun p n => f1 (ix3 0 p n)) (fun p n => f3 (ix3 0 p n)) (fun h => f5 h) b a kv g d).trans (lay_at _ b a kv g d).symm

end Cert.AttnClaim

end
-- ==== Proof.FfnBlock.lean ====
/- A sub-block of 256 rows of the output projection and feed-forward kernel's body, as one function of the values it loads;
   and what a grid point leaves in its output block, sub-block by sub-block. -/
module

public import proofs.«01_k».proof.Proof.Gen.Kernel2Ideal.Value
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-- The mean of every row, as a column. -/
def meanCol (x : FVec F S256x1024 .f32) : FVec F S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- Every row less its mean. -/
def centre (x : FVec F S256x1024 .f32) : FVec F S256x1024 .f32 :=
  subf x (broadcastTo S256x1024 (meanCol x) broadcasts_S256x1_S256x1024)

/-- Centred rows over their standard deviation. -/
def scaled (xc : FVec F S256x1024 .f32) : FVec F S256x1024 .f32 :=
  mulf xc (broadcastTo S256x1024
    (rsqrt (addf (meanCol (mulf xc xc)) (broadcast S256x1 (Scalar.ofBits .f32 0x358637BD#32)))) broadcasts_S256x1_S256x1024)

/-- The residual step: the stream times the square root of two plus the gated branch. -/
def residual (x : FVec F S256x1024 .f32) (gate : FVec F S1x1024 .f32) (y : FVec F S256x1024 .f32) : FVec F S256x1024 .f32 :=
  addf (mulf (broadcast S256x1024 (Scalar.ofBits .f32 0x3FB504F3#32)) x) (mulf (broadcastTo S256x1024 gate broadcasts_S1x1024_S256x1024) y)

/-- The residual step, normalized, with the layer's gain and offset. -/
def postNorm (x : FVec F S256x1024 .f32) (gate : FVec F S1x1024 .f32) (y : FVec F S256x1024 .f32) (g b : FVec F S1x1024 .f32) : FVec F S256x1024 .f32 :=
  addf (mulf (scaled (centre (residual x gate y))) (broadcastTo S256x1024 g broadcasts_S1x1024_S256x1024))
    (broadcastTo S256x1024 b broadcasts_S1x1024_S256x1024)

/-- The normalized, modulated rows that enter the feed-forward part. -/
def modulated (x : FVec F S256x1024 .f32) (sh sc : FVec F S1x1024 .f32) : FVec F S256x1024 .bf16 :=
  truncf .bf16 (addf (mulf (scaled (centre x))
      (broadcastTo S256x1024 (addf (broadcast S1x1024 (Scalar.ofBits .f32 0x3F800000#32)) sc) broadcasts_S1x1024_S256x1024))
    (broadcastTo S256x1024 sh broadcasts_S1x1024_S256x1024)) bitsLt_bf16_f32

/-- The part of the feed-forward sum over 1024 hidden features. -/
def wide (h : FVec F S256x1024 .bf16) (wa wb : Vec F S1024x1024 .bf16) (wo : Vec F S1024x1024 .bf16) : FVec F S256x1024 .f32 :=
  let a := matmul dot_S256x1024_S1024x1024_S256x1024_1_0_0_1_n_n none h (shapeCast S1024x1024 wa shapeCasts_S1024x1024_S1024x1024) (constant S256x1024 .f32 0x00000000#32)
  let b := matmul dot_S256x1024_S1024x1024_S256x1024_1_0_0_1_n_n none h (shapeCast S1024x1024 wb shapeCasts_S1024x1024_S1024x1024) (constant S256x1024 .f32 0x00000000#32)
  matmul dot_S256x1024_S1024x1024_S256x1024_1_0_0_1_n_n none
    (truncf .bf16 (mulf (divf a (addf (broadcast S256x1024 (Scalar.ofBits .f32 0x3F800000#32))
      (exp (subf (broadcast S256x1024 (Scalar.ofBits .f32 0x00000000#32)) a)))) b) bitsLt_bf16_f32)
    (shapeCast S1024x1024 wo shapeCasts_S1024x1024_S1024x1024) (constant S256x1024 .f32 0x00000000#32)

/-- The part over the last 768 hidden features. -/
def narrow (h : FVec F S256x1024 .bf16) (wa wb : Vec F S1024x768 .bf16) (wo : Vec F S768x1024 .bf16) : FVec F S256x1024 .f32 :=
  let a := matmul dot_S256x1024_S1024x768_S256x768_1_0_0_1_n_n none h (shapeCast S1024x768 wa shapeCasts_S1024x768_S1024x768) (constant S256x768 .f32 0x00000000#32)
  let b := matmul dot_S256x1024_S1024x768_S256x768_1_0_0_1_n_n none h (shapeCast S1024x768 wb shapeCasts_S1024x768_S1024x768) (constant S256x768 .f32 0x00000000#32)
  matmul dot_S256x768_S768x1024_S256x1024_1_0_0_1_n_n none
    (truncf .bf16 (mulf (divf a (addf (broadcast S256x768 (Scalar.ofBits .f32 0x3F800000#32))
      (exp (subf (broadcast S256x768 (Scalar.ofBits .f32 0x00000000#32)) a)))) b) bitsLt_bf16_f32)
    (shapeCast S768x1024 wo shapeCasts_S768x1024_S768x1024) (constant S256x1024 .f32 0x00000000#32)

theorem cat_shapes (f : Fin 128 → FVec F S8x128 .f32) :
    Shape.Concatenates ((List.ofFn fun n : Fin 128 => (⟨S8x128, f n⟩ : (s : Shape) × (s.Idx → F .f32))).map (·.1)) S1024x128 0 := by
  rw [List.map_ofFn]
  exact (by decide : Shape.Concatenates (List.ofFn fun n : Fin 128 => S8x128) S1024x128 0)

theorem tile_inb (h : Fin 2) (n : Fin 128) :
    ∀ a, (![h.val, n.val % 16, 8 * (n.val / 16), 0] : Fin 4 → Nat) a + S1x1x8x128.size a ≤ S2x16x64x128.size a := by
  intro a; have := h.isLt; have := n.isLt; fin_cases a <;> simp [S1x1x8x128, S2x16x64x128] <;> omega

/-- Eight rows of a half of the Fourier mixer's output: rows `8 n` on. -/
def tile (h : Fin 2) (x2 : Vec F S2x16x64x128 .f32) (n : Fin 128) : FVec F S8x128 .f32 :=
  shapeCast S8x128 (View.ld x2 (Rect.unit (s := S2x16x64x128) ![h.val, n.val % 16, 8 * (n.val / 16), 0] S1x1x8x128.size (tile_inb h n)))
    shapeCasts_S1x1x8x128_S8x128

/-- Half `h` of the columns of the Fourier mixer's output, rows in the order of positions. -/
def half (h : Fin 2) (x2 : Vec F S2x16x64x128 .f32) : FVec F S1024x128 .bf16 :=
  truncf .bf16 (concatenate S1024x128 0 (List.ofFn fun n : Fin 128 => ⟨S8x128, tile h x2 n⟩) (cat_shapes (tile h x2))) bitsLt_bf16_f32

/-- The three mixers' outputs side by side. -/
def mixers (x1 : Vec F S1024x512 .bf16) (x2 : Vec F S2x16x64x128 .f32) (x3 : Vec F S1024x256 .bf16) : FVec F S1024x1024 .bf16 :=
  concatenate S1024x1024 1 [⟨S1024x512, shapeCast S1024x512 (View.ld x1 r0_256) shapeCasts_S1024x512_S1024x512⟩, ⟨S1024x128, half 0 x2⟩,
    ⟨S1024x128, half 1 x2⟩, ⟨S1024x256, shapeCast S1024x256 (View.ld x3 r0_257) shapeCasts_S1024x256_S1024x256⟩]
    concatenates_S1024x512_S1024x128_S1024x128_S1024x256_S1024x1024_d1

/-- Modulation vector `n` of the first condition. -/
theorem vec_slices (n : Fin 6) : S8x6144.Slices ![0, 1024 * n.val] S1x1024 :=
  ⟨rfl, by intro a; have := n.isLt; fin_cases a <;> simp [S1x1024, S8x6144]; omega⟩

def modVec (n : Fin 6) (x4 : Vec F S1x8x6144 .f32) : FVec F S1x1024 .f32 :=
  extractStridedSlice S1x1024 ![0, 1024 * n.val] (shapeCast S8x6144 (View.ld x4 r0_258) shapeCasts_S1x8x6144_S8x6144) (vec_slices n)

theorem rows_inb (r : Fin 4) : ∀ a, (![256 * r.val, 0] : Fin 2 → Nat) a + S256x1024.size a ≤ S1024x1024.size a := by
  intro a; have := r.isLt; fin_cases a <;> simp [S256x1024, S1024x1024] <;> omega

theorem rows_slices (r : Fin 4) : S1024x1024.Slices ![256 * r.val, 0] S256x1024 :=
  ⟨rfl, by intro a; have := r.isLt; fin_cases a <;> simp [S256x1024, S1024x1024] <;> omega⟩

/-- The stream's rows of sub-block `r`. -/
def rows (r : Fin 4) (x0 : Vec F S1024x1024 .f32) : FVec F S256x1024 .f32 :=
  shapeCast S256x1024 (View.ld x0 (Rect.unit (s := S1024x1024) ![256 * r.val, 0] S256x1024.size (rows_inb r))) shapeCasts_S256x1024_S256x1024

/-- The projection of the mixers' outputs, sub-block `r`. -/
def project (r : Fin 4) (o : FVec F S1024x1024 .bf16) (x5 : Vec F S1x1024x1024 .bf16) : FVec F S256x1024 .f32 :=
  matmul dot_S256x1024_S1024x1024_S256x1024_1_0_0_1_n_n none
    (extractStridedSlice S256x1024 ![256 * r.val, 0] o (rows_slices r))
    (shapeCast S1024x1024 (View.ld x5 r0_264) shapeCasts_S1x1024x1024_S1024x1024) (constant S256x1024 .f32 0x00000000#32)

/-- The stream after the mixers. -/
def stream (r : Fin 4) (x0 : Vec F S1024x1024 .f32) (o : FVec F S1024x1024 .bf16) (x4 : Vec F S1x8x6144 .f32) (x5 : Vec F S1x1024x1024 .bf16) (x6 x7 : Vec F S2x1024 .f32) : FVec F S256x1024 .f32 :=
  postNorm (rows r x0) (modVec 2 x4) (project r o x5) (View.ld x6 r0_260) (View.ld x7 r0_260)

/-- The feed-forward part of modulated rows. -/
def forward (h : FVec F S256x1024 .bf16) (x8 : Vec F S1024x5632 .bf16) (x9 : Vec F S2816x1024 .bf16) : FVec F S256x1024 .f32 :=
  addf (addf (wide h (View.ld x8 r0_265) (View.ld x8 r0_266) (View.ld x9 r0_267))
    (wide h (View.ld x8 r0_268) (View.ld x8 r0_269) (View.ld x9 r0_270)))
    (narrow h (View.ld x8 r0_271) (View.ld x8 r0_272) (View.ld x9 r0_273))

/-- Sub-block `r` of a grid point's output block. -/
def block (r : Fin 4) (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) : FVec F S256x1024 .f32 :=
  let x := stream r x0 (mixers x1 x2 x3) x4 x5 x6 x7
  postNorm x (modVec 5 x4) (forward (modulated x (modVec 3 x4) (modVec 4 x4)) x8 x9) (View.ld x10 r0_260) (View.ld x11 r0_260)

/-- What the body stores for sub-block `r`, and where. -/
def piece (b : Fin 4 → FVec F S256x1024 .f32) (r : Fin 4) : View.Piece (Elt F) S1024x1024 .f32 :=
  ⟨Rect.unit (s := S1024x1024) ![256 * r.val, 0] S256x1024.size (rows_inb r), b r⟩

theorem o_cat (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) :
    k0_pay295 x0 x1 x2 x3 x4 x5 x6 x7 x8 x9 x10 x11 = mixers x1 x2 x3 := by
  sl_kernel_rfl

/-- The output block is the four sub-blocks. -/
theorem pieces (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) :
    out0_12 x0 x1 x2 x3 x4 x5 x6 x7 x8 x9 x10 x11
      = View.canon (([3, 2, 1, 0] : List (Fin 4)).map (piece fun r => block r x0 x1 x2 x3 x4 x5 x6 x7 x8 x9 x10 x11)) := by
  unfold block
  rw [← o_cat x0 x1 x2 x3 x4 x5 x6 x7 x8 x9 x10 x11]
  sl_kernel_rfl

/-- The output block's element of 1024 rows, out of the four sub-blocks. -/
def outAt (b : Fin 4 → FVec F S256x1024 .f32) (y : S1024x1024.Idx) : Elt F .f32 :=
  b ⟨(y 0).val / 256, by have : (y 0).val < 1024 := (y 0).isLt; omega⟩ (ix2 ⟨(y 0).val % 256, by omega⟩ ⟨(y 1).val, (y 1).isLt⟩)

theorem piece_at (b : Fin 4 → FVec F S256x1024 .f32) (r : Fin 4) (x : (piece b r).1.shape.Idx) :
    (piece b r).2 x = outAt b ((piece b r).1.emb x) := by
  have h0 : (x 0).val < 256 := (x 0).isLt
  have h1 : (x 1).val < 1024 := (x 1).isLt
  have e0 : (((piece b r).1.emb x) 0).val = 256 * r.val + (x 0).val := by
    show 256 * r.val + 1 * (x 0).val = _; rw [one_mul]
  have e1 : (((piece b r).1.emb x) 1).val = (x 1).val := by
    show 0 + 1 * (x 1).val = _; omega
  unfold outAt
  have hb : (⟨(((piece b r).1.emb x) 0).val / 256, by omega⟩ : Fin 4) = r := by ext; simp only [e0]; omega
  rw [hb]
  show b r x = _
  refine congrArg (b r) ((eq_ix2 (n0 := 256) (n1 := 1024) x).trans (congrArg₂ ix2 (Fin.ext ?_) (Fin.ext ?_)))
  · show (x 0).val = (((piece b r).1.emb x) 0).val % 256; omega
  · show (x 1).val = (((piece b r).1.emb x) 1).val; omega

/-- What a grid point leaves at an element of the output block. -/
theorem out_at (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) (y : S1024x1024.Idx) :
    out0_12 x0 x1 x2 x3 x4 x5 x6 x7 x8 x9 x10 x11 y = outAt (fun r => block r x0 x1 x2 x3 x4 x5 x6 x7 x8 x9 x10 x11) y := by
  rw [pieces]
  refine View.canon_apply_of_pieces _ _ ?_ y (cover0_12 _ _ _ _ y)
  intro p hp x
  obtain ⟨r, -, rfl⟩ := List.mem_map.mp hp
  exact piece_at _ r x

end Cert.Kernel2Ideal.Ffn

end
-- ==== Proof.FfnMath.lean ====
/- The output projection and feed-forward part of the layer, one row at a time, over the extended reals. -/
module

public import Idealize.ShloMosaic.PureOps.Ideal.Laws

@[expose] public section

set_option maxRecDepth 16384

noncomputable section

namespace Cert.FfnMath

open Idealize.ShloMosaic

/-- A row's mean. -/
def rowMean (f : Fin 1024 → EReal) : EReal := Ideal.div (∑ k, f k) (Ideal.ofBits .f32 1149239296#32)

/-- A row less its mean, over its standard deviation. -/
def rowNorm (f : Fin 1024 → EReal) (j : Fin 1024) : EReal :=
  (f j - rowMean f) * Ideal.rsqrt (rowMean (fun k => (f k - rowMean f) * (f k - rowMean f)) + Ideal.ofBits .f32 897988541#32)

/-- The normalized residual step. -/
def rowPost (x gate y g b : Fin 1024 → EReal) (j : Fin 1024) : EReal :=
  rowNorm (fun k => Ideal.ofBits .f32 1068827891#32 * x k + gate k * y k) j * g j + b j

/-- The row that enters the feed-forward part. -/
def rowModulate (x sh sc : Fin 1024 → EReal) (j : Fin 1024) : EReal := rowNorm x j * (1 + sc j) + sh j

/-- A hidden feature: the gated product of two columns of the first weights. -/
def rowHidden (h : Fin 1024 → EReal) (w : Fin 1024 → Fin 5632 → EReal) (n : Fin 2816) : EReal :=
  let a := ∑ k, h k * w k ⟨n.val, by omega⟩
  (a * Ideal.div 1 (1 + Ideal.exp (-a))) * ∑ k, h k * w k ⟨2816 + n.val, by omega⟩

/-- The feed-forward part's result. -/
def rowForward (h : Fin 1024 → EReal) (w : Fin 1024 → Fin 5632 → EReal) (v : Fin 2816 → Fin 1024 → EReal) (j : Fin 1024) : EReal :=
  ∑ n, rowHidden h w n * v n j

/-- A row's result from the stream, the mixers' outputs and the six vectors' last four. -/
def row (x o gm sh sc gf : Fin 1024 → EReal) (u : Fin 1024 → Fin 1024 → EReal) (g1 b1 : Fin 1024 → EReal)
    (w : Fin 1024 → Fin 5632 → EReal) (v : Fin 2816 → Fin 1024 → EReal) (g2 b2 : Fin 1024 → EReal) (j : Fin 1024) : EReal :=
  let y := rowPost x gm (fun j => ∑ k, o k * u k j) g1 b1
  rowPost y gf (rowForward (rowModulate y sh sc) w v) g2 b2 j

theorem exp_nonneg (x : EReal) : 0 ≤ Ideal.exp x := by
  induction x with
  | bot => simp
  | top => simp
  | coe r => rw [Ideal.exp_coe]; exact_mod_cast (Real.exp_pos r).le

/-- Dividing by one plus the exponential is multiplying with the logistic function. -/
theorem div_logistic (a : EReal) : Ideal.div a (1 + Ideal.exp (0 - a)) = a * Ideal.div 1 (1 + Ideal.exp (-a)) := by
  have e : (0 : EReal) - a = -a := by rw [sub_eq_add_neg, zero_add]
  have h : (1 : EReal) + Ideal.exp (-a) ≠ 0 := by
    have h1 : (0 : EReal) < 1 := by norm_num
    exact (lt_of_lt_of_le h1 (le_add_of_nonneg_right (exp_nonneg _))).ne'
  rw [e, Ideal.div, Ideal.div, if_neg h, if_neg h, one_mul]

/-- Where a row of the permuted output projection comes from. -/
def source (n : Fin 1024) : Fin 1024 :=
  ⟨if n.val < 512 then n.val % 128 / 64 * 256 + n.val / 128 * 64 + n.val % 64 else n.val, by split <;> omega⟩

theorem source_bijective : Function.Bijective source := by
  refine Finite.injective_iff_bijective.1 fun a b h => Fin.ext ?_
  have := congrArg Fin.val h
  simp only [source] at this
  split at this <;> split at this <;> omega

/-- A contraction in the permuted order. -/
theorem sum_source (f : Fin 1024 → EReal) : ∑ k, f (source k) = ∑ k, f k := source_bijective.sum_comp f

/-- A sum over the hidden features in the kernel's three parts. -/
theorem sum_parts (f : Fin 2816 → EReal) :
    (∑ k : Fin 1024, f ⟨k.val, by omega⟩) + (∑ k : Fin 1024, f ⟨1024 + k.val, by omega⟩) + (∑ k : Fin 768, f ⟨2048 + k.val, by omega⟩)
      = ∑ k, f k := by
  have h1 := Fin.sum_univ_add (a := 1024 + 1024) (b := 768) f
  have h2 := Fin.sum_univ_add (a := 1024) (b := 1024) fun k => f (Fin.castAdd 768 k)
  rw [h2] at h1
  exact h1.symm

end Cert.FfnMath

end
-- ==== Proof.FfnValue.lean ====
/- A sub-block of the output projection and feed-forward kernel over the extended reals: each of its rows is the row function of
   the reference, whatever the inputs. -/
module

public import proofs.«01_k».proof.Proof.FfnBlock
public import proofs.«01_k».proof.Proof.FfnMath
public import Idealize.ShloMosaic.Lib.Pipeline.Value

@[expose] public section

set_option maxRecDepth 16384

noncomputable section

namespace Cert.Kernel2Ideal.Ffn

open Cert.Kernel2Ideal Cert.Kernel2Ideal.Gen Cert.FfnMath Idealize.ShloMosaic Idealize.ShloMosaic.TcCoe Idealize.SL.Sem

section
variable (x y : FVec Ideal S256x1024 .f32) (gate g b sh sc : FVec Ideal S1x1024 .f32) (a : Fin 256) (j : Fin 1024)

theorem norm_at : (scaled (centre x) (ix2 a j) : EReal) = rowNorm (fun k => x (ix2 a k)) j := by
  unfold rowNorm rowMean
  pointwise [meanCol, scaled, centre]

theorem post_at : (postNorm x gate y g b (ix2 a j) : EReal)
    = rowPost (fun k => x (ix2 a k)) (fun k => gate (ix2 0 k)) (fun k => y (ix2 a k)) (fun k => g (ix2 0 k)) (fun k => b (ix2 0 k)) j := by
  have hr : ∀ k, (residual x gate y (ix2 a k) : EReal)
      = Ideal.ofBits .f32 1068827891#32 * x (ix2 a k) + gate (ix2 0 k) * y (ix2 a k) := fun k => by pointwise [residual]
  have hn := (norm_at (residual x gate y) a j).trans (congrArg (fun f => rowNorm f j) (funext hr))
  unfold rowPost
  refine Eq.trans ?_ (congrArg (fun v : EReal => v * g (ix2 0 j) + b (ix2 0 j)) hn)
  pointwise [postNorm]

theorem modulated_at : (modulated x sh sc (ix2 a j) : EReal)
    = rowModulate (fun k => x (ix2 a k)) (fun k => sh (ix2 0 k)) (fun k => sc (ix2 0 k)) j := by
  unfold rowModulate
  refine Eq.trans ?_ (congrArg (fun v : EReal => v * (1 + sc (ix2 0 j)) + sh (ix2 0 j)) (norm_at x a j))
  pointwise [modulated]

end

section
variable (h : FVec Ideal S256x1024 .bf16) (a : Fin 256) (j : Fin 1024)

theorem wide_at (wa wb wo : Vec Ideal S1024x1024 .bf16) : (wide h wa wb wo (ix2 a j) : EReal)
    = ∑ n, (Ideal.div (∑ k, h (ix2 a k) * wa (ix2 k n)) (1 + Ideal.exp (0 - ∑ k, h (ix2 a k) * wa (ix2 k n)))
        * ∑ k, h (ix2 a k) * wb (ix2 k n)) * wo (ix2 n j) := by
  pointwise [wide]

theorem narrow_at (wa wb : Vec Ideal S1024x768 .bf16) (wo : Vec Ideal S768x1024 .bf16) : (narrow h wa wb wo (ix2 a j) : EReal)
    = ∑ n, (Ideal.div (∑ k, h (ix2 a k) * wa (ix2 k n)) (1 + Ideal.exp (0 - ∑ k, h (ix2 a k) * wa (ix2 k n)))
        * ∑ k, h (ix2 a k) * wb (ix2 k n)) * wo (ix2 n j) := by
  pointwise [narrow]

variable (x8 : Vec Ideal S1024x5632 .bf16) (x9 : Vec Ideal S2816x1024 .bf16)

/-- The three parts' sums together are the whole sum over the hidden features. -/
theorem forward_at : (forward h x8 x9 (ix2 a j) : EReal)
    = rowForward (fun k => h (ix2 a k)) (fun k n => x8 (ix2 k n)) (fun n j => x9 (ix2 n j)) j := by
  have e : (forward h x8 x9 (ix2 a j) : EReal)
      = wide h (View.ld x8 r0_265) (View.ld x8 r0_266) (View.ld x9 r0_267) (ix2 a j)
        + wide h (View.ld x8 r0_268) (View.ld x8 r0_269) (View.ld x9 r0_270) (ix2 a j)
        + narrow h (View.ld x8 r0_271) (View.ld x8 r0_272) (View.ld x9 r0_273) (ix2 a j) := by pointwise [forward]
  rw [e, wide_at, wide_at, narrow_at]
  unfold rowForward rowHidden
  rw [← sum_parts]
  simp only [div_logistic]
  refine congrArg₂ (· + ·) (congrArg₂ (· + ·) ?_ ?_) ?_
  · refine Finset.sum_congr rfl fun n _ => ?_
    pointwise
  · refine Finset.sum_congr rfl fun n _ => ?_
    have e : (⟨2816 + (1024 + n.val), by omega⟩ : Fin 5632) = ⟨3840 + n.val, by omega⟩ := Fin.ext (by show 2816 + (1024 + n.val) = 3840 + n.val; omega)
    simp only [e]
    pointwise
  · refine Finset.sum_congr rfl fun n _ => ?_
    have e : (⟨2816 + (2048 + n.val), by omega⟩ : Fin 5632) = ⟨4864 + n.val, by omega⟩ := Fin.ext (by show 2816 + (2048 + n.val) = 4864 + n.val; omega)
    simp only [e]
    pointwise

end

theorem modVec_at (x4 : Vec Ideal S1x8x6144 .f32) (n : Fin 6) (j : Fin 1024) :
    (modVec n x4 (ix2 0 j) : EReal) = x4 (ix3 0 0 ⟨1024 * n.val + j.val, by omega⟩) := by
  pointwise [modVec]

theorem rows_at (x0 : Vec Ideal S1024x1024 .f32) (r : Fin 4) (a : Fin 256) (j : Fin 1024) :
    (rows r x0 (ix2 a j) : EReal) = x0 (ix2 ⟨256 * r.val + a.val, by omega⟩ j) := by
  pointwise [rows]

theorem project_at (r : Fin 4) (o : FVec Ideal S1024x1024 .bf16) (x5 : Vec Ideal S1x1024x1024 .bf16) (a : Fin 256) (j : Fin 1024) :
    (project r o x5 (ix2 a j) : EReal) = ∑ k, o (ix2 ⟨256 * r.val + a.val, by omega⟩ k) * x5 (ix3 0 k j) := by
  pointwise [project]

theorem gain_at (x6 : Vec Ideal S2x1024 .f32) (j : Fin 1024) : ((View.ld x6 r0_260 : Vec Ideal S1x1024 .f32) (ix2 0 j) : EReal) = x6 (ix2 1 j) := by
  pointwise

theorem tile_at (x2 : Vec Ideal S2x16x64x128 .f32) (h : Fin 2) (n : Fin 128) (s : Fin 8) (l : Fin 128) :
    (tile h x2 n (ix2 s l) : EReal) = x2 (ix4 h ⟨n.val % 16, by omega⟩ ⟨8 * (n.val / 16) + s.val, by omega⟩ l) := by
  unfold tile
  refine (shapeCast_apply _ shapeCasts_S1x1x8x128_S8x128 (ix2 s l) (ix4 0 0 s l) ?_).trans ?_
  · rw [Shape.rowMajor_val_four, Shape.rowMajor_val_two]
    show ((0 * 1 + 0) * 8 + s.val) * 128 + l.val = s.val * 128 + l.val
    omega
  · refine congrArg x2 (funext fun b => Fin.ext ?_)
    match b with
    | ⟨0, _⟩ => show h.val + 1 * 0 = h.val; omega
    | ⟨1, _⟩ => show n.val % 16 + 1 * 0 = n.val % 16; omega
    | ⟨2, _⟩ => show 8 * (n.val / 16) + 1 * s.val = 8 * (n.val / 16) + s.val; omega
    | ⟨3, _⟩ => show 0 + 1 * l.val = l.val; omega

/-- A half of the Fourier mixer's output at row `p` of the point's rows. -/
theorem half_at (x2 : Vec Ideal S2x16x64x128 .f32) (h : Fin 2) (p : Fin 1024) (l : Fin 128) :
    (half h x2 (ix2 p l) : EReal) = x2 (ix4 h ⟨p.val / 8 % 16, by omega⟩ ⟨8 * (p.val / 128) + p.val % 8, by omega⟩ l) := by
  have e := concatenate_ofFn_apply (t := S1024x128) (s₁ := S8x128) 0 (tile h x2) (cat_shapes (tile h x2)) rfl 8 rfl (ix2 p l) ⟨p.val / 8, by omega⟩ rfl
    (ix2 ⟨p.val % 8, by omega⟩ l) rfl (fun b hb => by
      match b with
      | ⟨0, _⟩ => exact absurd rfl hb
      | ⟨1, _⟩ => rfl)
  show (concatenate S1024x128 0 (List.ofFn fun n : Fin 128 => ⟨S8x128, tile h x2 n⟩) (cat_shapes (tile h x2)) (ix2 p l) : EReal) = _
  rw [e, tile_at]
  refine congrArg x2 (congrArg (fun a => ix4 h _ a l) (Fin.ext ?_))
  show 8 * (p.val / 8 / 16) + p.val % 8 = 8 * (p.val / 128) + p.val % 8
  omega

theorem mixers_at (x1 : Vec Ideal S1024x512 .bf16) (x2 : Vec Ideal S2x16x64x128 .f32) (x3 : Vec Ideal S1024x256 .bf16) (p k : Fin 1024) :
    (mixers x1 x2 x3 (ix2 p k) : EReal)
      = if h : k.val < 512 then x1 (ix2 p ⟨k.val, h⟩)
        else if h' : k.val < 768 then x2 (ix4 ⟨(k.val - 512) / 128, by omega⟩ ⟨p.val / 8 % 16, by omega⟩ ⟨8 * (p.val / 128) + p.val % 8, by omega⟩ ⟨k.val % 128, by omega⟩)
        else x3 (ix2 p ⟨k.val - 768, by omega⟩) := by
  pointwise [mixers]
  by_cases h1 : k.val < 512
  · rw [dif_pos h1, dif_pos h1]
  · rw [dif_neg h1, dif_neg h1]
    by_cases h2 : k.val - 512 < 128
    · rw [dif_pos h2, dif_pos (by omega), half_at]
      refine congrArg x2 (congrArg₂ (fun h l => ix4 h _ _ l) (Fin.ext ?_) (Fin.ext ?_))
      · show 0 = (k.val - 512) / 128; omega
      · show k.val - 512 = k.val % 128; omega
    · rw [dif_neg h2]
      by_cases h3 : k.val - 512 - 128 < 128
      · rw [dif_pos h3, dif_pos (by omega), half_at]
        refine congrArg x2 (congrArg₂ (fun h l => ix4 h _ _ l) (Fin.ext ?_) (Fin.ext ?_))
        · show 1 = (k.val - 512) / 128; omega
        · show k.val - 512 - 128 = k.val % 128; omega
      · rw [dif_neg h3, dif_neg (by omega)]
        exact congrArg (fun a => x3 (ix2 p a)) (Fin.ext (by show k.val - 512 - 128 - 128 = k.val - 768; omega))

section
variable (x0 : Vec Ideal S1024x1024 .f32) (x1 : Vec Ideal S1024x512 .bf16) (x2 : Vec Ideal S2x16x64x128 .f32) (x3 : Vec Ideal S1024x256 .bf16)
  (x4 : Vec Ideal S1x8x6144 .f32) (x5 : Vec Ideal S1x1024x1024 .bf16) (x6 x7 : Vec Ideal S2x1024 .f32) (x8 : Vec Ideal S1024x5632 .bf16)
  (x9 : Vec Ideal S2816x1024 .bf16) (x10 x11 : Vec Ideal S2x1024 .f32) (r : Fin 4) (a : Fin 256) (j : Fin 1024)

/-- Modulation vector `n` of a point's window. -/
def vec (n : Fin 6) (j : Fin 1024) : EReal := x4 (ix3 0 0 ⟨1024 * n.val + j.val, by omega⟩)

/-- A sub-block's row is the row function of the point's input rows. -/
theorem block_at : (block r x0 x1 x2 x3 x4 x5 x6 x7 x8 x9 x10 x11 (ix2 a j) : EReal)
    = row (fun k => x0 (ix2 ⟨256 * r.val + a.val, by omega⟩ k)) (fun k => mixers x1 x2 x3 (ix2 ⟨256 * r.val + a.val, by omega⟩ k))
        (vec x4 2) (vec x4 3) (vec x4 4) (vec x4 5) (fun k j => x5 (ix3 0 k j)) (fun k => x6 (ix2 1 k)) (fun k => x7 (ix2 1 k))
        (fun k n => x8 (ix2 k n)) (fun n j => x9 (ix2 n j)) (fun k => x10 (ix2 1 k)) (fun k => x11 (ix2 1 k)) j := by
  have hv : ∀ n, (fun k => (modVec n x4 (ix2 0 k) : EReal)) = vec x4 n := fun n => funext fun k => modVec_at x4 n k
  have hg : ∀ x : Vec Ideal S2x1024 .f32, (fun k => ((View.ld x r0_260 : Vec Ideal S1x1024 .f32) (ix2 0 k) : EReal)) = fun k => x (ix2 1 k) :=
    fun x => funext fun k => gain_at x k
  have hs := funext fun k => post_at (rows r x0) (project r (mixers x1 x2 x3) x5) (modVec 2 x4) (View.ld x6 r0_260) (View.ld x7 r0_260) a k
  simp only [rows_at, project_at, hv, hg] at hs
  unfold block
  rw [post_at]
  unfold stream
  simp only [forward_at, modulated_at, hv, hg]
  unfold row
  rw [hs]

end

end Cert.Kernel2Ideal.Ffn

end
-- ==== Proof.FfnHost.lean ====
/- The output projection and feed-forward kernel's prepared arrays, read at an index: what the host operations leave for the grid. -/
module

public import proofs.«01_k».proof.Proof.FfnBlock
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem host_x (p : Fin 16384) (n : Fin 1024) :
    (V m c main_v41 : FVec Ideal S16384x1024 .f32) (ix2 p n) = (m ((c : Thread nD τ).loc main_arg0) : FVec Ideal S1x16384x1024 .f32) (ix3 0 p n) := by
  unfold V
  after_reads_at

theorem host_sg (p : Fin 16384) (n : Fin 256) :
    (V m c main_v43 : FVec Ideal S16384x256 .bf16) (ix2 p n) = (m ((c : Thread nD τ).loc main_arg3) : FVec Ideal S1x16384x256 .f32) (ix3 0 p n) := by
  unfold V
  after_reads_at

theorem host_w1 (k : Fin 1024) (n : Fin 5632) :
    (V m c main_v37 : FVec Ideal S1024x5632 .bf16) (ix2 k n) = (m ((c : Thread nD τ).loc main_arg8) : FVec Ideal S2x1024x5632 .f32) (ix3 1 k n) := by
  unfold V
  after_reads_at

theorem host_w2 (k : Fin 2816) (n : Fin 1024) :
    (V m c main_v40 : FVec Ideal S2816x1024 .bf16) (ix2 k n) = (m ((c : Thread nD τ).loc main_arg9) : FVec Ideal S2x2816x1024 .f32) (ix3 1 k n) := by
  unfold V
  after_reads_at

theorem host_mod (n : Fin 6144) :
    (V m c main_v23 : FVec Ideal S2x8x6144 .f32) (ix3 1 0 n) = (m ((c : Thread nD τ).loc main_arg4) : FVec Ideal S2x2x6144 .f32) (ix3 1 0 n) := by
  unfold V
  after_reads_at

theorem host_of (h : Fin 2) (kb : Fin 16) (k2 : Fin 128) (s : Fin 8) (l : Fin 128) :
    (V m c main_v21 : FVec Ideal S2x16x1024x128 .f32) (ix4 h kb ⟨k2.val * 8 + s.val, by omega⟩ l)
      = (m ((c : Thread nD τ).loc main_arg2) : FVec Ideal S1x16384x256 .f32) (ix3 0 ⟨k2.val * 128 + kb.val * 8 + s.val, by omega⟩ ⟨h.val * 128 + l.val, by omega⟩) := by
  unfold V
  after_reads_at

set_option maxHeartbeats 4000000 in
/-- A column of the heads in the call's order, in the order of the heads. -/
theorem host_oa (p : Fin 16384) (n : Fin 512) (k : Fin 512) (hk : k.val = n.val % 128 / 64 * 256 + n.val / 128 * 64 + n.val % 64) :
    (V m c main_v17 : FVec Ideal S16384x512 .bf16) (ix2 p n) = (m ((c : Thread nD τ).loc main_arg1) : FVec Ideal S1x16384x512 .f32) (ix3 0 p k) := by
  unfold V
  after_reads_at
  after_reads_at
  generalize (m ((c : Thread nD τ).loc main_arg1) : FVec Ideal S1x16384x512 .f32) = f
  have e : ∀ a : Fin 512, a.val = k.val → f (ix3 0 p a) = f (ix3 0 p k) := fun a h => congrArg (fun k => f (ix3 0 p k)) (Fin.ext h)
  repeat' split
  all_goals refine e _ ?_
  all_goals try dsimp only
  all_goals omega

set_option maxHeartbeats 4000000 in
/-- A row of the output projection in the call's order of heads. -/
theorem host_wo (n j : Fin 1024) (k : Fin 1024)
    (hl : n.val < 512 → k.val = n.val % 128 / 64 * 256 + n.val / 128 * 64 + n.val % 64) (hr : 512 ≤ n.val → k.val = n.val) :
    (V m c main_v34 : FVec Ideal S2x1024x1024 .bf16) (ix3 1 n j) = (m ((c : Thread nD τ).loc main_arg5) : FVec Ideal S2x1024x1024 .f32) (ix3 1 k j) := by
  unfold V
  after_reads_at
  after_reads_at
  generalize (m ((c : Thread nD τ).loc main_arg5) : FVec Ideal S2x1024x1024 .f32) = f
  have e : ∀ a : Fin 1024, a.val = k.val → f (ix3 1 a j) = f (ix3 1 k j) := fun a h => congrArg (fun k => f (ix3 1 k j)) (Fin.ext h)
  repeat' split
  all_goals refine e _ ?_
  all_goals try dsimp only
  all_goals omega

end Cert.Kernel2Ideal.Ffn

end
-- ==== Proof.FfnFinal.lean ====
/- The output projection and feed-forward kernel's whole result: the row function of the arguments at every position. -/
module

public import proofs.«01_k».proof.Proof.FfnValue
public import proofs.«01_k».proof.Proof.FfnHost
public import Idealize.ShloMosaic.Lib.Pipeline.ValueKit

@[expose] public section

set_option maxRecDepth 16384

noncomputable section

namespace Cert.Kernel2Ideal.Ffn

open Cert.Kernel2Ideal Cert.Kernel2Ideal.Gen Cert.Kernel2Ideal.Value Cert.FfnMath Idealize.ShloMosaic Idealize.ShloMosaic.TcCoe Idealize.SL.Sem

/-- Where the windows that move with the grid point, and the layer's windows, have their blocks. -/
theorem index_facts : ∀ t : Fin cfg0.N, win0_0.index t = ![t.val, 0] ∧ win0_1.index t = ![t.val, 0] ∧ win0_2.index t = ![0, 0, t.val, 0]
    ∧ win0_3.index t = ![t.val, 0] ∧ win0_4.index t = ![1, 0, 0] ∧ win0_5.index t = ![1, 0, 0] ∧ win0_12.index t = ![t.val, 0] :=
  (by decide +kernel : ∀ t : Fin grid0.N, win0_0.index t = ![t.val, 0] ∧ win0_1.index t = ![t.val, 0] ∧ win0_2.index t = ![0, 0, t.val, 0]
    ∧ win0_3.index t = ![t.val, 0] ∧ win0_4.index t = ![1, 0, 0] ∧ win0_5.index t = ![1, 0, 0] ∧ win0_12.index t = ![t.val, 0])

/-- The other windows hold their whole arrays. -/
theorem whole_facts : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, win0_6.index t = ![0, 0] ∧ win0_7.index t = ![0, 0] ∧ win0_8.index t = ![0, 0]
    ∧ win0_9.index t = ![0, 0] ∧ win0_10.index t = ![0, 0] ∧ win0_11.index t = ![0, 0])

section
variable (m : (ℓ : Loc nD τ sig) → Buf (Elt Ideal) ℓ) (c : Dev nD) (t : Fin cfg0.N)

theorem point_lt : t.val < 16 := lt_of_lt_of_eq t.isLt (by decide)

theorem blk_x (a : Fin 1024) (b : Fin 1024) :
    (iblk m c 0 t : Vec Ideal S1024x1024 .f32) (ix2 a b)
      = (V m c main_v41 : FVec Ideal S16384x1024 .f32) (ix2 ⟨1024 * t.val + a.val, by have := point_lt t; omega⟩ b) := by
  obtain ⟨e0, -⟩ := index_facts t
  blk_simp [iblk]
  blk_ext [e0]

theorem blk_oa (a : Fin 1024) (b : Fin 512) :
    (iblk m c 1 t : Vec Ideal S1024x512 .bf16) (ix2 a b)
      = (V m c main_v17 : FVec Ideal S16384x512 .bf16) (ix2 ⟨1024 * t.val + a.val, by have := point_lt t; omega⟩ b) := by
  obtain ⟨-, e0, -⟩ := index_facts t
  blk_simp [iblk]
  blk_ext [e0]

/-- A block of the third window, read off an array of its shape. -/
theorem read_of (X : FVec Ideal S2x16x1024x128 .f32) (i : S2x16x64x128.Idx) :
    ((cfg0.win 2).blk t).view.read (Elt Ideal) X i = X ((win0_2.blk t).view.emb i) := by
  rfl

/-- The third window's block, before it is read at an index. -/
theorem iblk_of : (iblk m c 2 t : Vec Ideal S2x16x64x128 .f32) = ((cfg0.win 2).blk t).view.read (Elt Ideal) (V m c main_v21) := by
  unfold iblk
  rfl

theorem blk_of (h : Fin 2) (kb : Fin 16) (a : Fin 64) (l : Fin 128) :
    (iblk m c 2 t : Vec Ideal S2x16x64x128 .f32) (ix4 h kb a l)
      = (V m c main_v21 : FVec Ideal S2x16x1024x128 .f32) (ix4 h kb ⟨64 * t.val + a.val, by have := point_lt t; omega⟩ l) := by
  obtain ⟨-, -, e0, -⟩ := index_facts t
  refine (congrFun (iblk_of m c t) _).trans ?_
  generalize (V m c main_v21 : FVec Ideal S2x16x1024x128 .f32) = f
  refine (read_of t f _).trans ?_
  refine congrArg f ?_
  blk_ext [e0]

theorem blk_sg (a : Fin 1024) (b : Fin 256) :
    (iblk m c 3 t : Vec Ideal S1024x256 .bf16) (ix2 a b)
      = (V m c main_v43 : FVec Ideal S16384x256 .bf16) (ix2 ⟨1024 * t.val + a.val, by have := point_lt t; omega⟩ b) := by
  obtain ⟨-, -, -, e0, -⟩ := index_facts t
  blk_simp [iblk]
  blk_ext [e0]

theorem blk_mod (n : Fin 6144) :
    (iblk m c 4 t : Vec Ideal S1x8x6144 .f32) (ix3 0 0 n) = (V m c main_v23 : FVec Ideal S2x8x6144 .f32) (ix3 1 0 n) := by
  obtain ⟨-, -, -, -, e0, -⟩ := index_facts t
  blk_simp [iblk]
  blk_ext [e0]

theorem blk_wo (a b : Fin 1024) :
    (iblk m c 5 t : Vec Ideal S1x1024x1024 .bf16) (ix3 0 a b) = (V m c main_v34 : FVec Ideal S2x1024x1024 .bf16) (ix3 1 a b) := by
  obtain ⟨-, -, -, -, -, e0, -⟩ := index_facts t
  blk_simp [iblk]
  blk_ext [e0]

theorem blk_g1 (a : Fin 2) (b : Fin 1024) :
    (iblk m c 6 t : Vec Ideal S2x1024 .f32) (ix2 a b) = (m ((c : Thread nD τ).loc main_arg6) : FVec Ideal S2x1024 .f32) (ix2 a b) := by
  obtain ⟨e0, -⟩ := whole_facts t
  rw [← V_main_arg6 m c]
  blk_simp [iblk]
  blk_ext [e0]

theorem blk_b1 (a : Fin 2) (b : Fin 1024) :
    (iblk m c 7 t : Vec Ideal S2x1024 .f32) (ix2 a b) = (m ((c : Thread nD τ).loc main_arg7) : FVec Ideal S2x1024 .f32) (ix2 a b) := by
  obtain ⟨-, e0, -⟩ := whole_facts t
  rw [← V_main_arg7 m c]
  blk_simp [iblk]
  blk_ext [e0]

theorem blk_w1 (a : Fin 1024) (b : Fin 5632) :
    (iblk m c 8 t : Vec Ideal S1024x5632 .bf16) (ix2 a b) = (V m c main_v37 : FVec Ideal S1024x5632 .bf16) (ix2 a b) := by
  obtain ⟨-, -, e0, -⟩ := whole_facts t
  blk_simp [iblk]
  blk_ext [e0]

theorem blk_w2 (a : Fin 2816) (b : Fin 1024) :
    (iblk m c 9 t : Vec Ideal S2816x1024 .bf16) (ix2 a b) = (V m c main_v40 : FVec Ideal S2816x1024 .bf16) (ix2 a b) := by
  obtain ⟨-, -, -, e0, -⟩ := whole_facts t
  blk_simp [iblk]
  blk_ext [e0]

theorem blk_g2 (a : Fin 2) (b : Fin 1024) :
    (iblk m c 10 t : Vec Ideal S2x1024 .f32) (ix2 a b) = (m ((c : Thread nD τ).loc main_arg10) : FVec Ideal S2x1024 .f32) (ix2 a b) := by
  obtain ⟨-, -, -, -, e0, -⟩ := whole_facts t
  rw [← V_main_arg10 m c]
  blk_simp [iblk]
  blk_ext [e0]

theorem blk_b2 (a : Fin 2) (b : Fin 1024) :
    (iblk m c 11 t : Vec Ideal S2x1024 .f32) (ix2 a b) = (m ((c : Thread nD τ).loc main_arg11) : FVec Ideal S2x1024 .f32) (ix2 a b) := by
  obtain ⟨-, -, -, -, -, e0⟩ := whole_facts t
  rw [← V_main_arg11 m c]
  blk_simp [iblk]
  blk_ext [e0]

end

section
variable (m : (ℓ : Loc nD τ sig) → Buf (Elt Ideal) ℓ) (c : Dev nD)

/-- The mixers' outputs of position `p`, side by side. -/
def mixed (p : Fin 16384) (k : Fin 1024) : EReal :=
  if h : k.val < 512 then (m ((c : Thread nD τ).loc main_arg1) : FVec Ideal S1x16384x512 .f32) (ix3 0 p ⟨k.val, h⟩)
  else if h' : k.val < 768 then (m ((c : Thread nD τ).loc main_arg2) : FVec Ideal S1x16384x256 .f32) (ix3 0 p ⟨k.val - 512, by omega⟩)
  else (m ((c : Thread nD τ).loc main_arg3) : FVec Ideal S1x16384x256 .f32) (ix3 0 p ⟨k.val - 768, by omega⟩)

/-- A point's rows of the mixers' outputs are the arguments' rows, columns in the call's order. -/
theorem mixers_source (t : Fin cfg0.N) (a k : Fin 1024) :
    (mixers (iblk m c 1 t) (iblk m c 2 t) (iblk m c 3 t) (ix2 a k) : EReal)
      = mixed m c ⟨1024 * t.val + a.val, by have := point_lt t; omega⟩ (source k) := by
  have ht := point_lt t
  refine (mixers_at _ _ _ a k).trans ?_
  unfold mixed
  by_cases h1 : k.val < 512
  · have hs : (source k).val = k.val % 128 / 64 * 256 + k.val / 128 * 64 + k.val % 64 := if_pos h1
    rw [dif_pos h1, dif_pos (show (source k).val < 512 by omega)]
    exact (blk_oa m c t _ _).trans (host_oa m c _ _ ⟨(source k).val, by omega⟩ hs)
  · have hs : (source k).val = k.val := if_neg h1
    rw [dif_neg h1, dif_neg (show ¬ (source k).val < 512 by omega)]
    by_cases h2 : k.val < 768
    · rw [dif_pos h2, dif_pos (show (source k).val < 768 by omega)]
      refine (blk_of m c t _ _ _ _).trans ?_
      have e : (⟨64 * t.val + (8 * (a.val / 128) + a.val % 8), by omega⟩ : Fin 1024)
          = ⟨(⟨8 * t.val + a.val / 128, by omega⟩ : Fin 128).val * 8 + (⟨a.val % 8, by omega⟩ : Fin 8).val, by dsimp only; omega⟩ :=
        Fin.ext (by show 64 * t.val + (8 * (a.val / 128) + a.val % 8) = (8 * t.val + a.val / 128) * 8 + a.val % 8; omega)
      refine (congrArg (fun b => (V m c main_v21 : FVec Ideal S2x16x1024x128 .f32) (ix4 _ _ b _)) e).trans ?_
      refine (host_of m c _ _ _ _ _).trans ?_
      refine congrArg₂ (fun p n => (m ((c : Thread nD τ).loc main_arg2) : FVec Ideal S1x16384x256 .f32) (ix3 0 p n)) (Fin.ext ?_) (Fin.ext ?_)
      · show (8 * t.val + a.val / 128) * 128 + a.val / 8 % 16 * 8 + a.val % 8 = 1024 * t.val + a.val; omega
      · show (k.val - 512) / 128 * 128 + k.val % 128 = (source k).val - 512; omega
    · rw [dif_neg h2, dif_neg (show ¬ (source k).val < 768 by omega)]
      refine (blk_sg m c t _ _).trans ((host_sg m c _ _).trans ?_)
      exact congrArg (fun n => (m ((c : Thread nD τ).loc main_arg3) : FVec Ideal S1x16384x256 .f32) (ix3 0 _ n))
        (Fin.ext (by show k.val - 768 = (source k).val - 768; omega))

/-- Modulation vector `n` of the layer and condition. -/
def layerVec (n : Fin 6) (j : Fin 1024) : EReal :=
  (m ((c : Thread nD τ).loc main_arg4) : FVec Ideal S2x2x6144 .f32) (ix3 1 0 ⟨1024 * n.val + j.val, by omega⟩)

/-- The result's row at position `p`. -/
def spec (p : Fin 16384) (j : Fin 1024) : EReal :=
  row (fun k => (m ((c : Thread nD τ).loc main_arg0) : FVec Ideal S1x16384x1024 .f32) (ix3 0 p k)) (mixed m c p)
    (layerVec m c 2) (layerVec m c 3) (layerVec m c 4) (layerVec m c 5)
    (fun k j => (m ((c : Thread nD τ).loc main_arg5) : FVec Ideal S2x1024x1024 .f32) (ix3 1 k j))
    (fun k => (m ((c : Thread nD τ).loc main_arg6) : FVec Ideal S2x1024 .f32) (ix2 1 k))
    (fun k => (m ((c : Thread nD τ).loc main_arg7) : FVec Ideal S2x1024 .f32) (ix2 1 k))
    (fun k n => (m ((c : Thread nD τ).loc main_arg8) : FVec Ideal S2x1024x5632 .f32) (ix3 1 k n))
    (fun n j => (m ((c : Thread nD τ).loc main_arg9) : FVec Ideal S2x2816x1024 .f32) (ix3 1 n j))
    (fun k => (m ((c : Thread nD τ).loc main_arg10) : FVec Ideal S2x1024 .f32) (ix2 1 k))
    (fun k => (m ((c : Thread nD τ).loc main_arg11) : FVec Ideal S2x1024 .f32) (ix2 1 k)) j

/-- The row function depends on the mixers' outputs and the projection through their product alone. -/
theorem row_source (x o o' gm sh sc gf : Fin 1024 → EReal) (u u' : Fin 1024 → Fin 1024 → EReal) (g1 b1 : Fin 1024 → EReal)
    (w : Fin 1024 → Fin 5632 → EReal) (v : Fin 2816 → Fin 1024 → EReal) (g2 b2 : Fin 1024 → EReal)
    (ho : ∀ k, o k = o' (source k)) (hu : ∀ k j, u k j = u' (source k) j) :
    row x o gm sh sc gf u g1 b1 w v g2 b2 = row x o' gm sh sc gf u' g1 b1 w v g2 b2 := by
  have e : (fun j => ∑ k, o k * u k j) = fun j => ∑ k, o' k * u' k j := by
    funext j
    simp only [ho, hu]
    exact sum_source fun k => o' k * u' k j
  unfold row
  rw [e]

theorem block_spec (t : Fin cfg0.N) (r : Fin 4) (a : Fin 256) (j : Fin 1024) :
    (block r (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a j) : EReal)
      = spec m c ⟨1024 * t.val + (256 * r.val + a.val), by have := point_lt t; omega⟩ j := by
  refine (block_at _ _ _ _ _ _ _ _ _ _ _ _ r a j).trans ?_
  have hx : (fun k => (iblk m c 0 t : Vec Ideal S1024x1024 .f32) (ix2 ⟨256 * r.val + a.val, by omega⟩ k)) = _ :=
    funext fun k => (blk_x m c t _ k).trans (host_x m c _ k)
  have hv : ∀ n, vec (iblk m c 4 t) n = layerVec m c n := fun n => funext fun k => (blk_mod m c t _).trans (host_mod m c _)
  have h6 : (fun k => (iblk m c 6 t : Vec Ideal S2x1024 .f32) (ix2 1 k)) = _ := funext fun k => blk_g1 m c t 1 k
  have h7 : (fun k => (iblk m c 7 t : Vec Ideal S2x1024 .f32) (ix2 1 k)) = _ := funext fun k => blk_b1 m c t 1 k
  have h8 : (fun k n => (iblk m c 8 t : Vec Ideal S1024x5632 .bf16) (ix2 k n)) = _ :=
    funext fun k => funext fun n => (blk_w1 m c t k n).trans (host_w1 m c k n)
  have h9 : (fun n j => (iblk m c 9 t : Vec Ideal S2816x1024 .bf16) (ix2 n j)) = _ :=
    funext fun n => funext fun j => (blk_w2 m c t n j).trans (host_w2 m c n j)
  have h10 : (fun k => (iblk m c 10 t : Vec Ideal S2x1024 .f32) (ix2 1 k)) = _ := funext fun k => blk_g2 m c t 1 k
  have h11 : (fun k => (iblk m c 11 t : Vec Ideal S2x1024 .f32) (ix2 1 k)) = _ := funext fun k => blk_b2 m c t 1 k
  rw [hx, hv, hv, hv, hv, h6, h7, h8, h9, h10, h11]
  refine congrFun (row_source _ _ (mixed m c ⟨1024 * t.val + (256 * r.val + a.val), by have := point_lt t; omega⟩) _ _ _ _ _ _ _ _ _ _ _ _
    (fun k => mixers_source m c t _ k) (fun k j => ?_)) j
  exact (blk_wo m c t k j).trans (host_wo m c k j (source k) (fun h => if_pos h) (fun h => if_neg (by omega)))

/-- An array of the result's shape, from its value at each position and feature. -/
def layOut (f : Fin 16384 → Fin 1024 → EReal) (i : S16384x1024.Idx) : EReal := f ⟨(i 0).val, (i 0).isLt⟩ ⟨(i 1).val, (i 1).isLt⟩

/-- A grid point's four sub-blocks, laid out in its output block, are its rows of the whole array. -/
theorem out_lay (b : Fin 4 → FVec Ideal S256x1024 .f32) (f : Fin 16384 → Fin 1024 → EReal) (T : ℕ) (hT : T < 16)
    (hb : ∀ (r : Fin 4) (a : Fin 256) (j : Fin 1024), b r (ix2 a j) = f ⟨1024 * T + (256 * r.val + a.val), by omega⟩ j)
    (y : S1024x1024.Idx) (i : S16384x1024.Idx) (i0 : (i 0).val = 1024 * T + (y 0).val) (i1 : (i 1).val = (y 1).val) :
    outAt b y = layOut f i := by
  have h0 : (y 0).val < 1024 := (y 0).isLt
  unfold outAt layOut
  refine (hb _ _ _).trans (congrArg₂ f (Fin.ext ?_) (Fin.ext i1.symm))
  show 1024 * T + (256 * ((y 0).val / 256) + (y 0).val % 256) = (i 0).val
  omega

/-- The result array after the run. -/
theorem result_array : ((dats m 0 c).arrAt 12 cfg0.N : S16384x1024.Idx → EReal) = layOut (spec m c) := by
  refine (dats m 0 c).arrAt_eq_of_covers 12 _ (by decide +kernel) fun t hf y => ?_
  obtain ⟨-, -, -, -, -, -, e⟩ := index_facts t
  have h0 : (y 0).val < 1024 := (y 0).isLt
  blk_simp
  rw [after0_12, out_at]
  exact out_lay _ _ t.val (point_lt t) (fun r a j => block_spec m c t r a j) y _ (by blk_simp [e]; omega) (by blk_simp [e])

end

end Cert.Kernel2Ideal.Ffn

end
-- ==== Proof.FfnRef.lean ====
/- The reference's output projection and feed-forward part read at an index over the extended reals. -/
module

public import proofs.«01_k».proof.Proof.Gen.Reference2Ideal.Read
public import proofs.«01_k».proof.Proof.FfnMath
public import Idealize.ShloMosaic.Lib.Pointwise

@[expose] public section

set_option maxRecDepth 16384

noncomputable section

namespace Cert.Reference2Ideal.Ffn

open Cert.Reference2Ideal Cert.Reference2Ideal.Value Cert.Reference2Ideal.Gen Cert.Reference2Ideal.Read Cert.FfnMath Idealize.ShloMosaic Idealize.ShloMosaic.TcCoe Idealize.SL.Sem

variable (x0 : FVec Ideal S1x16384x1024 .f32) (x1 : FVec Ideal S1x16384x512 .f32) (x2 x3 : FVec Ideal S1x16384x256 .f32)
  (x4 : FVec Ideal S2x2x6144 .f32) (x5 : FVec Ideal S2x1024x1024 .f32) (x6 x7 : FVec Ideal S2x1024 .f32)
  (x8 : FVec Ideal S2x1024x5632 .f32) (x9 : FVec Ideal S2x2816x1024 .f32) (x10 x11 : FVec Ideal S2x1024 .f32)

/-- The mixers' outputs of position `p`, side by side. -/
def mixed (p : Fin 16384) (k : Fin 1024) : EReal :=
  if h : k.val < 512 then x1 (ix3 0 p ⟨k.val, h⟩)
  else if h' : k.val < 768 then x2 (ix3 0 p ⟨k.val - 512, by omega⟩)
  else x3 (ix3 0 p ⟨k.val - 768, by omega⟩)

/-- Modulation vector `n` of the layer and condition. -/
def vec (n : Fin 6) (j : Fin 1024) : EReal := x4 (ix3 1 0 ⟨1024 * n.val + j.val, by omega⟩)

theorem mixed_at (p : Fin 16384) (k : Fin 1024) : val_main_v9 (F := Ideal) x1 x2 x3 (ix3 0 p k) = mixed x1 x2 x3 p k := by
  unfold mixed
  pointwise [val_main_v9]
  by_cases h1 : k.val < 512
  · rw [dif_pos h1, dif_pos h1]
  · rw [dif_neg h1, dif_neg h1]
    by_cases h2 : k.val < 768
    · rw [dif_pos h2, dif_pos (by omega)]
    · rw [dif_neg h2, dif_neg (by omega)]
      exact congrArg (fun a => x3 (ix3 0 p a)) (Fin.ext (by show k.val - 512 - 256 = k.val - 768; omega))

theorem y_at (p : Fin 16384) (j : Fin 1024) :
    val_main_v12 (F := Ideal) x1 x2 x3 x5 (ix3 0 p j) = ∑ k, mixed x1 x2 x3 p k * x5 (ix3 1 k j) := by
  simp only [← mixed_at]
  pointwise [val_main_v12, val_main_v11, val_main_v10]

theorem residual_at (p : Fin 16384) (j : Fin 1024) :
    val_main_v21 (F := Ideal) x0 x1 x2 x3 x4 x5 (ix3 0 p j)
      = Ideal.ofBits .f32 1068827891#32 * x0 (ix3 0 p j) + vec x4 2 j * val_main_v12 (F := Ideal) x1 x2 x3 x5 (ix3 0 p j) := by
  unfold vec
  pointwise [val_main_v21, val_main_v20, val_main_v19, val_main_v18, val_main_v17, val_main_cst, val_main_v5, val_main_v2, val_main_v1, val_main_v0]

theorem norm1_at (p : Fin 16384) (j : Fin 1024) :
    val_main_v39 (F := Ideal) x0 x1 x2 x3 x4 x5 (ix3 0 p j) = rowNorm (fun k => val_main_v21 (F := Ideal) x0 x1 x2 x3 x4 x5 (ix3 0 p k)) j := by
  unfold rowNorm rowMean
  pointwise [val_main_v39, val_main_v38, val_main_v37, val_main_v36, val_main_v35, val_main_cst_4, val_main_v34, val_main_v33, val_main_v32, val_main_v31, val_main_cst_3, val_main_v30, val_main_v29, val_main_cst_2, val_main_v28, val_main_v27, val_main_v26, val_main_v25, val_main_v24, val_main_cst_1, val_main_v23, val_main_v22, val_main_cst_0]

theorem stream_at (p : Fin 16384) (j : Fin 1024) :
    val_main_v45 (F := Ideal) x0 x1 x2 x3 x4 x5 x6 x7 (ix3 0 p j)
      = rowPost (fun k => x0 (ix3 0 p k)) (vec x4 2) (fun j => ∑ k, mixed x1 x2 x3 p k * x5 (ix3 1 k j)) (fun k => x6 (ix2 1 k)) (fun k => x7 (ix2 1 k)) j := by
  unfold rowPost
  have hr := funext fun k => (residual_at x0 x1 x2 x3 x4 x5 p k).trans (by rw [y_at])
  have hn := (norm1_at x0 x1 x2 x3 x4 x5 p j).trans (congrArg (fun f => rowNorm f j) hr)
  refine Eq.trans ?_ (congrArg (fun a : EReal => a * x6 (ix2 1 j) + x7 (ix2 1 j)) hn)
  pointwise [val_main_v45, val_main_v44, val_main_v43, val_main_v42, val_main_v41, val_main_v40, val_main_v16, val_main_v15, val_main_v14, val_main_v13]

theorem norm2_at (p : Fin 16384) (j : Fin 1024) :
    val_main_v63 (F := Ideal) x0 x1 x2 x3 x4 x5 x6 x7 (ix3 0 p j) = rowNorm (fun k => val_main_v45 (F := Ideal) x0 x1 x2 x3 x4 x5 x6 x7 (ix3 0 p k)) j := by
  unfold rowNorm rowMean
  pointwise [val_main_v63, val_main_v62, val_main_v61, val_main_v60, val_main_v59, val_main_cst_9, val_main_v58, val_main_v57, val_main_v56, val_main_v55, val_main_cst_8, val_main_v54, val_main_v53, val_main_cst_7, val_main_v52, val_main_v51, val_main_v50, val_main_v49, val_main_v48, val_main_cst_6, val_main_v47, val_main_v46, val_main_cst_5]

theorem modulate_at (p : Fin 16384) (j : Fin 1024) :
    val_main_v69 (F := Ideal) x0 x1 x2 x3 x4 x5 x6 x7 (ix3 0 p j)
      = rowModulate (fun k => val_main_v45 (F := Ideal) x0 x1 x2 x3 x4 x5 x6 x7 (ix3 0 p k)) (vec x4 3) (vec x4 4) j := by
  unfold rowModulate
  rw [← norm2_at]
  unfold vec
  pointwise [val_main_v69, val_main_v68, val_main_v67, val_main_v66, val_main_v65, val_main_v64, val_main_cst_10, val_main_v7, val_main_v6, val_main_v2, val_main_v1, val_main_v0]

theorem hidden_at (p : Fin 16384) (n : Fin 2816) :
    val_main_v76 (F := Ideal) x0 x1 x2 x3 x4 x5 x6 x7 x8 (ix3 0 p n)
      = rowHidden (fun k => val_main_v69 (F := Ideal) x0 x1 x2 x3 x4 x5 x6 x7 (ix3 0 p k)) (fun k n => x8 (ix3 1 k n)) n := by
  unfold rowHidden
  pointwise [val_main_v76, val_main_v75, val_main_v74, val_main_v73, val_main_v72, val_main_v71, val_main_v70, val_main_call0_v5, val_main_call0_v4, val_main_call0_v3, val_main_call0_v2, val_main_call0_v1, val_main_call0_v0, val_main_call0_cst, val_main_call0_cst_0]

theorem forward_at (p : Fin 16384) (j : Fin 1024) :
    val_main_v79 (F := Ideal) x0 x1 x2 x3 x4 x5 x6 x7 x8 x9 (ix3 0 p j)
      = rowForward (fun k => val_main_v69 (F := Ideal) x0 x1 x2 x3 x4 x5 x6 x7 (ix3 0 p k)) (fun k n => x8 (ix3 1 k n)) (fun n j => x9 (ix3 1 n j)) j := by
  unfold rowForward
  simp only [← hidden_at]
  pointwise [val_main_v79, val_main_v78, val_main_v77]

theorem residual2_at (p : Fin 16384) (j : Fin 1024) :
    val_main_v88 (F := Ideal) x0 x1 x2 x3 x4 x5 x6 x7 x8 x9 (ix3 0 p j)
      = Ideal.ofBits .f32 1068827891#32 * val_main_v45 (F := Ideal) x0 x1 x2 x3 x4 x5 x6 x7 (ix3 0 p j)
        + vec x4 5 j * val_main_v79 (F := Ideal) x0 x1 x2 x3 x4 x5 x6 x7 x8 x9 (ix3 0 p j) := by
  unfold vec
  pointwise [val_main_v88, val_main_v87, val_main_v86, val_main_v85, val_main_v84, val_main_cst_11, val_main_v8, val_main_v2, val_main_v1, val_main_v0]

theorem norm3_at (p : Fin 16384) (j : Fin 1024) :
    val_main_v106 (F := Ideal) x0 x1 x2 x3 x4 x5 x6 x7 x8 x9 (ix3 0 p j) = rowNorm (fun k => val_main_v88 (F := Ideal) x0 x1 x2 x3 x4 x5 x6 x7 x8 x9 (ix3 0 p k)) j := by
  unfold rowNorm rowMean
  pointwise [val_main_v106, val_main_v105, val_main_v104, val_main_v103, val_main_v102, val_main_cst_16, val_main_v101, val_main_v100, val_main_v99, val_main_v98, val_main_cst_15, val_main_v97, val_main_v96, val_main_cst_14, val_main_v95, val_main_v94, val_main_v93, val_main_v92, val_main_v91, val_main_cst_13, val_main_v90, val_main_v89, val_main_cst_12]

/-- The reference's result. -/
theorem value (p : Fin 16384) (j : Fin 1024) :
    val_main_v113 (F := Ideal) x0 x1 x2 x3 x4 x5 x6 x7 x8 x9 x10 x11 (ix2 p j)
      = row (fun k => x0 (ix3 0 p k)) (mixed x1 x2 x3 p) (vec x4 2) (vec x4 3) (vec x4 4) (vec x4 5) (fun k j => x5 (ix3 1 k j))
          (fun k => x6 (ix2 1 k)) (fun k => x7 (ix2 1 k)) (fun k n => x8 (ix3 1 k n)) (fun n j => x9 (ix3 1 n j))
          (fun k => x10 (ix2 1 k)) (fun k => x11 (ix2 1 k)) j := by
  have hy := funext fun k => (stream_at x0 x1 x2 x3 x4 x5 x6 x7 p k).symm
  have hm := funext fun k => (modulate_at x0 x1 x2 x3 x4 x5 x6 x7 p k).symm
  have hf := funext fun k => (forward_at x0 x1 x2 x3 x4 x5 x6 x7 x8 x9 p k).symm
  unfold row
  dsimp only
  rw [hy, hm, hf]
  unfold rowPost
  have hr := funext fun k => residual2_at x0 x1 x2 x3 x4 x5 x6 x7 x8 x9 p k
  have hn := (norm3_at x0 x1 x2 x3 x4 x5 x6 x7 x8 x9 p j).trans (congrArg (fun f => rowNorm f j) hr)
  refine Eq.trans ?_ (congrArg (fun a : EReal => a * x10 (ix2 1 j) + x11 (ix2 1 j)) hn)
  pointwise [val_main_v113, val_main_v112, val_main_v111, val_main_v110, val_main_v109, val_main_v108, val_main_v107, val_main_v83, val_main_v82, val_main_v81, val_main_v80]

end Cert.Reference2Ideal.Ffn

end
-- ==== Proof.FfnClaim.lean ====
/- The feed-forward claim: the two runs' equal results. -/
module

public import proofs.«01_k».proof.Defs
public import proofs.«01_k».proof.Proof.FfnFinal
public import proofs.«01_k».proof.Proof.FfnRef
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.FfnClaim

open Idealize.ShloMosaic Idealize.ShloMosaic.TcCoe Idealize.SL.Sem Cert.FfnMath

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 12 Cert.Kernel2Ideal.cfg0.N, Cert.Kernel2Ideal.Value.run_blocks m ρ,
    (θ_run Cert.Reference2Ideal.defs _ _).mono (fun _ h c => ⟨(h c).1.trans ?_, (h c).2⟩) (Cert.Reference2Ideal.Value.run m' ρ')⟩
  obtain ⟨e0, e1, e2, e3, e4, e5, e6, e7, e8, e9, e10, e11⟩ := hagree c
  rw [Cert.Reference2Ideal.Read.val_main_v113_eq]
  change Cert.Reference2Ideal.Read.val_main_v113 (F := Ideal) (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6))
    (m' ((c.tc : Thread Cert.Reference2Ideal.nD Cert.Reference2Ideal.τ).loc Cert.Reference2Ideal.main_arg7))
    (m' ((c.tc : Thread Cert.Reference2Ideal.nD Cert.Reference2Ideal.τ).loc Cert.Reference2Ideal.main_arg8))
    (m' ((c.tc : Thread Cert.Reference2Ideal.nD Cert.Reference2Ideal.τ).loc Cert.Reference2Ideal.main_arg9))
    (m' ((c.tc : Thread Cert.Reference2Ideal.nD Cert.Reference2Ideal.τ).loc Cert.Reference2Ideal.main_arg10))
    (m' ((c.tc : Thread Cert.Reference2Ideal.nD Cert.Reference2Ideal.τ).loc Cert.Reference2Ideal.main_arg11)) = _
  rw [e0, e1, e2, e3, e4, e5, e6, e7, e8, e9, e10, e11]
  refine Eq.trans ?_ (Cert.Kernel2Ideal.Ffn.result_array m c).symm
  funext i
  obtain ⟨p, j, rfl⟩ : ∃ (p : Fin 16384) (j : Fin 1024), i = ix2 p j := ⟨i 0, i 1, eq_ix2 i⟩
  exact Cert.Reference2Ideal.Ffn.value _ _ _ _ _ _ _ _ _ _ _ _ p j

end Cert.FfnClaim

end
-- ==== Proof.PrepBody.lean ====
/-
  The call that prepares the modulation vectors and the projection's weights: its body at one point of the grid, the launch and the frame. The
  weights' window is stored at the first point of a layer and written back at the layer's last; no claim reads it, so the proof data
  forgets it: the body gets that buffer at any contents and gives it back at any.
-/
module

public import proofs.«01_k».proof.Proof.Gen.Kernel3Ideal.Skeleton
public import proofs.«01_k».proof.Proof.Gen.Kernel3Ideal.Frame
public import Idealize.ShloMosaic.Lib.Claim

@[expose] public section

set_option maxRecDepth 16384

noncomputable section

namespace Cert.PrepBody

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body loads of its three first blocks: the conditions, the weights, and the bias row of the point's layer. -/
def condsOf (x0 : Vec F S1024x8 .f32) : Vec F S1024x8 .f32 :=
  View.ld x0 (Rect.unit (s := S1024x8) ![0, 0] S1024x8.size inb_S1024x8_S1024x8_0_0)
@[inherit_doc condsOf] def weightsOf (x1 : Vec F S1x1024x1024 .f32) : Vec F S1x1024x1024 .f32 :=
  View.ld x1 (Rect.unit (s := S1x1024x1024) ![0, 0, 0] S1x1024x1024.size inb_S1x1024x1024_S1x1024x1024_0_0_0)
@[inherit_doc condsOf] def biasOf (i : grid0.Coords) (x2 : Vec F S2x1024 .f32) : Vec F S1x1024 .f32 :=
  View.ld x2 (Rect.unit (s := S2x1024) (k0_off1 i) S1x1024.size (k0_off1_inb i))

/-- What the body stores into the block of modulation vectors, the last store first: the second condition's row, the first's,
    zeros everywhere. -/
def modPieces (i : grid0.Coords) (x0 : Vec F S1024x8 .f32) (x1 : Vec F S1x1024x1024 .f32) (x2 : Vec F S2x1024 .f32) :
    List (View.Piece (Elt F) S1x8x1024 .f32) :=
  [⟨Rect.unit (s := S1x8x1024) ![0, 1, 0] S1x1x1024.size inb_S1x8x1024_S1x1x1024_0_1_0, k0_pay20 (condsOf x0) (weightsOf x1) (biasOf i x2)⟩,
   ⟨Rect.unit (s := S1x8x1024) ![0, 0, 0] S1x1x1024.size inb_S1x8x1024_S1x1x1024_0_0_0, k0_pay19 (condsOf x0) (weightsOf x1) (biasOf i x2)⟩,
   ⟨Rect.unit (s := S1x8x1024) ![0, 0, 0] S1x8x1024.size inb_S1x8x1024_S1x8x1024_0_0_0, k0_pay18 (F := F)⟩]

set_option maxHeartbeats 1000000 in
/-- The body's run: inputs and weights' buffer handed back, the modulation vectors' buffer with its three stores. -/
theorem run_body (c : Dev nD) (i : grid0.Coords) (arg2 : Memref sig .tc .vmem S1024x8 .f32) (harg2 : arg2.IsWhole)
    (arg3 : Memref sig .tc .vmem S1x1024x1024 .f32) (harg3 : arg3.IsWhole) (arg4 : Memref sig .tc .vmem S2x1024 .f32) (harg4 : arg4.IsWhole)
    (arg5 : Memref sig .tc .vmem S1x1024x1536 .f32) (harg5 : arg5.IsWhole) (arg6 : Memref sig .tc .vmem S256x512 .f32) (harg6 : arg6.IsWhole)
    (arg7 : Memref sig .tc .vmem S1x256x256 .f32) (harg7 : arg7.IsWhole) (arg8 : Memref sig .tc .vmem S1x8x1024 .f32) (harg8 : arg8.IsWhole)
    (arg9 : Memref sig .tc .vmem S1x1024x1792 .bf16) (harg9 : arg9.IsWhole)
    (x0 : Vec F S1024x8 .f32) (x1 : Vec F S1x1024x1024 .f32) (x2 : Vec F S2x1024 .f32) (x3 : Vec F S1x1024x1536 .f32)
    (x4 : Vec F S256x512 .f32) (x5 : Vec F S1x256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ f, arg8.view.loc (c : Thread nD τ) ↦[arg8.view.set]{fullShare} arg8.view.writes (Elt F) f (modPieces i x0 x1 x2))
            ∗ (∃ d, owns (c : Thread nD τ) arg9 fullShare d)) -∗ K ⟨⟩))
      ⊢ wp frame (wpE (defs₀ (F := F)) Variants.none c none) E
          (cc0_prep i arg2 harg2 arg3 harg3 arg4 harg4 arg5 harg5 arg6 harg6 arg7 harg7 arg8 harg8 arg9 harg9) K := by
  by_cases hc : k0_cond1 i = 1#1
  all_goals
    simp only [cc0_prep_eq_skeleton]; unfold cc0_prep_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6
      simp only [View.readAt_eq_ld, hf0, hf1, hf2]
      iexact H6
    iexists _, _; isplitr
    swap; · iexact H7
    ipureintro; rfl

/-! ## The proof data -/

/-- The stores of the modulation vectors' block cover it: its first piece written is the whole block. -/
theorem cover_mods (i : grid0.Coords) (x0 : Vec F S1024x8 .f32) (x1 : Vec F S1x1024x1024 .f32) (x2 : Vec F S2x1024 .f32) (y : S1x8x1024.Idx) :
    ∃ pc ∈ modPieces i x0 x1 x2, y ∈ pc.1.set :=
  ⟨_, List.mem_cons_of_mem _ (List.mem_cons_of_mem _ (List.mem_singleton.mpr rfl)), by
    rw [Rect.mem_set_unit]
    intro a; fin_cases a
    · exact ⟨Nat.zero_le _, (y 0).isLt⟩
    · exact ⟨Nat.zero_le _, (y 1).isLt⟩
    · exact ⟨Nat.zero_le _, (y 2).isLt⟩⟩

variable (m : (ℓ : Loc nD τ sig) → Buf (Elt F) ℓ) (ρ : Dev nD → PrngReg)

/-- A buffer of the modulation vectors' window, to read pieces back through. -/
abbrev VO : View sig .tc .vmem S1x8x1024 .f32 := (Memref.whole cc0_stg6_0 : Memref sig .tc .vmem S1x8x1024 .f32).view

/-- The modulation vectors' block that point `t` leaves. -/
def modBlk (c : Dev nD) (t : Fin cfg0.N) : Vec F S1x8x1024 .f32 :=
  VO.read (Elt F) (VO.writes (Elt F) VO.junk (modPieces (grid0.coords t) (iblk m c 0 t) (iblk m c 1 t) (iblk m c 2 t)))

/-- The proof data: inputs at their blocks, the modulation vectors at `modBlk`, the weights' window unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => modBlk m c t
    | ⟨7, h⟩ => Dat.unnamed (cfg := cfg0) ⟨7, h⟩ t
  Φ _ := Pipeline.ΦA spec0 c
  q _ := fullShare
  owed _ := 0

/-- The windows that the proof data says nothing of: the weights'. -/
def forgets : Fin cfg0.W → Bool := fun w => w == 7

/-- The arrays of the proof data are the region's entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = modBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point, from the run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold modBlk
  iintro ⟨HΦ, Ho, ⟨%d0, H0⟩, ⟨%d1, H1⟩, ⟨%d2, H2⟩, ⟨%d3, H3⟩, ⟨%d4, H4⟩, ⟨%d5, H5⟩, ⟨%d6, H6⟩, H7⟩
  iapply (run_body c (grid0.coords t) _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitr [H7]
  · unfold owns; iexists _; isplitr
    swap; · iexact H6
    ipureintro; exact View.read_writes_of_cover _ _ _ _ _ (cover_mods _ _ _ _)
  iexact H7

/-- The body of the call's table at point `t`'s buffers. -/
theorem body_row (t : Fin cfg0.N) : defs₀ (F := F) .tc cfg0.body (cfg0.bodyArgs t (cfg0.slots t)) = bodyAt0 t := by
  unfold defs₀; rw [Defs.onTc_tc]

/-- The body obligation, the weights' window forgotten. -/
theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

/-! ## The launch -/

/-- The post of the run: what each array may hold, the weights' anything. -/
abbrev Post (r : PUnit × MemSt nD τ sig (Elt F)) : Prop :=
  Pipeline.RDat.FramePost cfg0 (fun c => (dats m 0 c).toRForget forgets) (V m) r

set_option backward.isDefEq.respectTransparency.types false in
/-- Every execution of the program ends, at the post, with every semaphore counter at zero. -/
theorem run_all : θ_run defs (onTc (τ := τ) (main (F := F))) (s₀ m ρ) (fun r => Post m r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the post every argument is as launched. -/
theorem args_kept (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have rest (b) (hb : b ∈ Pipeline.restRefs sig spec0) := (h c).2 b hb
  have staged (w : Fin cfg0.W) (hw : (cfg0.win w).isOut = false) :=
    (Pipeline.RDat.FramePost.arr_in h c w hw).trans (A_eq m c w)
  exact ⟨(rest main_arg0 (Pipeline.mem_restRefs_of main_arg0 (by decide) (by decide))).trans (V_main_arg0 m c),
    (rest main_arg1 (Pipeline.mem_restRefs_of main_arg1 (by decide) (by decide))).trans (V_main_arg1 m c),
    (staged 1 rfl).trans (V_main_arg2 m c), (staged 2 rfl).trans (V_main_arg3 m c), (staged 3 rfl).trans (V_main_arg4 m c),
    (rest main_arg5 (Pipeline.mem_restRefs_of main_arg5 (by decide) (by decide))).trans (V_main_arg5 m c),
    (rest main_arg6 (Pipeline.mem_restRefs_of main_arg6 (by decide) (by decide))).trans (V_main_arg6 m c),
    (rest main_arg7 (Pipeline.mem_restRefs_of main_arg7 (by decide) (by decide))).trans (V_main_arg7 m c)⟩

/-- At the post the modulation vectors are what the blocks written back make. -/
theorem mods_at (r : PUnit × MemSt nD τ sig (Elt F)) (h : Post m r) (c : Dev nD) :
    r.2.mem ((c.tc : Thread nD τ).loc main_v28_0) = (dats m 0 c).arrAt 6 cfg0.N :=
  ((dats m 0 c).toRForget_arrAt_iff (fgt := forgets) (w := 6) rfl cfg0.N _).mp ((h c).1 6)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m r h.1, h.2⟩) (run_all m ρ)

end Cert.PrepBody

end
-- ==== Proof.PrepMath.lean ====
/- The modulation vectors over the extended reals: what an element is of a condition, the weights and the bias. -/
module

public import Idealize.ShloMosaic.PureOps.Ideal

@[expose] public section

noncomputable section

namespace Cert.PrepMath

open Idealize.ShloMosaic

/-- The activation of a condition's element. -/
def silu (a : EReal) : EReal := a * Ideal.div 1 (1 + Ideal.exp (-a))

/-- A modulation vector's element: a column of the weights against the condition's activations, and the bias. -/
def modulation (w s : Fin 1024 → EReal) (b : EReal) : EReal := (∑ k, w k * silu (s k)) + b

/-- The condition of a row: the first row has one, the next the other. -/
def condRow (a b : Fin 1024 → EReal) (r : ℕ) (k : Fin 1024) : EReal := if r = 0 then a k else b k

end Cert.PrepMath

end
-- ==== Proof.PrepValue.lean ====
/- The modulation vectors' block of one grid point, read at an index over the extended reals: a condition's row is the
   weights' product with the condition's activations, and the bias; the other rows are zeros. -/
module

public import proofs.«01_k».proof.Proof.PrepBody
public import proofs.«01_k».proof.Proof.FfnMath
public import proofs.«01_k».proof.Proof.PrepMath
public import Idealize.ShloMosaic.Lib.Pipeline.ValueKit
public import Idealize.ShloMosaic.Lib.StableHlo.ReadAt

@[expose] public section

set_option maxRecDepth 16384

noncomputable section

namespace Cert.PrepBody

open Cert.Kernel3Ideal Cert.Kernel3Ideal.Gen Cert.PrepMath Cert.FfnMath Idealize.ShloMosaic Idealize.ShloMosaic.TcCoe Idealize.SL.Sem

theorem silu_div (a : EReal) : Ideal.div a (1 + Ideal.exp (0 - a)) = silu a := div_logistic a

section
variable (x0 : Vec Ideal S1024x8 .f32) (x1 : Vec Ideal S1x1024x1024 .f32) (b : Vec Ideal S1x1024 .f32) (n : Fin 1024)

theorem first_at : (k0_pay19 x0 x1 b (ix3 0 0 n) : EReal)
    = modulation (fun k => x1 (ix3 0 k n)) (fun k => x0 (ix2 k 0)) (b (ix2 0 n)) := by
  unfold modulation
  simp only [← silu_div]
  pointwise [k0_pay19, k0_pay17, k0_pay16]

theorem second_at : (k0_pay20 x0 x1 b (ix3 0 0 n) : EReal)
    = modulation (fun k => x1 (ix3 0 k n)) (fun k => x0 (ix2 k 1)) (b (ix2 0 n)) := by
  unfold modulation
  simp only [← silu_div]
  pointwise [k0_pay20, k0_pay17, k0_pay16]

theorem zero_at (i : S1x8x1024.Idx) : (k0_pay18 (F := Ideal) i : EReal) = 0 := by
  pointwise [k0_pay18]

theorem conds_at (k : Fin 1024) (r : Fin 8) : (condsOf x0 (ix2 k r) : EReal) = x0 (ix2 k r) := by
  pointwise [condsOf]

theorem weights_at (k : Fin 1024) : (weightsOf x1 (ix3 0 k n) : EReal) = x1 (ix3 0 k n) := by
  pointwise [weightsOf]

theorem layer_off (i : grid0.Coords) : k0_off1 i = ![(i 0).val, 0] := by
  have h : (i 0).val < 2 := (i 0).isLt
  unfold k0_off1
  funext a
  match a with
  | ⟨0, _⟩ => show (BitVec.ofNat 32 (i 0).val).toNat = (i 0).val; rw [BitVec.toNat_ofNat]; omega
  | ⟨1, _⟩ => rfl

theorem bias_at (i : grid0.Coords) (x2 : Vec Ideal S2x1024 .f32) :
    (biasOf i x2 (ix2 0 n) : EReal) = x2 (ix2 ⟨(i 0).val, (i 0).isLt⟩ n) := by
  unfold biasOf
  refine congrArg x2 (funext fun b => Fin.ext ?_)
  have e := layer_off i
  match b with
  | ⟨0, _⟩ => show k0_off1 i 0 + 1 * 0 = (i 0).val; rw [e]; rfl
  | ⟨1, _⟩ => show k0_off1 i 1 + 1 * n.val = n.val; rw [e]; show 0 + 1 * n.val = n.val; omega

/-- A block's row from the conditions' block, the weights' and the bias row. -/
def rowAt (i : grid0.Coords) (x2 : Vec Ideal S2x1024 .f32) (r : Fin 8) : EReal :=
  if r.val < 2 then modulation (fun k => x1 (ix3 0 k n)) (fun k => x0 (ix2 k r)) (x2 (ix2 ⟨(i 0).val, (i 0).isLt⟩ n)) else 0

theorem args_at (i : grid0.Coords) (x2 : Vec Ideal S2x1024 .f32) (q : Fin 8) :
    modulation (fun k => weightsOf x1 (ix3 0 k n)) (fun k => condsOf x0 (ix2 k q)) (biasOf i x2 (ix2 0 n))
      = modulation (fun k => x1 (ix3 0 k n)) (fun k => x0 (ix2 k q)) (x2 (ix2 ⟨(i 0).val, (i 0).isLt⟩ n)) := by
  rw [bias_at]
  simp only [conds_at, weights_at]

end

section
variable {F : FTy → Type} [FloatOps F] (P Q : Vec F S1x1x1024 .f32) (Z : Vec F S1x8x1024 .f32) (r : Fin 8) (n : Fin 1024)

/-- A row of the block as an index of the rectangle stored there. -/
theorem row_emb (q : ℕ) (h) (hr : r.val = q) :
    (ix3 0 r n : S1x8x1024.Idx) = (Rect.unit (s := S1x8x1024) ![0, q, 0] S1x1x1024.size h).emb (ix3 0 0 n : S1x1x1024.Idx) := by
  funext b; refine Fin.ext ?_
  match b with
  | ⟨0, _⟩ => rfl
  | ⟨1, _⟩ => show r.val = q + 1 * 0; omega
  | ⟨2, _⟩ => show n.val = 0 + 1 * n.val; omega

/-- The other rows are not of that rectangle. -/
theorem row_not_mem (q : ℕ) (h) (hr : r.val ≠ q) :
    (ix3 0 r n : S1x8x1024.Idx) ∉ (Rect.unit (s := S1x8x1024) ![0, q, 0] S1x1x1024.size h).set := fun hm => by
  rw [Rect.mem_set_unit] at hm
  have h1 : q ≤ r.val ∧ r.val < q + 1 := hm 1
  omega

theorem whole_emb (h) :
    (ix3 0 r n : S1x8x1024.Idx) = (Rect.unit (s := S1x8x1024) ![0, 0, 0] S1x8x1024.size h).emb (ix3 0 r n : S1x8x1024.Idx) := by
  funext b; refine Fin.ext ?_
  match b with
  | ⟨0, _⟩ => rfl
  | ⟨1, _⟩ => show r.val = 0 + 1 * r.val; omega
  | ⟨2, _⟩ => show n.val = 0 + 1 * n.val; omega

/-- Under the last store, what it stored; -/
theorem read_last {s : Shape} (R : Rect s) (P : R.shape.Idx → Elt F .f32) (L : List (View.Piece (Elt F) s .f32)) (y : s.Idx) (x : R.shape.Idx)
    (e : y = R.emb x) : View.canon (⟨R, P⟩ :: L) y = P x := by
  rw [e]; exact View.canon_cons_emb R P L x

/-- off it, what the earlier stores leave. -/
theorem read_earlier {s : Shape} (R : Rect s) (P : R.shape.Idx → Elt F .f32) (L : List (View.Piece (Elt F) s .f32)) (y : s.Idx) (v : Elt F .f32)
    (h : y ∉ R.set) (e : View.canon L y = v) : View.canon (⟨R, P⟩ :: L) y = v :=
  (View.canon_cons_of_not_mem ⟨R, P⟩ L h).trans e

end

section
variable (x0 : Vec Ideal S1024x8 .f32) (x1 : Vec Ideal S1x1024x1024 .f32) (n : Fin 1024)

theorem pieces_at (i : grid0.Coords) (x2 : Vec Ideal S2x1024 .f32) (r : Fin 8) :
    (View.canon (modPieces i x0 x1 x2) (ix3 0 r n) : EReal) = rowAt x0 x1 n i x2 r := by
  unfold modPieces rowAt
  by_cases h1 : r.val = 1
  · refine (read_last _ _ _ _ (ix3 0 0 n : S1x1x1024.Idx) (row_emb r n 1 _ h1)).trans ?_
    rw [if_pos (show r.val < 2 by omega), show r = 1 from Fin.ext h1]
    exact (second_at _ _ _ n).trans (args_at x0 x1 n i x2 1)
  refine read_earlier _ _ _ _ _ (row_not_mem r n 1 _ h1) ?_
  by_cases h0 : r.val = 0
  · refine (read_last _ _ _ _ (ix3 0 0 n : S1x1x1024.Idx) (row_emb r n 0 _ h0)).trans ?_
    rw [if_pos (show r.val < 2 by omega), show r = 0 from Fin.ext h0]
    exact (first_at _ _ _ n).trans (args_at x0 x1 n i x2 0)
  refine read_earlier _ _ _ _ _ (row_not_mem r n 0 _ h0) ?_
  rw [if_neg (show ¬r.val < 2 by omega)]
  exact (read_last _ _ _ _ (ix3 0 r n : S1x8x1024.Idx) (whole_emb r n _)).trans (zero_at _)

end

section
variable (m : (ℓ : Loc nD τ sig) → Buf (Elt Ideal) ℓ) (c : Dev nD) (t : Fin cfg0.N)

theorem host_first (k : Fin 1024) :
    (V m c main_v4 : FVec Ideal S1024x8 .f32) (ix2 k 0) = (m ((c : Thread nD τ).loc main_arg0) : FVec Ideal S1x1024 .f32) (ix2 0 k) := by
  unfold V
  after_reads_at
  after_reads_at

theorem host_second (k : Fin 1024) :
    (V m c main_v4 : FVec Ideal S1024x8 .f32) (ix2 k 1) = (m ((c : Thread nD τ).loc main_arg1) : FVec Ideal S1024 .f32) (ix1 k) := by
  unfold V
  after_reads_at
  after_reads_at

/-- The conditions, laid out for the grid. -/
theorem host_conds (k : Fin 1024) (r : Fin 8) (h : r.val < 2) :
    ((V m c main_v4 : FVec Ideal S1024x8 .f32) (ix2 k r) : EReal)
      = condRow (fun k => (m ((c : Thread nD τ).loc main_arg0) : FVec Ideal S1x1024 .f32) (ix2 0 k))
          (fun k => (m ((c : Thread nD τ).loc main_arg1) : FVec Ideal S1024 .f32) (ix1 k)) r.val k := by
  unfold condRow
  by_cases h0 : r.val = 0
  · rw [if_pos h0, show r = 0 from Fin.ext h0]
    exact host_first m c k
  · rw [if_neg h0, show r = 1 from Fin.ext (show r.val = 1 by omega)]
    exact host_second m c k

theorem index_facts : ∀ t : Fin cfg0.N, win0_0.index t = ![0, 0] ∧ win0_1.index t = ![t.val / 6, 0, t.val % 6] ∧ win0_2.index t = ![0, t.val % 6]
    ∧ win0_6.index t = ![t.val / 6, 0, t.val % 6] ∧ ((grid0.coords t) 0).val = t.val / 6 :=
  (by decide +kernel : ∀ t : Fin grid0.N, win0_0.index t = ![0, 0] ∧ win0_1.index t = ![t.val / 6, 0, t.val % 6] ∧ win0_2.index t = ![0, t.val % 6]
    ∧ win0_6.index t = ![t.val / 6, 0, t.val % 6] ∧ ((grid0.coords t) 0).val = t.val / 6)

theorem point_lt : t.val < 12 := lt_of_lt_of_eq t.isLt (by decide)

theorem blk_conds (k : Fin 1024) (r : Fin 8) :
    (iblk m c 0 t : Vec Ideal S1024x8 .f32) (ix2 k r) = (V m c main_v4 : FVec Ideal S1024x8 .f32) (ix2 k r) := by
  obtain ⟨e0, -⟩ := index_facts t
  blk_simp [iblk]
  blk_ext [e0]

theorem blk_weights (k : Fin 1024) (n : Fin 1024) :
    (iblk m c 1 t : Vec Ideal S1x1024x1024 .f32) (ix3 0 k n)
      = (m ((c : Thread nD τ).loc main_arg2) : FVec Ideal S2x1024x6144 .f32)
          (ix3 ⟨t.val / 6, by have := point_lt t; omega⟩ k ⟨t.val % 6 * 1024 + n.val, by omega⟩) := by
  obtain ⟨-, e0, -⟩ := index_facts t
  rw [← V_main_arg2 m c]
  blk_simp [iblk]
  blk_ext [e0]

theorem blk_bias (l : Fin 2) (n : Fin 1024) :
    (iblk m c 2 t : Vec Ideal S2x1024 .f32) (ix2 l n)
      = (m ((c : Thread nD τ).loc main_arg3) : FVec Ideal S2x6144 .f32) (ix2 l ⟨t.val % 6 * 1024 + n.val, by omega⟩) := by
  obtain ⟨-, -, e0, -⟩ := index_facts t
  rw [← V_main_arg3 m c]
  blk_simp [iblk]
  blk_ext [e0]

/-- The modulation vectors of a layer, a row of the eight and a column. -/
def spec (l : Fin 2) (r : Fin 8) (n : Fin 6144) : EReal :=
  if r.val < 2 then modulation (fun k => (m ((c : Thread nD τ).loc main_arg2) : FVec Ideal S2x1024x6144 .f32) (ix3 l k n))
    (condRow (fun k => (m ((c : Thread nD τ).loc main_arg0) : FVec Ideal S1x1024 .f32) (ix2 0 k))
      (fun k => (m ((c : Thread nD τ).loc main_arg1) : FVec Ideal S1024 .f32) (ix1 k)) r.val)
    ((m ((c : Thread nD τ).loc main_arg3) : FVec Ideal S2x6144 .f32) (ix2 l n)) else 0

/-- An array of the result's shape, from its value at each index. -/
def layOut (f : Fin 2 → Fin 8 → Fin 6144 → EReal) (i : S2x8x6144.Idx) : EReal :=
  f ⟨(i 0).val, (i 0).isLt⟩ ⟨(i 1).val, (i 1).isLt⟩ ⟨(i 2).val, (i 2).isLt⟩

theorem block_spec (r : Fin 8) (n : Fin 1024) :
    (modBlk m c t (ix3 0 r n) : EReal)
      = spec m c ⟨t.val / 6, by have := point_lt t; omega⟩ r ⟨t.val % 6 * 1024 + n.val, by omega⟩ := by
  have el : (⟨((grid0.coords t) 0).val, ((grid0.coords t) 0).isLt⟩ : Fin 2) = ⟨t.val / 6, by have := point_lt t; omega⟩ :=
    Fin.ext (index_facts t).2.2.2.2
  unfold modBlk
  refine (congrFun (View.read_writes_junk_eq_canon VO _) (ix3 0 r n)).trans ?_
  refine (pieces_at (iblk m c 0 t) (iblk m c 1 t) n (grid0.coords t) (iblk m c 2 t) r).trans ?_
  unfold rowAt spec
  by_cases h : r.val < 2
  · rw [if_pos h, if_pos h]
    have hw : (fun k => ((iblk m c 1 t : Vec Ideal S1x1024x1024 .f32) (ix3 0 k n) : EReal)) = _ := funext fun k => blk_weights m c t k n
    have hs : (fun k => ((iblk m c 0 t : Vec Ideal S1024x8 .f32) (ix2 k r) : EReal)) = _ :=
      funext fun k => (blk_conds m c t k r).trans (host_conds m c k r h)
    rw [hw, hs, el]
    exact congrArg _ (blk_bias m c t _ n)
  · rw [if_neg h, if_neg h]

/-- A grid point's block is its part of the whole array. -/
theorem block_lay (T : ℕ) (hT : T < 12) (f : Fin 2 → Fin 8 → Fin 6144 → EReal) (B : Vec Ideal S1x8x1024 .f32)
    (hB : ∀ (r : Fin 8) (n : Fin 1024), (B (ix3 0 r n) : EReal) = f ⟨T / 6, by omega⟩ r ⟨T % 6 * 1024 + n.val, by omega⟩)
    (y : S1x8x1024.Idx) (i : S2x8x6144.Idx) (i0 : (i 0).val = T / 6) (i1 : (i 1).val = (y 1).val) (i2 : (i 2).val = T % 6 * 1024 + (y 2).val) :
    (B y : EReal) = layOut f i := by
  obtain ⟨a, r, n, rfl⟩ : ∃ (a : Fin 1) (r : Fin 8) (n : Fin 1024), y = ix3 a r n := ⟨y 0, y 1, y 2, eq_ix3 y⟩
  obtain rfl : a = 0 := Subsingleton.elim _ _
  unfold layOut
  rw [hB]
  congr 1
  · exact Fin.ext i0.symm
  · exact Fin.ext i1.symm
  · exact Fin.ext i2.symm

/-- The result array after the run. -/
theorem result_array : ((dats m 0 c).arrAt 6 cfg0.N : S2x8x6144.Idx → EReal) = layOut (spec m c) := by
  refine (dats m 0 c).arrAt_eq_of_covers 6 _ (by decide +kernel) fun t hf y => ?_
  obtain ⟨-, -, -, e, -⟩ := index_facts t
  have h0 : (y 0).val < 1 := (y 0).isLt
  blk_simp
  rw [after_6]
  exact block_lay t.val (point_lt t) _ _ (fun r n => block_spec m c t r n) y _ (by blk_simp [e]) (by blk_simp [e]) (by blk_simp [e])

end

end Cert.PrepBody

end
-- ==== Proof.PrepRef.lean ====
/- The reference's modulation vectors read at an index over the extended reals. -/
module

public import proofs.«01_k».proof.Proof.Gen.Reference3Ideal.Read
public import proofs.«01_k».proof.Proof.PrepMath
public import Idealize.ShloMosaic.Lib.Pointwise

@[expose] public section

set_option maxRecDepth 16384

noncomputable section

namespace Cert.Reference3Ideal.Prep

open Cert.Reference3Ideal Cert.Reference3Ideal.Value Cert.Reference3Ideal.Gen Cert.Reference3Ideal.Read Cert.PrepMath Idealize.ShloMosaic Idealize.ShloMosaic.TcCoe Idealize.SL.Sem

variable (x0 : FVec Ideal S1x1024 .f32) (x1 : FVec Ideal S1024 .f32) (x2 : FVec Ideal S2x1024x6144 .f32) (x3 : FVec Ideal S2x6144 .f32)

theorem conds_at (r : Fin 2) (k : Fin 1024) : (val_main_v1 (F := Ideal) x0 x1 (ix2 r k) : EReal) = condRow (fun k => x0 (ix2 0 k)) (fun k => x1 (ix1 k)) r.val k := by
  unfold condRow
  pointwise [val_main_v1, val_main_v0]
  by_cases h : r.val = 0
  · rw [if_pos h, dif_pos (by omega)]
    exact congrArg (fun a => x0 (ix2 a k)) (Fin.ext h)
  · rw [if_neg h, dif_neg (by omega)]

theorem silu_at (r : Fin 2) (k : Fin 1024) :
    (val_main_v2 (F := Ideal) x0 x1 (ix2 r k) : EReal) = silu (val_main_v1 (F := Ideal) x0 x1 (ix2 r k)) := by
  unfold silu
  pointwise [val_main_v2, val_main_call0_v5, val_main_call0_v4, val_main_call0_v3, val_main_call0_v2, val_main_call0_v1, val_main_call0_v0, val_main_call0_cst, val_main_call0_cst_0]

theorem mods_at (l r : Fin 2) (n : Fin 6144) :
    (val_main_v7 (F := Ideal) x0 x1 x2 x3 (ix3 l r n) : EReal)
      = modulation (fun k => x2 (ix3 l k n)) (condRow (fun k => x0 (ix2 0 k)) (fun k => x1 (ix1 k)) r.val) (x3 (ix2 l n)) := by
  unfold modulation
  simp only [← conds_at, ← silu_at]
  pointwise [val_main_v7, val_main_v6, val_main_v5, val_main_v4, val_main_v3]

/-- The padding value. -/
theorem zero_word : (FloatOps.sitofp (F := Ideal) .f32 (0#32) : EReal) = 0 := by
  exact (show ((((0#32 : BitVec 32).toInt : ℝ) : EReal)) = 0 by simp)

/-- The reference's result. -/
theorem value (l : Fin 2) (r : Fin 8) (n : Fin 6144) :
    (val_main_v8 (F := Ideal) x0 x1 x2 x3 (ix3 l r n) : EReal)
      = if r.val < 2 then modulation (fun k => x2 (ix3 l k n)) (condRow (fun k => x0 (ix2 0 k)) (fun k => x1 (ix1 k)) r.val) (x3 (ix2 l n)) else 0 := by
  by_cases h : r.val < 2
  · rw [if_pos h]
    refine Eq.trans ?_ (mods_at x0 x1 x2 x3 l ⟨r.val, h⟩ n)
    pointwise [val_main_v8]
    rw [dif_pos h]
  · rw [if_neg h]
    pointwise [val_main_v8, val_main_call1_v0, val_main_c]
    rw [dif_neg h]
    exact zero_word

end Cert.Reference3Ideal.Prep

end
-- ==== Proof.PrepClaim.lean ====
/- The claims of the call that prepares the modulation vectors: the kernel's frame over both kinds of values, and the two runs' equal
   results. -/
module

public import proofs.«01_k».proof.Defs
public import proofs.«01_k».proof.Proof.PrepValue
public import proofs.«01_k».proof.Proof.PrepRef
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.PrepClaim

open Idealize.ShloMosaic Idealize.ShloMosaic.TcCoe Idealize.SL.Sem

/-- The kernel's frame over the extended reals. -/
theorem frame_ideal : Cert.quiescent_Kernel3Ideal (hKernel3Ideal := Cert.Kernel3Ideal.Gen.facts) := fun m ρ _ =>
  Cert.PrepBody.frame (F := Ideal) m ρ

/-- The two programs have the same bodies, -/
theorem defs_same : Cert.Kernel3.defs (F := Bits)
    = Cert.Kernel3Ideal.defs (F := Bits) := by sl_kernel_rfl

/-- and the same text. -/
theorem main_same : Cert.Kernel3.main (F := Bits)
    = Cert.Kernel3Ideal.main (F := Bits) := by sl_kernel_rfl

/-- The kernel's frame over the bits, off the same run. -/
theorem frame_kernel : Cert.quiescent_Kernel3 (hKernel3 := Cert.Kernel3.Gen.facts) := fun m ρ _ => by
  rw [defs_same, main_same]
  exact Cert.PrepBody.frame (F := Bits) m ρ

/-- The reference's frame. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.PrepBody.dats m 0 c).arrAt 6 Cert.Kernel3Ideal.cfg0.N,
    (θ_run Cert.Kernel3Ideal.defs _ _).mono (fun r h c => ⟨Cert.PrepBody.mods_at m r h.1 c, Cert.PrepBody.args_kept m r h.1 c⟩)
      (Cert.PrepBody.run_all m ρ),
    (θ_run Cert.Reference3Ideal.defs _ _).mono (fun _ h c => ⟨(h c).1.trans ?_, (h c).2⟩) (Cert.Reference3Ideal.Value.run m' ρ')⟩
  obtain ⟨e0, e1, e2, e3, -⟩ := hagree c
  rw [Cert.Reference3Ideal.Read.val_main_v8_eq]
  change Cert.Reference3Ideal.Read.val_main_v8 (F := Ideal) (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3)) = _
  rw [e0, e1, e2, e3]
  refine Eq.trans ?_ (Cert.PrepBody.result_array m c).symm
  funext i
  obtain ⟨l, r, n, rfl⟩ : ∃ (l : Fin 2) (r : Fin 8) (n : Fin 6144), i = ix3 l r n := ⟨i 0, i 1, i 2, eq_ix3 i⟩
  exact Cert.Reference3Ideal.Prep.value _ _ _ _ l r n

end Cert.PrepClaim

end
-- ==== Proof.Ffn0Block.lean ====
/- A sub-block of 256 rows of the output projection and feed-forward kernel's body, as one function of the values it loads;
   and what a grid point leaves in its output block, sub-block by sub-block. -/
module

public import proofs.«01_k».proof.Proof.Gen.Kernel4Ideal.Value
public import Idealize.ShloMosaic.Lib.Pointwise

@[expose] public section

set_option maxRecDepth 16384

noncomputable section

namespace Cert.Kernel4Ideal.Ffn

open Cert.Kernel4Ideal Cert.Kernel4Ideal.Gen Idealize.ShloMosaic Idealize.ShloMosaic.TcCoe Idealize.SL.Sem

variable {F : FTy → Type} [FloatOps F]

/-- The mean of every row, as a column. -/
def meanCol (x : FVec F S256x1024 .f32) : FVec F S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- Every row less its mean. -/
def centre (x : FVec F S256x1024 .f32) : FVec F S256x1024 .f32 :=
  subf x (broadcastTo S256x1024 (meanCol x) broadcasts_S256x1_S256x1024)

/-- Centred rows over their standard deviation. -/
def scaled (xc : FVec F S256x1024 .f32) : FVec F S256x1024 .f32 :=
  mulf xc (broadcastTo S256x1024
    (rsqrt (addf (meanCol (mulf xc xc)) (broadcast S256x1 (Scalar.ofBits .f32 0x358637BD#32)))) broadcasts_S256x1_S256x1024)

/-- The residual step: the stream times the square root of two plus the gated branch. -/
def residual (x : FVec F S256x1024 .f32) (gate : FVec F S1x1024 .f32) (y : FVec F S256x1024 .f32) : FVec F S256x1024 .f32 :=
  addf (mulf (broadcast S256x1024 (Scalar.ofBits .f32 0x3FB504F3#32)) x) (mulf (broadcastTo S256x1024 gate broadcasts_S1x1024_S256x1024) y)

/-- The residual step, normalized, with the layer's gain and offset. -/
def postNorm (x : FVec F S256x1024 .f32) (gate : FVec F S1x1024 .f32) (y : FVec F S256x1024 .f32) (g b : FVec F S1x1024 .f32) : FVec F S256x1024 .f32 :=
  addf (mulf (scaled (centre (residual x gate y))) (broadcastTo S256x1024 g broadcasts_S1x1024_S256x1024))
    (broadcastTo S256x1024 b broadcasts_S1x1024_S256x1024)

/-- The normalized, modulated rows that enter the feed-forward part. -/
def modulated (x : FVec F S256x1024 .f32) (sh sc : FVec F S1x1024 .f32) : FVec F S256x1024 .bf16 :=
  truncf .bf16 (addf (mulf (scaled (centre x))
      (broadcastTo S256x1024 (addf (broadcast S1x1024 (Scalar.ofBits .f32 0x3F800000#32)) sc) broadcasts_S1x1024_S256x1024))
    (broadcastTo S256x1024 sh broadcasts_S1x1024_S256x1024)) bitsLt_bf16_f32

/-- The part of the feed-forward sum over 1024 hidden features. -/
def wide (h : FVec F S256x1024 .bf16) (wa wb : Vec F S1024x1024 .bf16) (wo : Vec F S1024x1024 .bf16) : FVec F S256x1024 .f32 :=
  let a := matmul dot_S256x1024_S1024x1024_S256x1024_1_0_0_1_n_n none h (shapeCast S1024x1024 wa shapeCasts_S1024x1024_S1024x1024) (constant S256x1024 .f32 0x00000000#32)
  let b := matmul dot_S256x1024_S1024x1024_S256x1024_1_0_0_1_n_n none h (shapeCast S1024x1024 wb shapeCasts_S1024x1024_S1024x1024) (constant S256x1024 .f32 0x00000000#32)
  matmul dot_S256x1024_S1024x1024_S256x1024_1_0_0_1_n_n none
    (truncf .bf16 (mulf (divf a (addf (broadcast S256x1024 (Scalar.ofBits .f32 0x3F800000#32))
      (exp (subf (broadcast S256x1024 (Scalar.ofBits .f32 0x00000000#32)) a)))) b) bitsLt_bf16_f32)
    (shapeCast S1024x1024 wo shapeCasts_S1024x1024_S1024x1024) (constant S256x1024 .f32 0x00000000#32)

/-- The part over the last 768 hidden features. -/
def narrow (h : FVec F S256x1024 .bf16) (wa wb : Vec F S1024x768 .bf16) (wo : Vec F S768x1024 .bf16) : FVec F S256x1024 .f32 :=
  let a := matmul dot_S256x1024_S1024x768_S256x768_1_0_0_1_n_n none h (shapeCast S1024x768 wa shapeCasts_S1024x768_S1024x768) (constant S256x768 .f32 0x00000000#32)
  let b := matmul dot_S256x1024_S1024x768_S256x768_1_0_0_1_n_n none h (shapeCast S1024x768 wb shapeCasts_S1024x768_S1024x768) (constant S256x768 .f32 0x00000000#32)
  matmul dot_S256x768_S768x1024_S256x1024_1_0_0_1_n_n none
    (truncf .bf16 (mulf (divf a (addf (broadcast S256x768 (Scalar.ofBits .f32 0x3F800000#32))
      (exp (subf (broadcast S256x768 (Scalar.ofBits .f32 0x00000000#32)) a)))) b) bitsLt_bf16_f32)
    (shapeCast S768x1024 wo shapeCasts_S768x1024_S768x1024) (constant S256x1024 .f32 0x00000000#32)

theorem cat_shapes (f : Fin 128 → FVec F S8x128 .f32) :
    Shape.Concatenates ((List.ofFn fun n : Fin 128 => (⟨S8x128, f n⟩ : (s : Shape) × (s.Idx → F .f32))).map (·.1)) S1024x128 0 := by
  rw [List.map_ofFn]
  exact (by decide : Shape.Concatenates (List.ofFn fun n : Fin 128 => S8x128) S1024x128 0)

theorem tile_inb (h : Fin 2) (n : Fin 128) :
    ∀ a, (![h.val, n.val % 16, 8 * (n.val / 16), 0] : Fin 4 → Nat) a + S1x1x8x128.size a ≤ S2x16x64x128.size a := by
  intro a; have := h.isLt; have := n.isLt; fin_cases a <;> simp [S1x1x8x128, S2x16x64x128] <;> omega

/-- Eight rows of a half of the Fourier mixer's output: rows `8 n` on. -/
def tile (h : Fin 2) (x2 : Vec F S2x16x64x128 .f32) (n : Fin 128) : FVec F S8x128 .f32 :=
  shapeCast S8x128 (View.ld x2 (Rect.unit (s := S2x16x64x128) ![h.val, n.val % 16, 8 * (n.val / 16), 0] S1x1x8x128.size (tile_inb h n)))
    shapeCasts_S1x1x8x128_S8x128

/-- Half `h` of the columns of the Fourier mixer's output, rows in the order of positions. -/
def half (h : Fin 2) (x2 : Vec F S2x16x64x128 .f32) : FVec F S1024x128 .bf16 :=
  truncf .bf16 (concatenate S1024x128 0 (List.ofFn fun n : Fin 128 => ⟨S8x128, tile h x2 n⟩) (cat_shapes (tile h x2))) bitsLt_bf16_f32

/-- The three mixers' outputs side by side. -/
def mixers (x1 : Vec F S1024x512 .bf16) (x2 : Vec F S2x16x64x128 .f32) (x3 : Vec F S1024x256 .bf16) : FVec F S1024x1024 .bf16 :=
  concatenate S1024x1024 1 [⟨S1024x512, shapeCast S1024x512 (View.ld x1 r0_256) shapeCasts_S1024x512_S1024x512⟩, ⟨S1024x128, half 0 x2⟩,
    ⟨S1024x128, half 1 x2⟩, ⟨S1024x256, shapeCast S1024x256 (View.ld x3 r0_257) shapeCasts_S1024x256_S1024x256⟩]
    concatenates_S1024x512_S1024x128_S1024x128_S1024x256_S1024x1024_d1

/-- Modulation vector `n` of the first condition. -/
theorem vec_slices (n : Fin 6) : S8x6144.Slices ![0, 1024 * n.val] S1x1024 :=
  ⟨rfl, by intro a; have := n.isLt; fin_cases a <;> simp [S1x1024, S8x6144]; omega⟩

def modVec (n : Fin 6) (x4 : Vec F S1x8x6144 .f32) : FVec F S1x1024 .f32 :=
  extractStridedSlice S1x1024 ![0, 1024 * n.val] (shapeCast S8x6144 (View.ld x4 r0_258) shapeCasts_S1x8x6144_S8x6144) (vec_slices n)

theorem rows_inb (r : Fin 4) : ∀ a, (![256 * r.val, 0] : Fin 2 → Nat) a + S256x1024.size a ≤ S1024x1024.size a := by
  intro a; have := r.isLt; fin_cases a <;> simp [S256x1024, S1024x1024] <;> omega

theorem rows_slices (r : Fin 4) : S1024x1024.Slices ![256 * r.val, 0] S256x1024 :=
  ⟨rfl, by intro a; have := r.isLt; fin_cases a <;> simp [S256x1024, S1024x1024] <;> omega⟩

/-- The stream's rows of sub-block `r`. -/
def rows (r : Fin 4) (x0 : Vec F S1024x1024 .f32) : FVec F S256x1024 .f32 :=
  shapeCast S256x1024 (View.ld x0 (Rect.unit (s := S1024x1024) ![256 * r.val, 0] S256x1024.size (rows_inb r))) shapeCasts_S256x1024_S256x1024

/-- The projection of the mixers' outputs, sub-block `r`. -/
def project (r : Fin 4) (o : FVec F S1024x1024 .bf16) (x5 : Vec F S1x1024x1024 .bf16) : FVec F S256x1024 .f32 :=
  matmul dot_S256x1024_S1024x1024_S256x1024_1_0_0_1_n_n none
    (extractStridedSlice S256x1024 ![256 * r.val, 0] o (rows_slices r))
    (shapeCast S1024x1024 (View.ld x5 r0_264) shapeCasts_S1x1024x1024_S1024x1024) (constant S256x1024 .f32 0x00000000#32)

/-- The stream after the mixers. -/
def stream (r : Fin 4) (x0 : Vec F S1024x1024 .f32) (o : FVec F S1024x1024 .bf16) (x4 : Vec F S1x8x6144 .f32) (x5 : Vec F S1x1024x1024 .bf16) (x6 x7 : Vec F S2x1024 .f32) : FVec F S256x1024 .f32 :=
  postNorm (rows r x0) (modVec 2 x4) (project r o x5) (View.ld x6 r0_260) (View.ld x7 r0_260)

/-- The feed-forward part of modulated rows. -/
def forward (h : FVec F S256x1024 .bf16) (x8 : Vec F S1024x5632 .bf16) (x9 : Vec F S2816x1024 .bf16) : FVec F S256x1024 .f32 :=
  addf (addf (wide h (View.ld x8 r0_265) (View.ld x8 r0_266) (View.ld x9 r0_267))
    (wide h (View.ld x8 r0_268) (View.ld x8 r0_269) (View.ld x9 r0_270)))
    (narrow h (View.ld x8 r0_271) (View.ld x8 r0_272) (View.ld x9 r0_273))

/-- Sub-block `r` of a grid point's output block. -/
def block (r : Fin 4) (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) : FVec F S256x1024 .f32 :=
  let x := stream r x0 (mixers x1 x2 x3) x4 x5 x6 x7
  postNorm x (modVec 5 x4) (forward (modulated x (modVec 3 x4) (modVec 4 x4)) x8 x9) (View.ld x10 r0_260) (View.ld x11 r0_260)

/-- What the body stores for sub-block `r`, and where. -/
def piece (b : Fin 4 → FVec F S256x1024 .f32) (r : Fin 4) : View.Piece (Elt F) S1024x1024 .f32 :=
  ⟨Rect.unit (s := S1024x1024) ![256 * r.val, 0] S256x1024.size (rows_inb r), b r⟩

theorem o_cat (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) :
    k0_pay295 x0 x1 x2 x3 x4 x5 x6 x7 x8 x9 x10 x11 = mixers x1 x2 x3 := by
  sl_kernel_rfl

/-- The output block is the four sub-blocks. -/
theorem pieces (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) :
    out0_12 x0 x1 x2 x3 x4 x5 x6 x7 x8 x9 x10 x11
      = View.canon (([3, 2, 1, 0] : List (Fin 4)).map (piece fun r => block r x0 x1 x2 x3 x4 x5 x6 x7 x8 x9 x10 x11)) := by
  unfold block
  rw [← o_cat x0 x1 x2 x3 x4 x5 x6 x7 x8 x9 x10 x11]
  sl_kernel_rfl

/-- The output block's element of 1024 rows, out of the four sub-blocks. -/
def outAt (b : Fin 4 → FVec F S256x1024 .f32) (y : S1024x1024.Idx) : Elt F .f32 :=
  b ⟨(y 0).val / 256, by have : (y 0).val < 1024 := (y 0).isLt; omega⟩ (ix2 ⟨(y 0).val % 256, by omega⟩ ⟨(y 1).val, (y 1).isLt⟩)

theorem piece_at (b : Fin 4 → FVec F S256x1024 .f32) (r : Fin 4) (x : (piece b r).1.shape.Idx) :
    (piece b r).2 x = outAt b ((piece b r).1.emb x) := by
  have h0 : (x 0).val < 256 := (x 0).isLt
  have h1 : (x 1).val < 1024 := (x 1).isLt
  have e0 : (((piece b r).1.emb x) 0).val = 256 * r.val + (x 0).val := by
    show 256 * r.val + 1 * (x 0).val = _; rw [one_mul]
  have e1 : (((piece b r).1.emb x) 1).val = (x 1).val := by
    show 0 + 1 * (x 1).val = _; omega
  unfold outAt
  have hb : (⟨(((piece b r).1.emb x) 0).val / 256, by omega⟩ : Fin 4) = r := by ext; simp only [e0]; omega
  rw [hb]
  show b r x = _
  refine congrArg (b r) ((eq_ix2 (n0 := 256) (n1 := 1024) x).trans (congrArg₂ ix2 (Fin.ext ?_) (Fin.ext ?_)))
  · show (x 0).val = (((piece b r).1.emb x) 0).val % 256; omega
  · show (x 1).val = (((piece b r).1.emb x) 1).val; omega

/-- What a grid point leaves at an element of the output block. -/
theorem out_at (x0 : Vec F S1024x1024 .f32) (x1 : Vec F S1024x512 .bf16) (x2 : Vec F S2x16x64x128 .f32) (x3 : Vec F S1024x256 .bf16) (x4 : Vec F S1x8x6144 .f32) (x5 : Vec F S1x1024x1024 .bf16) (x6 : Vec F S2x1024 .f32) (x7 : Vec F S2x1024 .f32) (x8 : Vec F S1024x5632 .bf16) (x9 : Vec F S2816x1024 .bf16) (x10 : Vec F S2x1024 .f32) (x11 : Vec F S2x1024 .f32) (y : S1024x1024.Idx) :
    out0_12 x0 x1 x2 x3 x4 x5 x6 x7 x8 x9 x10 x11 y = outAt (fun r => block r x0 x1 x2 x3 x4 x5 x6 x7 x8 x9 x10 x11) y := by
  rw [pieces]
  refine View.canon_apply_of_pieces _ _ ?_ y (cover0_12 _ _ _ _ y)
  intro p hp x
  obtain ⟨r, -, rfl⟩ := List.mem_map.mp hp
  exact piece_at _ r x

end Cert.Kernel4Ideal.Ffn

end
-- ==== Proof.Ffn0Value.lean ====
/- A sub-block of the output projection and feed-forward kernel over the extended reals: each of its rows is the row function of
   the reference, whatever the inputs. -/
module

public import proofs.«01_k».proof.Proof.Ffn0Block
public import proofs.«01_k».proof.Proof.FfnMath
public import Idealize.ShloMosaic.Lib.Pipeline.Value

@[expose] public section

set_option maxRecDepth 16384

noncomputable section

namespace Cert.Kernel4Ideal.Ffn

open Cert.Kernel4Ideal Cert.Kernel4Ideal.Gen Cert.FfnMath Idealize.ShloMosaic Idealize.ShloMosaic.TcCoe Idealize.SL.Sem

section
variable (x y : FVec Ideal S256x1024 .f32) (gate g b sh sc : FVec Ideal S1x1024 .f32) (a : Fin 256) (j : Fin 1024)

theorem norm_at : (scaled (centre x) (ix2 a j) : EReal) = rowNorm (fun k => x (ix2 a k)) j := by
  unfold rowNorm rowMean
  pointwise [meanCol, scaled, centre]

theorem post_at : (postNorm x gate y g b (ix2 a j) : EReal)
    = rowPost (fun k => x (ix2 a k)) (fun k => gate (ix2 0 k)) (fun k => y (ix2 a k)) (fun k => g (ix2 0 k)) (fun k => b (ix2 0 k)) j := by
  have hr : ∀ k, (residual x gate y (ix2 a k) : EReal)
      = Ideal.ofBits .f32 1068827891#32 * x (ix2 a k) + gate (ix2 0 k) * y (ix2 a k) := fun k => by pointwise [residual]
  have hn := (norm_at (residual x gate y) a j).trans (congrArg (fun f => rowNorm f j) (funext hr))
  unfold rowPost
  refine Eq.trans ?_ (congrArg (fun v : EReal => v * g (ix2 0 j) + b (ix2 0 j)) hn)
  pointwise [postNorm]

theorem modulated_at : (modulated x sh sc (ix2 a j) : EReal)
    = rowModulate (fun k => x (ix2 a k)) (fun k => sh (ix2 0 k)) (fun k => sc (ix2 0 k)) j := by
  unfold rowModulate
  refine Eq.trans ?_ (congrArg (fun v : EReal => v * (1 + sc (ix2 0 j)) + sh (ix2 0 j)) (norm_at x a j))
  pointwise [modulated]

end

section
variable (h : FVec Ideal S256x1024 .bf16) (a : Fin 256) (j : Fin 1024)

theorem wide_at (wa wb wo : Vec Ideal S1024x1024 .bf16) : (wide h wa wb wo (ix2 a j) : EReal)
    = ∑ n, (Ideal.div (∑ k, h (ix2 a k) * wa (ix2 k n)) (1 + Ideal.exp (0 - ∑ k, h (ix2 a k) * wa (ix2 k n)))
        * ∑ k, h (ix2 a k) * wb (ix2 k n)) * wo (ix2 n j) := by
  pointwise [wide]

theorem narrow_at (wa wb : Vec Ideal S1024x768 .bf16) (wo : Vec Ideal S768x1024 .bf16) : (narrow h wa wb wo (ix2 a j) : EReal)
    = ∑ n, (Ideal.div (∑ k, h (ix2 a k) * wa (ix2 k n)) (1 + Ideal.exp (0 - ∑ k, h (ix2 a k) * wa (ix2 k n)))
        * ∑ k, h (ix2 a k) * wb (ix2 k n)) * wo (ix2 n j) := by
  pointwise [narrow]

variable (x8 : Vec Ideal S1024x5632 .bf16) (x9 : Vec Ideal S2816x1024 .bf16)

/-- The three parts' sums together are the whole sum over the hidden features. -/
theorem forward_at : (forward h x8 x9 (ix2 a j) : EReal)
    = rowForward (fun k => h (ix2 a k)) (fun k n => x8 (ix2 k n)) (fun n j => x9 (ix2 n j)) j := by
  have e : (forward h x8 x9 (ix2 a j) : EReal)
      = wide h (View.ld x8 r0_265) (View.ld x8 r0_266) (View.ld x9 r0_267) (ix2 a j)
        + wide h (View.ld x8 r0_268) (View.ld x8 r0_269) (View.ld x9 r0_270) (ix2 a j)
        + narrow h (View.ld x8 r0_271) (View.ld x8 r0_272) (View.ld x9 r0_273) (ix2 a j) := by pointwise [forward]
  rw [e, wide_at, wide_at, narrow_at]
  unfold rowForward rowHidden
  rw [← sum_parts]
  simp only [div_logistic]
  refine congrArg₂ (· + ·) (congrArg₂ (· + ·) ?_ ?_) ?_
  · refine Finset.sum_congr rfl fun n _ => ?_
    pointwise
  · refine Finset.sum_congr rfl fun n _ => ?_
    have e : (⟨2816 + (1024 + n.val), by omega⟩ : Fin 5632) = ⟨3840 + n.val, by omega⟩ := Fin.ext (by show 2816 + (1024 + n.val) = 3840 + n.val; omega)
    simp only [e]
    pointwise
  · refine Finset.sum_congr rfl fun n _ => ?_
    have e : (⟨2816 + (2048 + n.val), by omega⟩ : Fin 5632) = ⟨4864 + n.val, by omega⟩ := Fin.ext (by show 2816 + (2048 + n.val) = 4864 + n.val; omega)
    simp only [e]
    pointwise

end

theorem modVec_at (x4 : Vec Ideal S1x8x6144 .f32) (n : Fin 6) (j : Fin 1024) :
    (modVec n x4 (ix2 0 j) : EReal) = x4 (ix3 0 0 ⟨1024 * n.val + j.val, by omega⟩) := by
  pointwise [modVec]

theorem rows_at (x0 : Vec Ideal S1024x1024 .f32) (r : Fin 4) (a : Fin 256) (j : Fin 1024) :
    (rows r x0 (ix2 a j) : EReal) = x0 (ix2 ⟨256 * r.val + a.val, by omega⟩ j) := by
  pointwise [rows]

theorem project_at (r : Fin 4) (o : FVec Ideal S1024x1024 .bf16) (x5 : Vec Ideal S1x1024x1024 .bf16) (a : Fin 256) (j : Fin 1024) :
    (project r o x5 (ix2 a j) : EReal) = ∑ k, o (ix2 ⟨256 * r.val + a.val, by omega⟩ k) * x5 (ix3 0 k j) := by
  pointwise [project]

theorem gain_at (x6 : Vec Ideal S2x1024 .f32) (j : Fin 1024) : ((View.ld x6 r0_260 : Vec Ideal S1x1024 .f32) (ix2 0 j) : EReal) = x6 (ix2 0 j) := by
  pointwise

theorem tile_at (x2 : Vec Ideal S2x16x64x128 .f32) (h : Fin 2) (n : Fin 128) (s : Fin 8) (l : Fin 128) :
    (tile h x2 n (ix2 s l) : EReal) = x2 (ix4 h ⟨n.val % 16, by omega⟩ ⟨8 * (n.val / 16) + s.val, by omega⟩ l) := by
  unfold tile
  refine (shapeCast_apply _ shapeCasts_S1x1x8x128_S8x128 (ix2 s l) (ix4 0 0 s l) ?_).trans ?_
  · rw [Shape.rowMajor_val_four, Shape.rowMajor_val_two]
    show ((0 * 1 + 0) * 8 + s.val) * 128 + l.val = s.val * 128 + l.val
    omega
  · refine congrArg x2 (funext fun b => Fin.ext ?_)
    match b with
    | ⟨0, _⟩ => show h.val + 1 * 0 = h.val; omega
    | ⟨1, _⟩ => show n.val % 16 + 1 * 0 = n.val % 16; omega
    | ⟨2, _⟩ => show 8 * (n.val / 16) + 1 * s.val = 8 * (n.val / 16) + s.val; omega
    | ⟨3, _⟩ => show 0 + 1 * l.val = l.val; omega

/-- A half of the Fourier mixer's output at row `p` of the point's rows. -/
theorem half_at (x2 : Vec Ideal S2x16x64x128 .f32) (h : Fin 2) (p : Fin 1024) (l : Fin 128) :
    (half h x2 (ix2 p l) : EReal) = x2 (ix4 h ⟨p.val / 8 % 16, by omega⟩ ⟨8 * (p.val / 128) + p.val % 8, by omega⟩ l) := by
  have e := concatenate_ofFn_apply (t := S1024x128) (s₁ := S8x128) 0 (tile h x2) (cat_shapes (tile h x2)) rfl 8 rfl (ix2 p l) ⟨p.val / 8, by omega⟩ rfl
    (ix2 ⟨p.val % 8, by omega⟩ l) rfl (fun b hb => by
      match b with
      | ⟨0, _⟩ => exact absurd rfl hb
      | ⟨1, _⟩ => rfl)
  show (concatenate S1024x128 0 (List.ofFn fun n : Fin 128 => ⟨S8x128, tile h x2 n⟩) (cat_shapes (tile h x2)) (ix2 p l) : EReal) = _
  rw [e, tile_at]
  refine congrArg x2 (congrArg (fun a => ix4 h _ a l) (Fin.ext ?_))
  show 8 * (p.val / 8 / 16) + p.val % 8 = 8 * (p.val / 128) + p.val % 8
  omega

theorem mixers_at (x1 : Vec Ideal S1024x512 .bf16) (x2 : Vec Ideal S2x16x64x128 .f32) (x3 : Vec Ideal S1024x256 .bf16) (p k : Fin 1024) :
    (mixers x1 x2 x3 (ix2 p k) : EReal)
      = if h : k.val < 512 then x1 (ix2 p ⟨k.val, h⟩)
        else if h' : k.val < 768 then x2 (ix4 ⟨(k.val - 512) / 128, by omega⟩ ⟨p.val / 8 % 16, by omega⟩ ⟨8 * (p.val / 128) + p.val % 8, by omega⟩ ⟨k.val % 128, by omega⟩)
        else x3 (ix2 p ⟨k.val - 768, by omega⟩) := by
  pointwise [mixers]
  by_cases h1 : k.val < 512
  · rw [dif_pos h1, dif_pos h1]
  · rw [dif_neg h1, dif_neg h1]
    by_cases h2 : k.val - 512 < 128
    · rw [dif_pos h2, dif_pos (by omega), half_at]
      refine congrArg x2 (congrArg₂ (fun h l => ix4 h _ _ l) (Fin.ext ?_) (Fin.ext ?_))
      · show 0 = (k.val - 512) / 128; omega
      · show k.val - 512 = k.val % 128; omega
    · rw [dif_neg h2]
      by_cases h3 : k.val - 512 - 128 < 128
      · rw [dif_pos h3, dif_pos (by omega), half_at]
        refine congrArg x2 (congrArg₂ (fun h l => ix4 h _ _ l) (Fin.ext ?_) (Fin.ext ?_))
        · show 1 = (k.val - 512) / 128; omega
        · show k.val - 512 - 128 = k.val % 128; omega
      · rw [dif_neg h3, dif_neg (by omega)]
        exact congrArg (fun a => x3 (ix2 p a)) (Fin.ext (by show k.val - 512 - 128 - 128 = k.val - 768; omega))

section
variable (x0 : Vec Ideal S1024x1024 .f32) (x1 : Vec Ideal S1024x512 .bf16) (x2 : Vec Ideal S2x16x64x128 .f32) (x3 : Vec Ideal S1024x256 .bf16)
  (x4 : Vec Ideal S1x8x6144 .f32) (x5 : Vec Ideal S1x1024x1024 .bf16) (x6 x7 : Vec Ideal S2x1024 .f32) (x8 : Vec Ideal S1024x5632 .bf16)
  (x9 : Vec Ideal S2816x1024 .bf16) (x10 x11 : Vec Ideal S2x1024 .f32) (r : Fin 4) (a : Fin 256) (j : Fin 1024)

/-- Modulation vector `n` of a point's window. -/
def vec (n : Fin 6) (j : Fin 1024) : EReal := x4 (ix3 0 0 ⟨1024 * n.val + j.val, by omega⟩)

/-- A sub-block's row is the row function of the point's input rows. -/
theorem block_at : (block r x0 x1 x2 x3 x4 x5 x6 x7 x8 x9 x10 x11 (ix2 a j) : EReal)
    = row (fun k => x0 (ix2 ⟨256 * r.val + a.val, by omega⟩ k)) (fun k => mixers x1 x2 x3 (ix2 ⟨256 * r.val + a.val, by omega⟩ k))
        (vec x4 2) (vec x4 3) (vec x4 4) (vec x4 5) (fun k j => x5 (ix3 0 k j)) (fun k => x6 (ix2 0 k)) (fun k => x7 (ix2 0 k))
        (fun k n => x8 (ix2 k n)) (fun n j => x9 (ix2 n j)) (fun k => x10 (ix2 0 k)) (fun k => x11 (ix2 0 k)) j := by
  have hv : ∀ n, (fun k => (modVec n x4 (ix2 0 k) : EReal)) = vec x4 n := fun n => funext fun k => modVec_at x4 n k
  have hg : ∀ x : Vec Ideal S2x1024 .f32, (fun k => ((View.ld x r0_260 : Vec Ideal S1x1024 .f32) (ix2 0 k) : EReal)) = fun k => x (ix2 0 k) :=
    fun x => funext fun k => gain_at x k
  have hs := funext fun k => post_at (rows r x0) (project r (mixers x1 x2 x3) x5) (modVec 2 x4) (View.ld x6 r0_260) (View.ld x7 r0_260) a k
  simp only [rows_at, project_at, hv, hg] at hs
  unfold block
  rw [post_at]
  unfold stream
  simp only [forward_at, modulated_at, hv, hg]
  unfold row
  rw [hs]

end

end Cert.Kernel4Ideal.Ffn

end
-- ==== Proof.Ffn0Host.lean ====
/- The output projection and feed-forward kernel's prepared arrays, read at an index: what the host operations leave for the grid. -/
module

public import proofs.«01_k».proof.Proof.Ffn0Block
public import Idealize.ShloMosaic.Lib.StableHlo.ReadAt

@[expose] public section

set_option maxRecDepth 16384

noncomputable section

namespace Cert.Kernel4Ideal.Ffn

open Cert.Kernel4Ideal Cert.Kernel4Ideal.Gen Idealize.ShloMosaic Idealize.ShloMosaic.TcCoe Idealize.SL.Sem

variable (m : (ℓ : Loc nD τ sig) → Buf (Elt Ideal) ℓ) (c : Dev nD)

theorem host_x (p : Fin 16384) (n : Fin 1024) :
    (V m c main_v41 : FVec Ideal S16384x1024 .f32) (ix2 p n) = (m ((c : Thread nD τ).loc main_arg0) : FVec Ideal S1x16384x1024 .f32) (ix3 0 p n) := by
  unfold V
  after_reads_at

theorem host_sg (p : Fin 16384) (n : Fin 256) :
    (V m c main_v43 : FVec Ideal S16384x256 .bf16) (ix2 p n) = (m ((c : Thread nD τ).loc main_arg3) : FVec Ideal S1x16384x256 .f32) (ix3 0 p n) := by
  unfold V
  after_reads_at

theorem host_w1 (k : Fin 1024) (n : Fin 5632) :
    (V m c main_v37 : FVec Ideal S1024x5632 .bf16) (ix2 k n) = (m ((c : Thread nD τ).loc main_arg8) : FVec Ideal S2x1024x5632 .f32) (ix3 0 k n) := by
  unfold V
  after_reads_at

theorem host_w2 (k : Fin 2816) (n : Fin 1024) :
    (V m c main_v40 : FVec Ideal S2816x1024 .bf16) (ix2 k n) = (m ((c : Thread nD τ).loc main_arg9) : FVec Ideal S2x2816x1024 .f32) (ix3 0 k n) := by
  unfold V
  after_reads_at

theorem host_mod (n : Fin 6144) :
    (V m c main_v23 : FVec Ideal S2x8x6144 .f32) (ix3 0 0 n) = (m ((c : Thread nD τ).loc main_arg4) : FVec Ideal S2x2x6144 .f32) (ix3 0 0 n) := by
  unfold V
  after_reads_at

theorem host_of (h : Fin 2) (kb : Fin 16) (k2 : Fin 128) (s : Fin 8) (l : Fin 128) :
    (V m c main_v21 : FVec Ideal S2x16x1024x128 .f32) (ix4 h kb ⟨k2.val * 8 + s.val, by omega⟩ l)
      = (m ((c : Thread nD τ).loc main_arg2) : FVec Ideal S1x16384x256 .f32) (ix3 0 ⟨k2.val * 128 + kb.val * 8 + s.val, by omega⟩ ⟨h.val * 128 + l.val, by omega⟩) := by
  unfold V
  after_reads_at

set_option maxHeartbeats 4000000 in
/-- A column of the heads in the call's order, in the order of the heads. -/
theorem host_oa (p : Fin 16384) (n : Fin 512) (k : Fin 512) (hk : k.val = n.val % 128 / 64 * 256 + n.val / 128 * 64 + n.val % 64) :
    (V m c main_v17 : FVec Ideal S16384x512 .bf16) (ix2 p n) = (m ((c : Thread nD τ).loc main_arg1) : FVec Ideal S1x16384x512 .f32) (ix3 0 p k) := by
  unfold V
  after_reads_at
  after_reads_at
  generalize (m ((c : Thread nD τ).loc main_arg1) : FVec Ideal S1x16384x512 .f32) = f
  have e : ∀ a : Fin 512, a.val = k.val → f (ix3 0 p a) = f (ix3 0 p k) := fun a h => congrArg (fun k => f (ix3 0 p k)) (Fin.ext h)
  repeat' split
  all_goals refine e _ ?_
  all_goals try dsimp only
  all_goals omega

set_option maxHeartbeats 4000000 in
/-- A row of the output projection in the call's order of heads. -/
theorem host_wo (n j : Fin 1024) (k : Fin 1024)
    (hl : n.val < 512 → k.val = n.val % 128 / 64 * 256 + n.val / 128 * 64 + n.val % 64) (hr : 512 ≤ n.val → k.val = n.val) :
    (V m c main_v34 : FVec Ideal S2x1024x1024 .bf16) (ix3 0 n j) = (m ((c : Thread nD τ).loc main_arg5) : FVec Ideal S2x1024x1024 .f32) (ix3 0 k j) := by
  unfold V
  after_reads_at
  after_reads_at
  generalize (m ((c : Thread nD τ).loc main_arg5) : FVec Ideal S2x1024x1024 .f32) = f
  have e : ∀ a : Fin 1024, a.val = k.val → f (ix3 0 a j) = f (ix3 0 k j) := fun a h => congrArg (fun k => f (ix3 0 k j)) (Fin.ext h)
  repeat' split
  all_goals refine e _ ?_
  all_goals try dsimp only
  all_goals omega

end Cert.Kernel4Ideal.Ffn

end
-- ==== Proof.Ffn0Final.lean ====
/- The output projection and feed-forward kernel's whole result: the row function of the arguments at every position. -/
module

public import proofs.«01_k».proof.Proof.Ffn0Value
public import proofs.«01_k».proof.Proof.Ffn0Host
public import Idealize.ShloMosaic.Lib.Pipeline.ValueKit

@[expose] public section

set_option maxRecDepth 16384

noncomputable section

namespace Cert.Kernel4Ideal.Ffn

open Cert.Kernel4Ideal Cert.Kernel4Ideal.Gen Cert.Kernel4Ideal.Value Cert.FfnMath Idealize.ShloMosaic Idealize.ShloMosaic.TcCoe Idealize.SL.Sem

/-- Where the windows that move with the grid point, and the layer's windows, have their blocks. -/
theorem index_facts : ∀ t : Fin cfg0.N, win0_0.index t = ![t.val, 0] ∧ win0_1.index t = ![t.val, 0] ∧ win0_2.index t = ![0, 0, t.val, 0]
    ∧ win0_3.index t = ![t.val, 0] ∧ win0_4.index t = ![0, 0, 0] ∧ win0_5.index t = ![0, 0, 0] ∧ win0_12.index t = ![t.val, 0] :=
  (by decide +kernel : ∀ t : Fin grid0.N, win0_0.index t = ![t.val, 0] ∧ win0_1.index t = ![t.val, 0] ∧ win0_2.index t = ![0, 0, t.val, 0]
    ∧ win0_3.index t = ![t.val, 0] ∧ win0_4.index t = ![0, 0, 0] ∧ win0_5.index t = ![0, 0, 0] ∧ win0_12.index t = ![t.val, 0])

/-- The other windows hold their whole arrays. -/
theorem whole_facts : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, win0_6.index t = ![0, 0] ∧ win0_7.index t = ![0, 0] ∧ win0_8.index t = ![0, 0]
    ∧ win0_9.index t = ![0, 0] ∧ win0_10.index t = ![0, 0] ∧ win0_11.index t = ![0, 0])

section
variable (m : (ℓ : Loc nD τ sig) → Buf (Elt Ideal) ℓ) (c : Dev nD) (t : Fin cfg0.N)

theorem point_lt : t.val < 16 := lt_of_lt_of_eq t.isLt (by decide)

theorem blk_x (a : Fin 1024) (b : Fin 1024) :
    (iblk m c 0 t : Vec Ideal S1024x1024 .f32) (ix2 a b)
      = (V m c main_v41 : FVec Ideal S16384x1024 .f32) (ix2 ⟨1024 * t.val + a.val, by have := point_lt t; omega⟩ b) := by
  obtain ⟨e0, -⟩ := index_facts t
  blk_simp [iblk]
  blk_ext [e0]

theorem blk_oa (a : Fin 1024) (b : Fin 512) :
    (iblk m c 1 t : Vec Ideal S1024x512 .bf16) (ix2 a b)
      = (V m c main_v17 : FVec Ideal S16384x512 .bf16) (ix2 ⟨1024 * t.val + a.val, by have := point_lt t; omega⟩ b) := by
  obtain ⟨-, e0, -⟩ := index_facts t
  blk_simp [iblk]
  blk_ext [e0]

/-- A block of the third window, read off an array of its shape. -/
theorem read_of (X : FVec Ideal S2x16x1024x128 .f32) (i : S2x16x64x128.Idx) :
    ((cfg0.win 2).blk t).view.read (Elt Ideal) X i = X ((win0_2.blk t).view.emb i) := by
  rfl

/-- The third window's block, before it is read at an index. -/
theorem iblk_of : (iblk m c 2 t : Vec Ideal S2x16x64x128 .f32) = ((cfg0.win 2).blk t).view.read (Elt Ideal) (V m c main_v21) := by
  unfold iblk
  rfl

theorem blk_of (h : Fin 2) (kb : Fin 16) (a : Fin 64) (l : Fin 128) :
    (iblk m c 2 t : Vec Ideal S2x16x64x128 .f32) (ix4 h kb a l)
      = (V m c main_v21 : FVec Ideal S2x16x1024x128 .f32) (ix4 h kb ⟨64 * t.val + a.val, by have := point_lt t; omega⟩ l) := by
  obtain ⟨-, -, e0, -⟩ := index_facts t
  refine (congrFun (iblk_of m c t) _).trans ?_
  generalize (V m c main_v21 : FVec Ideal S2x16x1024x128 .f32) = f
  refine (read_of t f _).trans ?_
  refine congrArg f ?_
  blk_ext [e0]

theorem blk_sg (a : Fin 1024) (b : Fin 256) :
    (iblk m c 3 t : Vec Ideal S1024x256 .bf16) (ix2 a b)
      = (V m c main_v43 : FVec Ideal S16384x256 .bf16) (ix2 ⟨1024 * t.val + a.val, by have := point_lt t; omega⟩ b) := by
  obtain ⟨-, -, -, e0, -⟩ := index_facts t
  blk_simp [iblk]
  blk_ext [e0]

theorem blk_mod (n : Fin 6144) :
    (iblk m c 4 t : Vec Ideal S1x8x6144 .f32) (ix3 0 0 n) = (V m c main_v23 : FVec Ideal S2x8x6144 .f32) (ix3 0 0 n) := by
  obtain ⟨-, -, -, -, e0, -⟩ := index_facts t
  blk_simp [iblk]
  blk_ext [e0]

theorem blk_wo (a b : Fin 1024) :
    (iblk m c 5 t : Vec Ideal S1x1024x1024 .bf16) (ix3 0 a b) = (V m c main_v34 : FVec Ideal S2x1024x1024 .bf16) (ix3 0 a b) := by
  obtain ⟨-, -, -, -, -, e0, -⟩ := index_facts t
  blk_simp [iblk]
  blk_ext [e0]

theorem blk_g1 (a : Fin 2) (b : Fin 1024) :
    (iblk m c 6 t : Vec Ideal S2x1024 .f32) (ix2 a b) = (m ((c : Thread nD τ).loc main_arg6) : FVec Ideal S2x1024 .f32) (ix2 a b) := by
  obtain ⟨e0, -⟩ := whole_facts t
  rw [← V_main_arg6 m c]
  blk_simp [iblk]
  blk_ext [e0]

theorem blk_b1 (a : Fin 2) (b : Fin 1024) :
    (iblk m c 7 t : Vec Ideal S2x1024 .f32) (ix2 a b) = (m ((c : Thread nD τ).loc main_arg7) : FVec Ideal S2x1024 .f32) (ix2 a b) := by
  obtain ⟨-, e0, -⟩ := whole_facts t
  rw [← V_main_arg7 m c]
  blk_simp [iblk]
  blk_ext [e0]

theorem blk_w1 (a : Fin 1024) (b : Fin 5632) :
    (iblk m c 8 t : Vec Ideal S1024x5632 .bf16) (ix2 a b) = (V m c main_v37 : FVec Ideal S1024x5632 .bf16) (ix2 a b) := by
  obtain ⟨-, -, e0, -⟩ := whole_facts t
  blk_simp [iblk]
  blk_ext [e0]

theorem blk_w2 (a : Fin 2816) (b : Fin 1024) :
    (iblk m c 9 t : Vec Ideal S2816x1024 .bf16) (ix2 a b) = (V m c main_v40 : FVec Ideal S2816x1024 .bf16) (ix2 a b) := by
  obtain ⟨-, -, -, e0, -⟩ := whole_facts t
  blk_simp [iblk]
  blk_ext [e0]

theorem blk_g2 (a : Fin 2) (b : Fin 1024) :
    (iblk m c 10 t : Vec Ideal S2x1024 .f32) (ix2 a b) = (m ((c : Thread nD τ).loc main_arg10) : FVec Ideal S2x1024 .f32) (ix2 a b) := by
  obtain ⟨-, -, -, -, e0, -⟩ := whole_facts t
  rw [← V_main_arg10 m c]
  blk_simp [iblk]
  blk_ext [e0]

theorem blk_b2 (a : Fin 2) (b : Fin 1024) :
    (iblk m c 11 t : Vec Ideal S2x1024 .f32) (ix2 a b) = (m ((c : Thread nD τ).loc main_arg11) : FVec Ideal S2x1024 .f32) (ix2 a b) := by
  obtain ⟨-, -, -, -, -, e0⟩ := whole_facts t
  rw [← V_main_arg11 m c]
  blk_simp [iblk]
  blk_ext [e0]

end

section
variable (m : (ℓ : Loc nD τ sig) → Buf (Elt Ideal) ℓ) (c : Dev nD)

/-- The mixers' outputs of position `p`, side by side. -/
def mixed (p : Fin 16384) (k : Fin 1024) : EReal :=
  if h : k.val < 512 then (m ((c : Thread nD τ).loc main_arg1) : FVec Ideal S1x16384x512 .f32) (ix3 0 p ⟨k.val, h⟩)
  else if h' : k.val < 768 then (m ((c : Thread nD τ).loc main_arg2) : FVec Ideal S1x16384x256 .f32) (ix3 0 p ⟨k.val - 512, by omega⟩)
  else (m ((c : Thread nD τ).loc main_arg3) : FVec Ideal S1x16384x256 .f32) (ix3 0 p ⟨k.val - 768, by omega⟩)

/-- A point's rows of the mixers' outputs are the arguments' rows, columns in the call's order. -/
theorem mixers_source (t : Fin cfg0.N) (a k : Fin 1024) :
    (mixers (iblk m c 1 t) (iblk m c 2 t) (iblk m c 3 t) (ix2 a k) : EReal)
      = mixed m c ⟨1024 * t.val + a.val, by have := point_lt t; omega⟩ (source k) := by
  have ht := point_lt t
  refine (mixers_at _ _ _ a k).trans ?_
  unfold mixed
  by_cases h1 : k.val < 512
  · have hs : (source k).val = k.val % 128 / 64 * 256 + k.val / 128 * 64 + k.val % 64 := if_pos h1
    rw [dif_pos h1, dif_pos (show (source k).val < 512 by omega)]
    exact (blk_oa m c t _ _).trans (host_oa m c _ _ ⟨(source k).val, by omega⟩ hs)
  · have hs : (source k).val = k.val := if_neg h1
    rw [dif_neg h1, dif_neg (show ¬ (source k).val < 512 by omega)]
    by_cases h2 : k.val < 768
    · rw [dif_pos h2, dif_pos (show (source k).val < 768 by omega)]
      refine (blk_of m c t _ _ _ _).trans ?_
      have e : (⟨64 * t.val + (8 * (a.val / 128) + a.val % 8), by omega⟩ : Fin 1024)
          = ⟨(⟨8 * t.val + a.val / 128, by omega⟩ : Fin 128).val * 8 + (⟨a.val % 8, by omega⟩ : Fin 8).val, by dsimp only; omega⟩ :=
        Fin.ext (by show 64 * t.val + (8 * (a.val / 128) + a.val % 8) = (8 * t.val + a.val / 128) * 8 + a.val % 8; omega)
      refine (congrArg (fun b => (V m c main_v21 : FVec Ideal S2x16x1024x128 .f32) (ix4 _ _ b _)) e).trans ?_
      refine (host_of m c _ _ _ _ _).trans ?_
      refine congrArg₂ (fun p n => (m ((c : Thread nD τ).loc main_arg2) : FVec Ideal S1x16384x256 .f32) (ix3 0 p n)) (Fin.ext ?_) (Fin.ext ?_)
      · show (8 * t.val + a.val / 128) * 128 + a.val / 8 % 16 * 8 + a.val % 8 = 1024 * t.val + a.val; omega
      · show (k.val - 512) / 128 * 128 + k.val % 128 = (source k).val - 512; omega
    · rw [dif_neg h2, dif_neg (show ¬ (source k).val < 768 by omega)]
      refine (blk_sg m c t _ _).trans ((host_sg m c _ _).trans ?_)
      exact congrArg (fun n => (m ((c : Thread nD τ).loc main_arg3) : FVec Ideal S1x16384x256 .f32) (ix3 0 _ n))
        (Fin.ext (by show k.val - 768 = (source k).val - 768; omega))

/-- Modulation vector `n` of the layer and condition. -/
def layerVec (n : Fin 6) (j : Fin 1024) : EReal :=
  (m ((c : Thread nD τ).loc main_arg4) : FVec Ideal S2x2x6144 .f32) (ix3 0 0 ⟨1024 * n.val + j.val, by omega⟩)

/-- The result's row at position `p`. -/
def spec (p : Fin 16384) (j : Fin 1024) : EReal :=
  row (fun k => (m ((c : Thread nD τ).loc main_arg0) : FVec Ideal S1x16384x1024 .f32) (ix3 0 p k)) (mixed m c p)
    (layerVec m c 2) (layerVec m c 3) (layerVec m c 4) (layerVec m c 5)
    (fun k j => (m ((c : Thread nD τ).loc main_arg5) : FVec Ideal S2x1024x1024 .f32) (ix3 0 k j))
    (fun k => (m ((c : Thread nD τ).loc main_arg6) : FVec Ideal S2x1024 .f32) (ix2 0 k))
    (fun k => (m ((c : Thread nD τ).loc main_arg7) : FVec Ideal S2x1024 .f32) (ix2 0 k))
    (fun k n => (m ((c : Thread nD τ).loc main_arg8) : FVec Ideal S2x1024x5632 .f32) (ix3 0 k n))
    (fun n j => (m ((c : Thread nD τ).loc main_arg9) : FVec Ideal S2x2816x1024 .f32) (ix3 0 n j))
    (fun k => (m ((c : Thread nD τ).loc main_arg10) : FVec Ideal S2x1024 .f32) (ix2 0 k))
    (fun k => (m ((c : Thread nD τ).loc main_arg11) : FVec Ideal S2x1024 .f32) (ix2 0 k)) j

/-- The row function depends on the mixers' outputs and the projection through their product alone. -/
theorem row_source (x o o' gm sh sc gf : Fin 1024 → EReal) (u u' : Fin 1024 → Fin 1024 → EReal) (g1 b1 : Fin 1024 → EReal)
    (w : Fin 1024 → Fin 5632 → EReal) (v : Fin 2816 → Fin 1024 → EReal) (g2 b2 : Fin 1024 → EReal)
    (ho : ∀ k, o k = o' (source k)) (hu : ∀ k j, u k j = u' (source k) j) :
    row x o gm sh sc gf u g1 b1 w v g2 b2 = row x o' gm sh sc gf u' g1 b1 w v g2 b2 := by
  have e : (fun j => ∑ k, o k * u k j) = fun j => ∑ k, o' k * u' k j := by
    funext j
    simp only [ho, hu]
    exact sum_source fun k => o' k * u' k j
  unfold row
  rw [e]

theorem block_spec (t : Fin cfg0.N) (r : Fin 4) (a : Fin 256) (j : Fin 1024) :
    (block r (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a j) : EReal)
      = spec m c ⟨1024 * t.val + (256 * r.val + a.val), by have := point_lt t; omega⟩ j := by
  refine (block_at _ _ _ _ _ _ _ _ _ _ _ _ r a j).trans ?_
  have hx : (fun k => (iblk m c 0 t : Vec Ideal S1024x1024 .f32) (ix2 ⟨256 * r.val + a.val, by omega⟩ k)) = _ :=
    funext fun k => (blk_x m c t _ k).trans (host_x m c _ k)
  have hv : ∀ n, vec (iblk m c 4 t) n = layerVec m c n := fun n => funext fun k => (blk_mod m c t _).trans (host_mod m c _)
  have h6 : (fun k => (iblk m c 6 t : Vec Ideal S2x1024 .f32) (ix2 0 k)) = _ := funext fun k => blk_g1 m c t 0 k
  have h7 : (fun k => (iblk m c 7 t : Vec Ideal S2x1024 .f32) (ix2 0 k)) = _ := funext fun k => blk_b1 m c t 0 k
  have h8 : (fun k n => (iblk m c 8 t : Vec Ideal S1024x5632 .bf16) (ix2 k n)) = _ :=
    funext fun k => funext fun n => (blk_w1 m c t k n).trans (host_w1 m c k n)
  have h9 : (fun n j => (iblk m c 9 t : Vec Ideal S2816x1024 .bf16) (ix2 n j)) = _ :=
    funext fun n => funext fun j => (blk_w2 m c t n j).trans (host_w2 m c n j)
  have h10 : (fun k => (iblk m c 10 t : Vec Ideal S2x1024 .f32) (ix2 0 k)) = _ := funext fun k => blk_g2 m c t 0 k
  have h11 : (fun k => (iblk m c 11 t : Vec Ideal S2x1024 .f32) (ix2 0 k)) = _ := funext fun k => blk_b2 m c t 0 k
  rw [hx, hv, hv, hv, hv, h6, h7, h8, h9, h10, h11]
  refine congrFun (row_source _ _ (mixed m c ⟨1024 * t.val + (256 * r.val + a.val), by have := point_lt t; omega⟩) _ _ _ _ _ _ _ _ _ _ _ _
    (fun k => mixers_source m c t _ k) (fun k j => ?_)) j
  exact (blk_wo m c t k j).trans (host_wo m c k j (source k) (fun h => if_pos h) (fun h => if_neg (by omega)))

/-- An array of the result's shape, from its value at each position and feature. -/
def layOut (f : Fin 16384 → Fin 1024 → EReal) (i : S16384x1024.Idx) : EReal := f ⟨(i 0).val, (i 0).isLt⟩ ⟨(i 1).val, (i 1).isLt⟩

/-- A grid point's four sub-blocks, laid out in its output block, are its rows of the whole array. -/
theorem out_lay (b : Fin 4 → FVec Ideal S256x1024 .f32) (f : Fin 16384 → Fin 1024 → EReal) (T : ℕ) (hT : T < 16)
    (hb : ∀ (r : Fin 4) (a : Fin 256) (j : Fin 1024), b r (ix2 a j) = f ⟨1024 * T + (256 * r.val + a.val), by omega⟩ j)
    (y : S1024x1024.Idx) (i : S16384x1024.Idx) (i0 : (i 0).val = 1024 * T + (y 0).val) (i1 : (i 1).val = (y 1).val) :
    outAt b y = layOut f i := by
  have h0 : (y 0).val < 1024 := (y 0).isLt
  unfold outAt layOut
  refine (hb _ _ _).trans (congrArg₂ f (Fin.ext ?_) (Fin.ext i1.symm))
  show 1024 * T + (256 * ((y 0).val / 256) + (y 0).val % 256) = (i 0).val
  omega

/-- The result array after the run. -/
theorem result_array : ((dats m 0 c).arrAt 12 cfg0.N : S16384x1024.Idx → EReal) = layOut (spec m c) := by
  refine (dats m 0 c).arrAt_eq_of_covers 12 _ (by decide +kernel) fun t hf y => ?_
  obtain ⟨-, -, -, -, -, -, e⟩ := index_facts t
  have h0 : (y 0).val < 1024 := (y 0).isLt
  blk_simp
  rw [after0_12, out_at]
  exact out_lay _ _ t.val (point_lt t) (fun r a j => block_spec m c t r a j) y _ (by blk_simp [e]; omega) (by blk_simp [e])

end

end Cert.Kernel4Ideal.Ffn

end
-- ==== Proof.Ffn0Ref.lean ====
/- The reference's output projection and feed-forward part read at an index over the extended reals. -/
module

public import proofs.«01_k».proof.Proof.Gen.Reference4Ideal.Read
public import proofs.«01_k».proof.Proof.FfnMath
public import Idealize.ShloMosaic.Lib.Pointwise

@[expose] public section

set_option maxRecDepth 16384

noncomputable section

namespace Cert.Reference4Ideal.Ffn

open Cert.Reference4Ideal Cert.Reference4Ideal.Value Cert.Reference4Ideal.Gen Cert.Reference4Ideal.Read Cert.FfnMath Idealize.ShloMosaic Idealize.ShloMosaic.TcCoe Idealize.SL.Sem

variable (x0 : FVec Ideal S1x16384x1024 .f32) (x1 : FVec Ideal S1x16384x512 .f32) (x2 x3 : FVec Ideal S1x16384x256 .f32)
  (x4 : FVec Ideal S2x2x6144 .f32) (x5 : FVec Ideal S2x1024x1024 .f32) (x6 x7 : FVec Ideal S2x1024 .f32)
  (x8 : FVec Ideal S2x1024x5632 .f32) (x9 : FVec Ideal S2x2816x1024 .f32) (x10 x11 : FVec Ideal S2x1024 .f32)

/-- The mixers' outputs of position `p`, side by side. -/
def mixed (p : Fin 16384) (k : Fin 1024) : EReal :=
  if h : k.val < 512 then x1 (ix3 0 p ⟨k.val, h⟩)
  else if h' : k.val < 768 then x2 (ix3 0 p ⟨k.val - 512, by omega⟩)
  else x3 (ix3 0 p ⟨k.val - 768, by omega⟩)

/-- Modulation vector `n` of the layer and condition. -/
def vec (n : Fin 6) (j : Fin 1024) : EReal := x4 (ix3 0 0 ⟨1024 * n.val + j.val, by omega⟩)

theorem mixed_at (p : Fin 16384) (k : Fin 1024) : val_main_v9 (F := Ideal) x1 x2 x3 (ix3 0 p k) = mixed x1 x2 x3 p k := by
  unfold mixed
  pointwise [val_main_v9]
  by_cases h1 : k.val < 512
  · rw [dif_pos h1, dif_pos h1]
  · rw [dif_neg h1, dif_neg h1]
    by_cases h2 : k.val < 768
    · rw [dif_pos h2, dif_pos (by omega)]
    · rw [dif_neg h2, dif_neg (by omega)]
      exact congrArg (fun a => x3 (ix3 0 p a)) (Fin.ext (by show k.val - 512 - 256 = k.val - 768; omega))

theorem y_at (p : Fin 16384) (j : Fin 1024) :
    val_main_v12 (F := Ideal) x1 x2 x3 x5 (ix3 0 p j) = ∑ k, mixed x1 x2 x3 p k * x5 (ix3 0 k j) := by
  simp only [← mixed_at]
  pointwise [val_main_v12, val_main_v11, val_main_v10]

theorem residual_at (p : Fin 16384) (j : Fin 1024) :
    val_main_v21 (F := Ideal) x0 x1 x2 x3 x4 x5 (ix3 0 p j)
      = Ideal.ofBits .f32 1068827891#32 * x0 (ix3 0 p j) + vec x4 2 j * val_main_v12 (F := Ideal) x1 x2 x3 x5 (ix3 0 p j) := by
  unfold vec
  pointwise [val_main_v21, val_main_v20, val_main_v19, val_main_v18, val_main_v17, val_main_cst, val_main_v5, val_main_v2, val_main_v1, val_main_v0]

theorem norm1_at (p : Fin 16384) (j : Fin 1024) :
    val_main_v39 (F := Ideal) x0 x1 x2 x3 x4 x5 (ix3 0 p j) = rowNorm (fun k => val_main_v21 (F := Ideal) x0 x1 x2 x3 x4 x5 (ix3 0 p k)) j := by
  unfold rowNorm rowMean
  pointwise [val_main_v39, val_main_v38, val_main_v37, val_main_v36, val_main_v35, val_main_cst_4, val_main_v34, val_main_v33, val_main_v32, val_main_v31, val_main_cst_3, val_main_v30, val_main_v29, val_main_cst_2, val_main_v28, val_main_v27, val_main_v26, val_main_v25, val_main_v24, val_main_cst_1, val_main_v23, val_main_v22, val_main_cst_0]

theorem stream_at (p : Fin 16384) (j : Fin 1024) :
    val_main_v45 (F := Ideal) x0 x1 x2 x3 x4 x5 x6 x7 (ix3 0 p j)
      = rowPost (fun k => x0 (ix3 0 p k)) (vec x4 2) (fun j => ∑ k, mixed x1 x2 x3 p k * x5 (ix3 0 k j)) (fun k => x6 (ix2 0 k)) (fun k => x7 (ix2 0 k)) j := by
  unfold rowPost
  have hr := funext fun k => (residual_at x0 x1 x2 x3 x4 x5 p k).trans (by rw [y_at])
  have hn := (norm1_at x0 x1 x2 x3 x4 x5 p j).trans (congrArg (fun f => rowNorm f j) hr)
  refine Eq.trans ?_ (congrArg (fun a : EReal => a * x6 (ix2 0 j) + x7 (ix2 0 j)) hn)
  pointwise [val_main_v45, val_main_v44, val_main_v43, val_main_v42, val_main_v41, val_main_v40, val_main_v16, val_main_v15, val_main_v14, val_main_v13]

theorem norm2_at (p : Fin 16384) (j : Fin 1024) :
    val_main_v63 (F := Ideal) x0 x1 x2 x3 x4 x5 x6 x7 (ix3 0 p j) = rowNorm (fun k => val_main_v45 (F := Ideal) x0 x1 x2 x3 x4 x5 x6 x7 (ix3 0 p k)) j := by
  unfold rowNorm rowMean
  pointwise [val_main_v63, val_main_v62, val_main_v61, val_main_v60, val_main_v59, val_main_cst_9, val_main_v58, val_main_v57, val_main_v56, val_main_v55, val_main_cst_8, val_main_v54, val_main_v53, val_main_cst_7, val_main_v52, val_main_v51, val_main_v50, val_main_v49, val_main_v48, val_main_cst_6, val_main_v47, val_main_v46, val_main_cst_5]

theorem modulate_at (p : Fin 16384) (j : Fin 1024) :
    val_main_v69 (F := Ideal) x0 x1 x2 x3 x4 x5 x6 x7 (ix3 0 p j)
      = rowModulate (fun k => val_main_v45 (F := Ideal) x0 x1 x2 x3 x4 x5 x6 x7 (ix3 0 p k)) (vec x4 3) (vec x4 4) j := by
  unfold rowModulate
  rw [← norm2_at]
  unfold vec
  pointwise [val_main_v69, val_main_v68, val_main_v67, val_main_v66, val_main_v65, val_main_v64, val_main_cst_10, val_main_v7, val_main_v6, val_main_v2, val_main_v1, val_main_v0]

theorem hidden_at (p : Fin 16384) (n : Fin 2816) :
    val_main_v76 (F := Ideal) x0 x1 x2 x3 x4 x5 x6 x7 x8 (ix3 0 p n)
      = rowHidden (fun k => val_main_v69 (F := Ideal) x0 x1 x2 x3 x4 x5 x6 x7 (ix3 0 p k)) (fun k n => x8 (ix3 0 k n)) n := by
  unfold rowHidden
  pointwise [val_main_v76, val_main_v75, val_main_v74, val_main_v73, val_main_v72, val_main_v71, val_main_v70, val_main_call0_v5, val_main_call0_v4, val_main_call0_v3, val_main_call0_v2, val_main_call0_v1, val_main_call0_v0, val_main_call0_cst, val_main_call0_cst_0]

theorem forward_at (p : Fin 16384) (j : Fin 1024) :
    val_main_v79 (F := Ideal) x0 x1 x2 x3 x4 x5 x6 x7 x8 x9 (ix3 0 p j)
      = rowForward (fun k => val_main_v69 (F := Ideal) x0 x1 x2 x3 x4 x5 x6 x7 (ix3 0 p k)) (fun k n => x8 (ix3 0 k n)) (fun n j => x9 (ix3 0 n j)) j := by
  unfold rowForward
  simp only [← hidden_at]
  pointwise [val_main_v79, val_main_v78, val_main_v77]

theorem residual2_at (p : Fin 16384) (j : Fin 1024) :
    val_main_v88 (F := Ideal) x0 x1 x2 x3 x4 x5 x6 x7 x8 x9 (ix3 0 p j)
      = Ideal.ofBits .f32 1068827891#32 * val_main_v45 (F := Ideal) x0 x1 x2 x3 x4 x5 x6 x7 (ix3 0 p j)
        + vec x4 5 j * val_main_v79 (F := Ideal) x0 x1 x2 x3 x4 x5 x6 x7 x8 x9 (ix3 0 p j) := by
  unfold vec
  pointwise [val_main_v88, val_main_v87, val_main_v86, val_main_v85, val_main_v84, val_main_cst_11, val_main_v8, val_main_v2, val_main_v1, val_main_v0]

theorem norm3_at (p : Fin 16384) (j : Fin 1024) :
    val_main_v106 (F := Ideal) x0 x1 x2 x3 x4 x5 x6 x7 x8 x9 (ix3 0 p j) = rowNorm (fun k => val_main_v88 (F := Ideal) x0 x1 x2 x3 x4 x5 x6 x7 x8 x9 (ix3 0 p k)) j := by
  unfold rowNorm rowMean
  pointwise [val_main_v106, val_main_v105, val_main_v104, val_main_v103, val_main_v102, val_main_cst_16, val_main_v101, val_main_v100, val_main_v99, val_main_v98, val_main_cst_15, val_main_v97, val_main_v96, val_main_cst_14, val_main_v95, val_main_v94, val_main_v93, val_main_v92, val_main_v91, val_main_cst_13, val_main_v90, val_main_v89, val_main_cst_12]

/-- The reference's result. -/
theorem value (p : Fin 16384) (j : Fin 1024) :
    val_main_v113 (F := Ideal) x0 x1 x2 x3 x4 x5 x6 x7 x8 x9 x10 x11 (ix2 p j)
      = row (fun k => x0 (ix3 0 p k)) (mixed x1 x2 x3 p) (vec x4 2) (vec x4 3) (vec x4 4) (vec x4 5) (fun k j => x5 (ix3 0 k j))
          (fun k => x6 (ix2 0 k)) (fun k => x7 (ix2 0 k)) (fun k n => x8 (ix3 0 k n)) (fun n j => x9 (ix3 0 n j))
          (fun k => x10 (ix2 0 k)) (fun k => x11 (ix2 0 k)) j := by
  have hy := funext fun k => (stream_at x0 x1 x2 x3 x4 x5 x6 x7 p k).symm
  have hm := funext fun k => (modulate_at x0 x1 x2 x3 x4 x5 x6 x7 p k).symm
  have hf := funext fun k => (forward_at x0 x1 x2 x3 x4 x5 x6 x7 x8 x9 p k).symm
  unfold row
  dsimp only
  rw [hy, hm, hf]
  unfold rowPost
  have hr := funext fun k => residual2_at x0 x1 x2 x3 x4 x5 x6 x7 x8 x9 p k
  have hn := (norm3_at x0 x1 x2 x3 x4 x5 x6 x7 x8 x9 p j).trans (congrArg (fun f => rowNorm f j) hr)
  refine Eq.trans ?_ (congrArg (fun a : EReal => a * x10 (ix2 0 j) + x11 (ix2 0 j)) hn)
  pointwise [val_main_v113, val_main_v112, val_main_v111, val_main_v110, val_main_v109, val_main_v108, val_main_v107, val_main_v83, val_main_v82, val_main_v81, val_main_v80]

end Cert.Reference4Ideal.Ffn

end
-- ==== Proof.Ffn0Claim.lean ====
/- The feed-forward claim: the two runs' equal results. -/
module

public import proofs.«01_k».proof.Defs
public import proofs.«01_k».proof.Proof.Ffn0Final
public import proofs.«01_k».proof.Proof.Ffn0Ref
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Ffn0Claim

open Idealize.ShloMosaic Idealize.ShloMosaic.TcCoe Idealize.SL.Sem Cert.FfnMath

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 12 Cert.Kernel4Ideal.cfg0.N, Cert.Kernel4Ideal.Value.run_blocks m ρ,
    (θ_run Cert.Reference4Ideal.defs _ _).mono (fun _ h c => ⟨(h c).1.trans ?_, (h c).2⟩) (Cert.Reference4Ideal.Value.run m' ρ')⟩
  obtain ⟨e0, e1, e2, e3, e4, e5, e6, e7, e8, e9, e10, e11⟩ := hagree c
  rw [Cert.Reference4Ideal.Read.val_main_v113_eq]
  change Cert.Reference4Ideal.Read.val_main_v113 (F := Ideal) (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2))
    (m' ((c.tc : Thread Cert.Reference4Ideal.nD Cert.Reference4Ideal.τ).loc Cert.Reference4Ideal.main_arg3))
    (m' ((c.tc : Thread Cert.Reference4Ideal.nD Cert.Reference4Ideal.τ).loc Cert.Reference4Ideal.main_arg4))
    (m' ((c.tc : Thread Cert.Reference4Ideal.nD Cert.Reference4Ideal.τ).loc Cert.Reference4Ideal.main_arg5))
    (m' ((c.tc : Thread Cert.Reference4Ideal.nD Cert.Reference4Ideal.τ).loc Cert.Reference4Ideal.main_arg6))
    (m' ((c.tc : Thread Cert.Reference4Ideal.nD Cert.Reference4Ideal.τ).loc Cert.Reference4Ideal.main_arg7))
    (m' ((c.tc : Thread Cert.Reference4Ideal.nD Cert.Reference4Ideal.τ).loc Cert.Reference4Ideal.main_arg8))
    (m' ((c.tc : Thread Cert.Reference4Ideal.nD Cert.Reference4Ideal.τ).loc Cert.Reference4Ideal.main_arg9))
    (m' ((c.tc : Thread Cert.Reference4Ideal.nD Cert.Reference4Ideal.τ).loc Cert.Reference4Ideal.main_arg10))
    (m' ((c.tc : Thread Cert.Reference4Ideal.nD Cert.Reference4Ideal.τ).loc Cert.Reference4Ideal.main_arg11)) = _
  rw [e0, e1, e2, e3, e4, e5, e6, e7, e8, e9, e10, e11]
  refine Eq.trans ?_ (Cert.Kernel4Ideal.Ffn.result_array m c).symm
  funext i
  obtain ⟨p, j, rfl⟩ : ∃ (p : Fin 16384) (j : Fin 1024), i = ix2 p j := ⟨i 0, i 1, eq_ix2 i⟩
  exact Cert.Reference4Ideal.Ffn.value _ _ _ _ _ _ _ _ _ _ _ _ p j

end Cert.Ffn0Claim

end
-- ==== Proof.Attn0Block.lean ====
/- What a grid point of layer 0's attention kernel leaves in its three output blocks: the attention's, which is layer 1's
   body, and the two of casts of layer 1's weights. -/
module

public import proofs.«01_k».proof.Proof.AttnBlock
public import proofs.«01_k».proof.Proof.Gen.Kernel5Ideal.Value

@[expose] public section

set_option maxRecDepth 16384

noncomputable section

namespace Cert.Kernel5Ideal.Attn

open Cert.Kernel5Ideal Cert.Kernel5Ideal.Gen Idealize.ShloMosaic Idealize.ShloMosaic.TcCoe Idealize.SL.Sem
open Cert.KernelIdeal.Attn (block piece piece_at storeOrder outAt)

variable {F : FTy → Type} [FloatOps F] [Named F]

theorem in1_inb (k : Fin 4) : ∀ a, (![0, 32 * k.val, 0] : Fin 3 → Nat) a + S1x32x5632.size a ≤ S1x128x5632.size a := by
  intro a; have := k.isLt; fin_cases a <;> simp [S1x32x5632, S1x128x5632] <;> omega

theorem out1_inb (k : Fin 4) : ∀ a, (![32 * k.val, 0] : Fin 2 → Nat) a + S32x5632.size a ≤ S128x5632.size a := by
  intro a; have := k.isLt; fin_cases a <;> simp [S32x5632, S128x5632] <;> omega

theorem in2_inb (k : Fin 4) : ∀ a, (![0, 80 * k.val, 0] : Fin 3 → Nat) a + S1x80x1024.size a ≤ S1x352x1024.size a := by
  intro a; have := k.isLt; fin_cases a <;> simp [S1x80x1024, S1x352x1024] <;> omega

theorem out2_inb (k : Fin 4) : ∀ a, (![80 * k.val, 0] : Fin 2 → Nat) a + S80x1024.size a ≤ S352x1024.size a := by
  intro a; have := k.isLt; fin_cases a <;> simp [S80x1024, S352x1024] <;> omega

/-- 32 rows of the first weight's block, cast, and where they are stored. -/
def cast1 (x6 : Vec F S1x128x5632 .f32) (k : Fin 4) : View.Piece (Elt F) S128x5632 .bf16 :=
  ⟨Rect.unit (s := S128x5632) ![32 * k.val, 0] S32x5632.size (out1_inb k),
   truncf .bf16 (shapeCast S32x5632 (View.ld x6 (Rect.unit (s := S1x128x5632) ![0, 32 * k.val, 0] S1x32x5632.size (in1_inb k)))
     shapeCasts_S1x32x5632_S32x5632) bitsLt_bf16_f32⟩

/-- 80 rows of the second weight's block, cast, and where they are stored. -/
def cast2 (x7 : Vec F S1x352x1024 .f32) (k : Fin 4) : View.Piece (Elt F) S352x1024 .bf16 :=
  ⟨Rect.unit (s := S352x1024) ![80 * k.val, 0] S80x1024.size (out2_inb k),
   truncf .bf16 (shapeCast S80x1024 (View.ld x7 (Rect.unit (s := S1x352x1024) ![0, 80 * k.val, 0] S1x80x1024.size (in2_inb k)))
     shapeCasts_S1x80x1024_S80x1024) bitsLt_bf16_f32⟩

/-- … and its last 32 rows. -/
def castLast (x7 : Vec F S1x352x1024 .f32) : View.Piece (Elt F) S352x1024 .bf16 :=
  ⟨Rect.unit (s := S352x1024) ![320, 0] S32x1024.size inb_S352x1024_S32x1024_320_0,
   truncf .bf16 (shapeCast S32x1024 (View.ld x7 (Rect.unit (s := S1x352x1024) ![0, 320, 0] S1x32x1024.size inb_S1x352x1024_S1x32x1024_0_320_0))
     shapeCasts_S1x32x1024_S32x1024) bitsLt_bf16_f32⟩

section
variable (c : Dev nD) (i : grid0.Coords) (arg1 : Memref sig .tc .vmem S2048x512 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2x256x128 .bf16) (harg4 : arg4.IsWhole) (arg5 : Memref sig .tc .vmem S2x256x256 .bf16) (harg5 : arg5.IsWhole) (arg6 : Memref sig .tc .vmem S1x8x128 .f32) (harg6 : arg6.IsWhole) (arg7 : Memref sig .tc .vmem S1x128x5632 .f32) (harg7 : arg7.IsWhole) (arg8 : Memref sig .tc .vmem S1x352x1024 .f32) (harg8 : arg8.IsWhole) (arg9 : Memref sig .tc .vmem S2048x512 .bf16) (harg9 : arg9.IsWhole) (arg10 : Memref sig .tc .vmem S128x5632 .bf16) (harg10 : arg10.IsWhole) (arg11 : Memref sig .tc .vmem S352x1024 .bf16) (harg11 : arg11.IsWhole)
    (x0 : Vec F S2048x512 .bf16) (x1 : Vec F S16384x128 .bf16) (x2 : Vec F S16384x128 .bf16) (x3 : Vec F S2x256x128 .bf16) (x4 : Vec F S2x256x256 .bf16) (x5 : Vec F S1x8x128 .f32) (x6 : Vec F S1x128x5632 .f32) (x7 : Vec F S1x352x1024 .f32)

/-- The stores of the first output are the sixteen blocks' four groups. -/
theorem pieces : (kernelRun0_A c i arg1 harg1 arg2 harg2 arg3 harg3 arg4 harg4 arg5 harg5 arg6 harg6 arg7 harg7 arg8 harg8 arg9 harg9 arg10 harg10 arg11 harg11 x0 x1 x2 x3 x4 x5 x6 x7).1
      = storeOrder.map (piece fun r => block i r x0 x1 x2 x3 x4 x5) := by
  unfold kernelRun0_A
  dsimp only
  sl_unfold_words
  simp only [View.readAt_eq_ld]
  have h1 : View.read (Elt F) arg1.view (harg1.unread x0) = x0 := harg1.read_unread x0
  generalize View.read (Elt F) arg1.view (harg1.unread x0) = y1 at h1 ⊢
  subst h1
  have h2 : View.read (Elt F) arg2.view (harg2.unread x1) = x1 := harg2.read_unread x1
  generalize View.read (Elt F) arg2.view (harg2.unread x1) = y2 at h2 ⊢
  subst h2
  have h3 : View.read (Elt F) arg3.view (harg3.unread x2) = x2 := harg3.read_unread x2
  generalize View.read (Elt F) arg3.view (harg3.unread x2) = y3 at h3 ⊢
  subst h3
  have h4 : View.read (Elt F) arg4.view (harg4.unread x3) = x3 := harg4.read_unread x3
  generalize View.read (Elt F) arg4.view (harg4.unread x3) = y4 at h4 ⊢
  subst h4
  have h5 : View.read (Elt F) arg5.view (harg5.unread x4) = x4 := harg5.read_unread x4
  generalize View.read (Elt F) arg5.view (harg5.unread x4) = y5 at h5 ⊢
  subst h5
  have h6 : View.read (Elt F) arg6.view (harg6.unread x5) = x5 := harg6.read_unread x5
  generalize View.read (Elt F) arg6.view (harg6.unread x5) = y6 at h6 ⊢
  subst h6
  sl_kernel_rfl

/-- The stores of the second output are the first weight's rows, cast. -/
theorem pieces1 : (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1 = [3, 2, 1, 0].map (cast1 x6) := by
  unfold kernelRun0_A
  dsimp only
  sl_unfold_words
  simp only [View.readAt_eq_ld]
  have h7 : View.read (Elt F) arg7.view (harg7.unread x6) = x6 := harg7.read_unread x6
  generalize View.read (Elt F) arg7.view (harg7.unread x6) = y7 at h7 ⊢
  subst h7
  sl_kernel_rfl

/-- The stores of the third output are the second weight's rows, cast. -/
theorem pieces2 : (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.2.1 = castLast x7 :: [3, 2, 1, 0].map (cast2 x7) := by
  unfold kernelRun0_A
  dsimp only
  sl_unfold_words
  simp only [View.readAt_eq_ld]
  have h8 : View.read (Elt F) arg8.view (harg8.unread x7) = x7 := harg8.read_unread x7
  generalize View.read (Elt F) arg8.view (harg8.unread x7) = y8 at h8 ⊢
  subst h8
  sl_kernel_rfl

/-- What a grid point leaves at an element of the attention's block. -/
theorem out_at (y : S2048x512.Idx) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 y = outAt (fun r => block i r x0 x1 x2 x3 x4 x5) y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover0_A_8 c i arg1 harg1 arg2 harg2 arg3 harg3 arg4 harg4 arg5 harg5 arg6 harg6 arg7 harg7 arg8 harg8 arg9 harg9 arg10 harg10 arg11 harg11 x0 x1 x2 x3 x4 x5 x6 x7 y
  rw [pieces] at hc ⊢
  refine View.canon_apply_of_pieces _ _ ?_ y hc
  intro p hp x
  obtain ⟨n, -, rfl⟩ := List.mem_map.mp hp
  exact piece_at _ n x

end

section
variable (c : Dev nD) (i : grid0.Coords) (arg1 : Memref sig .tc .vmem S2048x512 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2x256x128 .bf16) (harg4 : arg4.IsWhole) (arg5 : Memref sig .tc .vmem S2x256x256 .bf16) (harg5 : arg5.IsWhole) (arg6 : Memref sig .tc .vmem S1x8x128 .f32) (harg6 : arg6.IsWhole) (arg7 : Memref sig .tc .vmem S1x128x5632 .f32) (harg7 : arg7.IsWhole) (arg8 : Memref sig .tc .vmem S1x352x1024 .f32) (harg8 : arg8.IsWhole) (arg9 : Memref sig .tc .vmem S2048x512 .bf16) (harg9 : arg9.IsWhole) (arg10 : Memref sig .tc .vmem S128x5632 .bf16) (harg10 : arg10.IsWhole) (arg11 : Memref sig .tc .vmem S352x1024 .bf16) (harg11 : arg11.IsWhole)
    (x0 : Vec Ideal S2048x512 .bf16) (x1 : Vec Ideal S16384x128 .bf16) (x2 : Vec Ideal S16384x128 .bf16) (x3 : Vec Ideal S2x256x128 .bf16) (x4 : Vec Ideal S2x256x256 .bf16) (x5 : Vec Ideal S1x8x128 .f32) (x6 : Vec Ideal S1x128x5632 .f32) (x7 : Vec Ideal S1x352x1024 .f32)

theorem cast1_rows (v : FVec Ideal S1x32x5632 .f32) (j : Fin 32) (l : Fin 5632) :
    (truncf .bf16 (shapeCast S32x5632 v shapeCasts_S1x32x5632_S32x5632) bitsLt_bf16_f32 : FVec Ideal S32x5632 .bf16) (ix2 j l) = v (ix3 0 j l) := by
  pointwise

theorem cast1_at (k : Fin 4) (x : (cast1 x6 k).1.shape.Idx) :
    (cast1 x6 k).2 x = x6 (ix3 0 (((cast1 x6 k).1.emb x) 0) (((cast1 x6 k).1.emb x) 1)) := by
  obtain ⟨j, l, rfl⟩ : ∃ (j : Fin 32) (l : Fin 5632), x = ix2 j l := ⟨x 0, x 1, eq_ix2 x⟩
  refine (cast1_rows _ j l).trans ?_
  show x6 _ = x6 _
  congr 1
  funext a
  fin_cases a
  · exact Fin.ext rfl
  · exact Fin.ext rfl
  · exact Fin.ext rfl

theorem cast2_rows (v : FVec Ideal S1x80x1024 .f32) (j : Fin 80) (l : Fin 1024) :
    (truncf .bf16 (shapeCast S80x1024 v shapeCasts_S1x80x1024_S80x1024) bitsLt_bf16_f32 : FVec Ideal S80x1024 .bf16) (ix2 j l) = v (ix3 0 j l) := by
  pointwise

theorem cast2_at (k : Fin 4) (x : (cast2 x7 k).1.shape.Idx) :
    (cast2 x7 k).2 x = x7 (ix3 0 (((cast2 x7 k).1.emb x) 0) (((cast2 x7 k).1.emb x) 1)) := by
  obtain ⟨j, l, rfl⟩ : ∃ (j : Fin 80) (l : Fin 1024), x = ix2 j l := ⟨x 0, x 1, eq_ix2 x⟩
  refine (cast2_rows _ j l).trans ?_
  show x7 _ = x7 _
  congr 1
  funext a
  fin_cases a
  · exact Fin.ext rfl
  · exact Fin.ext rfl
  · exact Fin.ext rfl

theorem castLast_rows (v : FVec Ideal S1x32x1024 .f32) (j : Fin 32) (l : Fin 1024) :
    (truncf .bf16 (shapeCast S32x1024 v shapeCasts_S1x32x1024_S32x1024) bitsLt_bf16_f32 : FVec Ideal S32x1024 .bf16) (ix2 j l) = v (ix3 0 j l) := by
  pointwise

theorem castLast_at (x : (castLast x7).1.shape.Idx) :
    (castLast x7).2 x = x7 (ix3 0 (((castLast x7).1.emb x) 0) (((castLast x7).1.emb x) 1)) := by
  obtain ⟨j, l, rfl⟩ : ∃ (j : Fin 32) (l : Fin 1024), x = ix2 j l := ⟨x 0, x 1, eq_ix2 x⟩
  refine (castLast_rows _ j l).trans ?_
  show x7 _ = x7 _
  congr 1
  funext a
  fin_cases a
  · exact Fin.ext rfl
  · exact Fin.ext rfl
  · exact Fin.ext rfl

/-- The first weight's block without its leading axis. -/
def rows1 (x6 : Vec Ideal S1x128x5632 .f32) (y : S128x5632.Idx) : Elt Ideal .bf16 := x6 (ix3 0 (y 0) (y 1))

/-- What a grid point leaves at an element of the first weight's block. -/
theorem out1_at (y : S128x5632.Idx) : out0_A_9 c i arg1 harg1 arg2 harg2 arg3 harg3 arg4 harg4 arg5 harg5 arg6 harg6 arg7 harg7 arg8 harg8 arg9 harg9 arg10 harg10 arg11 harg11 x0 x1 x2 x3 x4 x5 x6 x7 y = rows1 x6 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7)]
  have hc := cover0_A_9 c i arg1 harg1 arg2 harg2 arg3 harg3 arg4 harg4 arg5 harg5 arg6 harg6 arg7 harg7 arg8 harg8 arg9 harg9 arg10 harg10 arg11 harg11 x0 x1 x2 x3 x4 x5 x6 x7 y
  rw [pieces1] at hc ⊢
  refine View.canon_apply_of_pieces (rows1 x6) _ ?_ y hc
  intro p hp x
  obtain ⟨n, -, rfl⟩ := List.mem_map.mp hp
  exact cast1_at x6 n x

/-- The second weight's block without its leading axis. -/
def rows2 (x7 : Vec Ideal S1x352x1024 .f32) (y : S352x1024.Idx) : Elt Ideal .bf16 := x7 (ix3 0 (y 0) (y 1))

/-- What a grid point leaves at an element of the second weight's block. -/
theorem out2_at (y : S352x1024.Idx) : out0_A_10 c i arg1 harg1 arg2 harg2 arg3 harg3 arg4 harg4 arg5 harg5 arg6 harg6 arg7 harg7 arg8 harg8 arg9 harg9 arg10 harg10 arg11 harg11 x0 x1 x2 x3 x4 x5 x6 x7 y = rows2 x7 y := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7)]
  have hc := cover0_A_10 c i arg1 harg1 arg2 harg2 arg3 harg3 arg4 harg4 arg5 harg5 arg6 harg6 arg7 harg7 arg8 harg8 arg9 harg9 arg10 harg10 arg11 harg11 x0 x1 x2 x3 x4 x5 x6 x7 y
  rw [pieces2] at hc ⊢
  refine View.canon_apply_of_pieces (rows2 x7) _ ?_ y hc
  intro p hp x
  rcases List.mem_cons.mp hp with rfl | hp
  · exact castLast_at x7 x
  · obtain ⟨n, -, rfl⟩ := List.mem_map.mp hp
    exact cast2_at x7 n x

end

end Cert.Kernel5Ideal.Attn

end
-- ==== Proof.Attn0Host.lean ====
/- Layer 0's attention kernel's prepared arrays, read at an index: what the host operations leave for the grid. -/
module

public import proofs.«01_k».proof.Proof.AttnHost
public import proofs.«01_k».proof.Proof.Attn0Block
public import Idealize.ShloMosaic.Lib.StableHlo.ReadAt

@[expose] public section

set_option maxRecDepth 16384

noncomputable section

namespace Cert.Kernel5Ideal.Attn

open Cert.Kernel5Ideal Cert.Kernel5Ideal.Gen Idealize.ShloMosaic Idealize.ShloMosaic.TcCoe Idealize.SL.Sem
open Cert.KernelIdeal.Attn (sel_low unit_bits low_word)

variable (m : (ℓ : Loc nD τ sig) → Buf (Elt Ideal) ℓ) (c : Dev nD)

theorem host_k (p : Fin 16384) (n : Fin 128) :
    (V m c main_v62 : FVec Ideal S16384x128 .bf16) (ix2 p n) = (m ((c : Thread nD τ).loc main_arg1) : FVec Ideal S1x16384x128 .f32) (ix3 0 p n) := by
  unfold V
  after_reads_at

theorem host_v (p : Fin 16384) (n : Fin 128) :
    (V m c main_v64 : FVec Ideal S16384x128 .bf16) (ix2 p n) = (m ((c : Thread nD τ).loc main_arg2) : FVec Ideal S1x16384x128 .f32) (ix3 0 p n) := by
  unfold V
  after_reads_at

theorem host_sink (h : Fin 8) (n : Fin 128) :
    (V m c main_v60 : FVec Ideal S2x8x128 .f32) (ix3 0 h n)
      = (show EReal from (m ((c : Thread nD τ).loc main_arg5) : FVec Ideal S2x8 .f32) (ix2 0 h)) * ((1 / Real.log 2 : ℝ) : EReal) := by
  rw [← unit_bits]
  unfold V
  after_reads_at

theorem host_kc0 (l : Fin 256) (n : Fin 128) :
    (V m c main_v33 : FVec Ideal S2x256x128 .bf16) (ix3 0 l n)
      = if n.val < 64 then (show EReal from (m ((c : Thread nD τ).loc main_arg3) : FVec Ideal S1x256x128 .f32) (ix3 0 l n)) else 0 := by
  rw [← sel_low]
  unfold V
  after_reads_at
  rw [low_word]

theorem host_kc1 (l : Fin 256) (n : Fin 128) :
    (V m c main_v33 : FVec Ideal S2x256x128 .bf16) (ix3 1 l n)
      = if n.val < 64 then 0 else (show EReal from (m ((c : Thread nD τ).loc main_arg3) : FVec Ideal S1x256x128 .f32) (ix3 0 l n)) := by
  rw [← sel_low]
  unfold V
  after_reads_at
  rw [low_word]

theorem host_vc0 (l : Fin 256) (n : Fin 128) :
    (V m c main_v56 : FVec Ideal S2x256x256 .bf16) (ix3 0 l ⟨n.val, by omega⟩)
      = if n.val < 64 then (show EReal from (m ((c : Thread nD τ).loc main_arg4) : FVec Ideal S1x256x128 .f32) (ix3 0 l n)) else 0 := by
  rw [← sel_low]
  unfold V
  have := n.isLt
  after_reads_at
  after_reads_at
  rw [low_word]

theorem host_vc1 (l : Fin 256) (n : Fin 128) :
    (V m c main_v56 : FVec Ideal S2x256x256 .bf16) (ix3 1 l ⟨n.val, by omega⟩)
      = if n.val < 64 then 0 else (show EReal from (m ((c : Thread nD τ).loc main_arg4) : FVec Ideal S1x256x128 .f32) (ix3 0 l n)) := by
  rw [← sel_low]
  unfold V
  have := n.isLt
  after_reads_at
  after_reads_at
  rw [low_word]

theorem host_ones0 (l : Fin 256) (n : Fin 128) :
    (V m c main_v56 : FVec Ideal S2x256x256 .bf16) (ix3 0 l ⟨128 + n.val, by omega⟩)
      = if n.val < 64 then (1 : EReal) else 0 := by
  rw [← sel_low]
  unfold V
  have := n.isLt
  after_reads_at
  after_reads_at
  rw [low_word]

theorem host_ones1 (l : Fin 256) (n : Fin 128) :
    (V m c main_v56 : FVec Ideal S2x256x256 .bf16) (ix3 1 l ⟨128 + n.val, by omega⟩)
      = 1 - if n.val < 64 then (1 : EReal) else 0 := by
  rw [← sel_low]
  unfold V
  have := n.isLt
  after_reads_at
  after_reads_at
  rw [low_word]

set_option maxHeartbeats 4000000 in
theorem host_q (p : Fin 16384) (g : Fin 4) (kv : Fin 2) (d : Fin 64) :
    (V m c main_v22 : FVec Ideal S16384x512 .bf16) (ix2 p ⟨128 * g.val + 64 * kv.val + d.val, by omega⟩)
      = (show EReal from (m ((c : Thread nD τ).loc main_arg0) : FVec Ideal S1x16384x512 .f32) (ix3 0 p ⟨kv.val * 256 + g.val * 64 + d.val, by omega⟩))
        * (Ideal.ofBits .f32 1040187392#32 * Ideal.div (Ideal.ofBits .f32 1065353216#32) (Ideal.log (Ideal.ofBits .f32 1073741824#32))) := by
  unfold V
  have := d.isLt
  have := g.isLt
  have := kv.isLt
  after_reads_at
  after_reads_at
  refine congrArg (· * _) ?_
  have e : ∀ x y : Fin 512, x.val = y.val → (m ((c : Thread nD τ).loc main_arg0) : FVec Ideal S1x16384x512 .f32) (ix3 0 p x)
      = (m ((c : Thread nD τ).loc main_arg0) : FVec Ideal S1x16384x512 .f32) (ix3 0 p y) := fun x y h => by rw [Fin.ext h]
  repeat' split
  all_goals exact e _ _ (by simp only; omega)

end Cert.Kernel5Ideal.Attn

end
-- ==== Proof.Attn0Final.lean ====
/- The three whole results of layer 0's attention kernel: the attention of the real queries, keys and sink scores, and
   layer 1's two weights. -/
module

public import proofs.«01_k».proof.Proof.AttnFinal
public import proofs.«01_k».proof.Proof.Attn0Host
public import proofs.«01_k».proof.Proof.Gen.Kernel5Ideal.Value
public import Idealize.ShloMosaic.Lib.Pipeline.ValueKit

@[expose] public section

set_option maxRecDepth 16384

noncomputable section

namespace Cert.Kernel5Ideal.Attn

open Cert.Kernel5Ideal Cert.Kernel5Ideal.Gen Cert.Kernel5Ideal.Value Cert.AttnMath Idealize.ShloMosaic Idealize.ShloMosaic.TcCoe Idealize.SL.Sem
open Cert.KernelIdeal.Attn (unit_bits eighth Holds layOut out_lay block_low block_high)

/-- Where each window's block lies, at every grid point. -/
theorem index_facts : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![1, t.val, 0]
    ∧ win0_7.index t = ![1, t.val, 0] ∧ win0_8.index t = ![t.val, 0] ∧ win0_9.index t = ![t.val, 0] ∧ win0_10.index t = ![t.val, 0]
    ∧ (grid0.coords t 0).val = t.val :=
  (by decide +kernel : ∀ t : Fin grid0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![1, t.val, 0]
    ∧ win0_7.index t = ![1, t.val, 0] ∧ win0_8.index t = ![t.val, 0] ∧ win0_9.index t = ![t.val, 0] ∧ win0_10.index t = ![t.val, 0]
    ∧ (grid0.coords t 0).val = t.val)

section
variable (m : (ℓ : Loc nD τ sig) → Buf (Elt Ideal) ℓ) (c : Dev nD) (t : Fin cfg0.N)

theorem point_lt : t.val < 8 := lt_of_lt_of_eq t.isLt (by decide)

theorem blk_q (a : Fin 2048) (b : Fin 512) :
    (iblk m c 0 t : Vec Ideal S2048x512 .bf16) (ix2 a b)
      = (V m c main_v22 : FVec Ideal S16384x512 .bf16) (ix2 ⟨2048 * t.val + a.val, by have := point_lt t; omega⟩ b) := by
  obtain ⟨e0, -⟩ := index_facts t
  blk_simp [iblk]
  blk_ext [e0]

theorem blk_k (a : Fin 16384) (b : Fin 128) :
    (iblk m c 1 t : Vec Ideal S16384x128 .bf16) (ix2 a b) = (V m c main_v62 : FVec Ideal S16384x128 .bf16) (ix2 a b) := by
  obtain ⟨-, e0, -⟩ := index_facts t
  blk_simp [iblk]
  blk_ext [e0]

theorem blk_v (a : Fin 16384) (b : Fin 128) :
    (iblk m c 2 t : Vec Ideal S16384x128 .bf16) (ix2 a b) = (V m c main_v64 : FVec Ideal S16384x128 .bf16) (ix2 a b) := by
  obtain ⟨-, -, e0, -⟩ := index_facts t
  blk_simp [iblk]
  blk_ext [e0]

theorem blk_kc (h : Fin 2) (a : Fin 256) (b : Fin 128) :
    (iblk m c 3 t : Vec Ideal S2x256x128 .bf16) (ix3 h a b) = (V m c main_v33 : FVec Ideal S2x256x128 .bf16) (ix3 h a b) := by
  obtain ⟨-, -, -, e0, -⟩ := index_facts t
  blk_simp [iblk]
  blk_ext [e0]

theorem blk_vc (h : Fin 2) (a : Fin 256) (b : Fin 256) :
    (iblk m c 4 t : Vec Ideal S2x256x256 .bf16) (ix3 h a b) = (V m c main_v56 : FVec Ideal S2x256x256 .bf16) (ix3 h a b) := by
  obtain ⟨-, -, -, -, e0, -⟩ := index_facts t
  blk_simp [iblk]
  blk_ext [e0]

theorem blk_sink (a : Fin 8) (b : Fin 128) :
    (iblk m c 5 t : Vec Ideal S1x8x128 .f32) (ix3 0 a b) = (V m c main_v60 : FVec Ideal S2x8x128 .f32) (ix3 0 a b) := by
  obtain ⟨-, -, -, -, -, e0, -⟩ := index_facts t
  blk_simp [iblk]
  blk_ext [e0]

variable (q : Fin 16384 → Fin 512 → ℝ) (k : Fin 16384 → Fin 128 → ℝ) (kc : Fin 256 → Fin 128 → ℝ) (sk : Fin 8 → ℝ)
  (hq : ∀ p n, (m ((c : Thread nD τ).loc main_arg0) : FVec Ideal S1x16384x512 .f32) (ix3 0 p n) = (q p n : EReal))
  (hk : ∀ p n, (m ((c : Thread nD τ).loc main_arg1) : FVec Ideal S1x16384x128 .f32) (ix3 0 p n) = (k p n : EReal))
  (hkc : ∀ p n, (m ((c : Thread nD τ).loc main_arg3) : FVec Ideal S1x256x128 .f32) (ix3 0 p n) = (kc p n : EReal))
  (hs : ∀ h, (m ((c : Thread nD τ).loc main_arg5) : FVec Ideal S2x8 .f32) (ix2 0 h) = (sk h : EReal))
include hq hk hkc hs

/-- The input blocks of a grid point hold what a block's proof asks of them. -/
theorem holds (r : Fin 16) : Holds (grid0.coords t) r (iblk m c 0 t) (iblk m c 1 t) (iblk m c 2 t) (iblk m c 3 t) (iblk m c 4 t) (iblk m c 5 t) q k kc sk
    (fun p n => (m ((c : Thread nD τ).loc main_arg2) : FVec Ideal S1x16384x128 .f32) (ix3 0 p n))
    (fun l n => (m ((c : Thread nD τ).loc main_arg4) : FVec Ideal S1x256x128 .f32) (ix3 0 l n)) where
  q a g kv d := by
    refine (blk_q m c t _ _).trans ((host_q m c _ g kv d).trans ?_)
    rw [unit_bits, eighth]
    rw [hq, ← EReal.coe_mul, ← EReal.coe_mul]
    congr 3
    obtain ⟨-, -, -, -, -, -, -, -, -, -, -, e⟩ := index_facts t
    exact Fin.ext (by show 2048 * t.val + (128 * r.val + a.val) = (16 * (grid0.coords t 0).val + r.val) * 128 + a.val; omega)
  k p n := (blk_k m c t p n).trans ((host_k m c p n).trans (hk p n))
  v p n := (blk_v m c t p n).trans (host_v m c p n)
  kc0 l n := (blk_kc m c t 0 l n).trans ((host_kc0 m c l n).trans (by rw [hkc]))
  kc1 l n := (blk_kc m c t 1 l n).trans ((host_kc1 m c l n).trans (by rw [hkc]))
  vc0 l n := (blk_vc m c t 0 l _).trans (host_vc0 m c l n)
  vc1 l n := (blk_vc m c t 1 l _).trans (host_vc1 m c l n)
  ones0 l n := (blk_vc m c t 0 l _).trans (host_ones0 m c l n)
  ones1 l n := (blk_vc m c t 1 l _).trans (host_ones1 m c l n)
  sink h := (blk_sink m c t h 0).trans ((host_sink m c h 0).trans (by rw [hs, ← EReal.coe_mul]))

end

section
variable (m : (ℓ : Loc nD τ sig) → Buf (Elt Ideal) ℓ) (c : Dev nD)
  (q : Fin 16384 → Fin 512 → ℝ) (k : Fin 16384 → Fin 128 → ℝ) (kc : Fin 256 → Fin 128 → ℝ) (sk : Fin 8 → ℝ)
  (hq : ∀ p n, (m ((c : Thread nD τ).loc main_arg0) : FVec Ideal S1x16384x512 .f32) (ix3 0 p n) = (q p n : EReal))
  (hk : ∀ p n, (m ((c : Thread nD τ).loc main_arg1) : FVec Ideal S1x16384x128 .f32) (ix3 0 p n) = (k p n : EReal))
  (hkc : ∀ p n, (m ((c : Thread nD τ).loc main_arg3) : FVec Ideal S1x256x128 .f32) (ix3 0 p n) = (kc p n : EReal))
  (hs : ∀ h, (m ((c : Thread nD τ).loc main_arg5) : FVec Ideal S2x8 .f32) (ix2 0 h) = (sk h : EReal))
include hq hk hkc hs

/-- The attention's array after the run. -/
theorem result_array : ((dats m 0 c).arrAt 8 cfg0.N : S16384x512.Idx → EReal)
    = layOut (spec q k kc sk
      (fun p n => (m ((c : Thread nD τ).loc main_arg2) : FVec Ideal S1x16384x128 .f32) (ix3 0 p n))
      (fun l n => (m ((c : Thread nD τ).loc main_arg4) : FVec Ideal S1x256x128 .f32) (ix3 0 l n))) := by
  refine (dats m 0 c).arrAt_eq_of_covers 8 _ (by decide +kernel) fun t hf y => ?_
  obtain ⟨-, -, -, -, -, -, -, -, e, -, -, e'⟩ := index_facts t
  have h0 : (y 0).val < 2048 := (y 0).isLt
  have h1 : (y 1).val < 512 := (y 1).isLt
  blk_simp
  rw [after0_8]
  unfold outsAt0
  dsimp only
  rw [out_at]
  have H := fun r => holds m c t q k kc sk hq hk hkc hs r
  refine out_lay _ _ t.val (point_lt t) ?_ ?_ y _ (by blk_simp [e]; omega) (by blk_simp [e])
  · intro r g a d
    refine (block_low _ _ _ _ _ _ _ _ q k kc sk _ _ (H r) g a d).trans (congrArg (fun p => spec q k kc sk _ _ p 0 g d) (Fin.ext ?_))
    show (16 * (grid0.coords t 0).val + r.val) * 128 + a.val = 2048 * t.val + (128 * r.val + a.val)
    omega
  · intro r g a d
    refine (block_high _ _ _ _ _ _ _ _ q k kc sk _ _ (H r) g a d).trans (congrArg (fun p => spec q k kc sk _ _ p 1 g d) (Fin.ext ?_))
    show (16 * (grid0.coords t 0).val + r.val) * 128 + a.val = 2048 * t.val + (128 * r.val + a.val)
    omega

end

section
variable (m : (ℓ : Loc nD τ sig) → Buf (Elt Ideal) ℓ) (c : Dev nD)

theorem blk_w1 (t : Fin cfg0.N) (a : Fin 128) (b : Fin 5632) :
    (iblk m c 6 t : Vec Ideal S1x128x5632 .f32) (ix3 0 a b)
      = (m ((c : Thread nD τ).loc main_arg6) : FVec Ideal S2x1024x5632 .f32) (ix3 1 ⟨128 * t.val + a.val, by have := point_lt t; omega⟩ b) := by
  obtain ⟨-, -, -, -, -, -, e0, -⟩ := index_facts t
  rw [← V_main_arg6 m c]
  blk_simp [iblk]
  blk_ext [e0]

theorem blk_w2 (t : Fin cfg0.N) (a : Fin 352) (b : Fin 1024) :
    (iblk m c 7 t : Vec Ideal S1x352x1024 .f32) (ix3 0 a b)
      = (m ((c : Thread nD τ).loc main_arg7) : FVec Ideal S2x2816x1024 .f32) (ix3 1 ⟨352 * t.val + a.val, by have := point_lt t; omega⟩ b) := by
  obtain ⟨-, -, -, -, -, -, -, e0, -⟩ := index_facts t
  rw [← V_main_arg7 m c]
  blk_simp [iblk]
  blk_ext [e0]

/-- The first weight's array after the run: layer 1's. -/
theorem weight1 : ((dats m 0 c).arrAt 9 cfg0.N : S1024x5632.Idx → EReal)
    = fun i => (m ((c : Thread nD τ).loc main_arg6) : FVec Ideal S2x1024x5632 .f32) (ix3 1 (i 0) (i 1)) := by
  refine (dats m 0 c).arrAt_eq_of_covers 9 _ (by decide +kernel) fun t hf y => ?_
  obtain ⟨-, -, -, -, -, -, -, -, -, e, -, -⟩ := index_facts t
  have h0 : (y 0).val < 128 := (y 0).isLt
  blk_simp
  rw [after0_9]
  unfold outsAt0
  dsimp only
  rw [out1_at]
  refine (blk_w1 m c t (y 0) (y 1)).trans ?_
  refine congrArg _ (congrArg₂ (ix3 1) (Fin.ext ?_) (Fin.ext ?_))
  · show 128 * t.val + (y 0).val = _
    blk_simp [e]
    omega
  · blk_simp [e]

/-- The second weight's array after the run: layer 1's. -/
theorem weight2 : ((dats m 0 c).arrAt 10 cfg0.N : S2816x1024.Idx → EReal)
    = fun i => (m ((c : Thread nD τ).loc main_arg7) : FVec Ideal S2x2816x1024 .f32) (ix3 1 (i 0) (i 1)) := by
  refine (dats m 0 c).arrAt_eq_of_covers 10 _ (by decide +kernel) fun t hf y => ?_
  obtain ⟨-, -, -, -, -, -, -, -, -, -, e, -⟩ := index_facts t
  have h0 : (y 0).val < 352 := (y 0).isLt
  blk_simp
  rw [after0_10]
  unfold outsAt0
  dsimp only
  rw [out2_at]
  refine (blk_w2 m c t (y 0) (y 1)).trans ?_
  refine congrArg _ (congrArg₂ (ix3 1) (Fin.ext ?_) (Fin.ext ?_))
  · show 352 * t.val + (y 0).val = _
    blk_simp [e]
    omega
  · blk_simp [e]

end

end Cert.Kernel5Ideal.Attn

end
-- ==== Proof.Attn0Ref.lean ====
/- The reference of layer 0's attention call, as the layer 1's of the same arguments with the sink scores' other row; and
   of the two weights. -/
module

public import proofs.«01_k».proof.Proof.AttnRef
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Reference5Ideal.Attn

open Cert.Reference5Ideal Cert.Reference5Ideal.Gen Idealize.ShloMosaic Idealize.ShloMosaic.TcCoe Idealize.SL.Sem

variable (x0 : FVec Ideal S1x16384x512 .f32) (x1 x2 : FVec Ideal S1x16384x128 .f32) (x3 x4 : FVec Ideal S1x256x128 .f32)
  (x5 : FVec Ideal S2x8 .f32)

/-- Layer 0's sink scores in both rows. -/
def row0 : FVec Ideal S2x8 .f32 := fun i => x5 (ix2 0 (i 1))

theorem sink_same : Read.val_main_v64 (F := Ideal) x5 = Cert.ReferenceIdeal.Read.val_main_v64 (F := Ideal) (row0 x5) := by
  have h : Read.val_main_v0 (F := Ideal) x5 = Cert.ReferenceIdeal.Read.val_main_v0 (F := Ideal) (row0 x5) := by
    funext i
    rw [Read.val_main_v0_apply, Cert.ReferenceIdeal.Read.val_main_v0_apply]
    refine congrArg x5 (funext fun a => ?_)
    fin_cases a
    · have : (i 0).val < 1 := (i 0).isLt
      exact Fin.ext (by show (i 0).val = 0; omega)
    · exact Fin.ext rfl
  unfold Read.val_main_v64 Read.val_main_v63 Read.val_main_v1
  rw [h]
  rfl

theorem scores_same : Read.val_main_v65 (F := Ideal) x0 x1 x3 x5 = Cert.ReferenceIdeal.Read.val_main_v65 (F := Ideal) x0 x1 x3 (row0 x5) := by
  unfold Read.val_main_v65
  rw [sink_same]
  rfl

theorem weights_same : Read.val_main_v76 (F := Ideal) x0 x1 x3 x5 = Cert.ReferenceIdeal.Read.val_main_v76 (F := Ideal) x0 x1 x3 (row0 x5) := by
  unfold Read.val_main_v76 Read.val_main_v75 Read.val_main_v74 Read.val_main_v73 Read.val_main_v72 Read.val_main_v71 Read.val_main_v70
    Read.val_main_v69 Read.val_main_v68 Read.val_main_v66
  rw [scores_same]
  rfl

/-- The reference's attention is layer 1's of the other row of sink scores. -/
theorem same : Read.val_main_v87 (F := Ideal) x0 x1 x2 x3 x4 x5
    = Cert.ReferenceIdeal.Read.val_main_v87 (F := Ideal) x0 x1 x2 x3 x4 (row0 x5) := by
  unfold Read.val_main_v87 Read.val_main_v86 Read.val_main_v85 Read.val_main_v84 Read.val_main_v83 Read.val_main_v82 Read.val_main_v81
    Read.val_main_v80 Read.val_main_v79 Read.val_main_v78 Read.val_main_v77
  rw [weights_same]
  rfl

/-- The first weight's reference: layer 1's. -/
theorem weight1 (x6 : FVec Ideal S2x1024x5632 .f32) :
    Read.val_main_v90 (F := Ideal) x6 = fun i : S1024x5632.Idx => x6 (ix3 1 (i 0) (i 1)) := by
  funext i
  rw [Read.val_main_v90_apply, Read.val_main_v89_apply, Read.val_main_v88_apply]
  refine congrArg x6 (funext fun a => ?_)
  have h0 : (i 0).val < 1024 := (i 0).isLt
  have h1 : (i 1).val < 5632 := (i 1).isLt
  fin_cases a
  · exact Fin.ext rfl
  · exact Fin.ext (by show ((i 0).val * 5632 + (i 1).val) / 5632 % 1024 = (i 0).val; omega)
  · exact Fin.ext (by show ((i 0).val * 5632 + (i 1).val) % 5632 = (i 1).val; omega)

/-- The second weight's reference: layer 1's. -/
theorem weight2 (x7 : FVec Ideal S2x2816x1024 .f32) :
    Read.val_main_v93 (F := Ideal) x7 = fun i : S2816x1024.Idx => x7 (ix3 1 (i 0) (i 1)) := by
  funext i
  rw [Read.val_main_v93_apply, Read.val_main_v92_apply, Read.val_main_v91_apply]
  refine congrArg x7 (funext fun a => ?_)
  have h0 : (i 0).val < 2816 := (i 0).isLt
  have h1 : (i 1).val < 1024 := (i 1).isLt
  fin_cases a
  · exact Fin.ext rfl
  · exact Fin.ext (by show ((i 0).val * 1024 + (i 1).val) / 1024 % 2816 = (i 0).val; omega)
  · exact Fin.ext (by show ((i 0).val * 1024 + (i 1).val) % 1024 = (i 1).val; omega)

end Cert.Reference5Ideal.Attn

end
-- ==== Proof.Attn0Claim.lean ====
/- The claim of layer 0's attention call: what the precondition says of the arguments, and the two runs' equal results. -/
module

public import proofs.«01_k».proof.Defs
public import proofs.«01_k».proof.Proof.AttnClaim
public import proofs.«01_k».proof.Proof.Attn0Final
public import proofs.«01_k».proof.Proof.Attn0Ref
public import proofs.«01_k».proof.Proof.Gen.Pre_finite_scores5

@[expose] public section

set_option maxRecDepth 16384

noncomputable section

namespace Cert.Attn0Claim

open Idealize.ShloMosaic Idealize.ShloMosaic.TcCoe Idealize.SL.Sem Cert.AttnMath
open Cert.AttnClaim (real_of_abs_lt index_parts lay_at)

section
variable (x0 : FVec Ideal Cert.Pre_finite_scores5.S1x16384x512 .f32) (x1 x2 : FVec Ideal Cert.Pre_finite_scores5.S1x16384x128 .f32)
  (x3 x4 : FVec Ideal Cert.Pre_finite_scores5.S1x256x128 .f32) (x5 : FVec Ideal Cert.Pre_finite_scores5.S2x8 .f32)
  (x6 : FVec Ideal Cert.Pre_finite_scores5.S2x1024x5632 .f32) (x7 : FVec Ideal Cert.Pre_finite_scores5.S2x2816x1024 .f32)

/-- What the precondition says: the queries, keys, context keys and layer 0's sink scores are reals. -/
theorem finite (h : Cert.Pre_finite_scores5.fn (F := Ideal) x0 x1 x2 x3 x4 x5 x6 x7 = fun _ => 1#1) :
    (∀ i, x0 i = ((EReal.toReal (x0 i) : ℝ) : EReal)) ∧ (∀ i, x1 i = ((EReal.toReal (x1 i) : ℝ) : EReal))
      ∧ (∀ i, x3 i = ((EReal.toReal (x3 i) : ℝ) : EReal)) ∧ ∀ n : Fin 8, x5 (ix2 0 n) = ((EReal.toReal (x5 (ix2 0 n)) : ℝ) : EReal) := by
  have e := congrFun h ix0
  unfold Cert.Pre_finite_scores5.fn Cert.Pre_finite_scores5.fn_part1 at e
  obtain ⟨e, e5⟩ := IntOp.andi_eq_one.1 e
  obtain ⟨e, e3⟩ := IntOp.andi_eq_one.1 e
  obtain ⟨e0, e1⟩ := IntOp.andi_eq_one.1 e
  haveI : Subsingleton Cert.Pre_finite_scores5.S_.Idx := ⟨fun a b => funext fun x => x.elim0⟩
  refine ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e3 i), fun n => ?_⟩
  have := Host.reduce_andi_all _ _ _ _ _ e5 (ix1 n)
  refine real_of_abs_lt _ (Eq.trans ?_ this)
  pointwise
  rfl

end

set_option maxHeartbeats 4000000 in
theorem algebraic : Cert.algebraic_Kernel5Ideal_Reference5Ideal_pre_finite_scores5 (hKernel5Ideal := Cert.Kernel5Ideal.Gen.facts)
    (hReference5Ideal := Cert.Reference5Ideal.Gen.facts) (hPre_finite_scores5 := Cert.Pre_finite_scores5.Gen.facts) := by
  intro m ρ m' ρ' hpre hagree
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N, Cert.Kernel5Ideal.Value.run_blocks m ρ,
    (θ_run Cert.Reference5Ideal.defs _ _).mono (fun _ h c => ⟨(h c).1.trans ?_, (h c).2.1.trans ?_, (h c).2.2.1.trans ?_, (h c).2.2.2⟩)
      (Cert.Reference5Ideal.Value.run m' ρ')⟩
  all_goals obtain ⟨e0, e1, e2, e3, e4, e5, e6, e7⟩ := hagree c
  · obtain ⟨f0, f1, f3, f5⟩ := finite _ _ _ _ _ _ _ _ (hpre c)
    rw [Cert.Reference5Ideal.Read.val_main_v87_eq, e0, e1, e2, e3, e4, e5]
    refine (Cert.Reference5Ideal.Attn.same _ _ _ _ _ _).trans ?_
    have H := Cert.Kernel5Ideal.Attn.result_array m c _ _ _ _ (fun p n => f0 (ix3 0 p n)) (fun p n => f1 (ix3 0 p n)) (fun p n => f3 (ix3 0 p n)) (fun h => f5 h)
    refine Eq.trans ?_ H.symm
    funext i
    obtain ⟨b, a, kv, g, d, rfl⟩ := index_parts i
    refine (Cert.ReferenceIdeal.Attn.value _ _ _ _ _ _ _ _ _ _ (fun p n => f0 (ix3 0 p n)) (fun p n => f1 (ix3 0 p n)) (fun p n => f3 (ix3 0 p n)) (fun h => f5 h) b a kv g d).trans (lay_at _ b a kv g d).symm
  · rw [Cert.Reference5Ideal.Read.val_main_v90_eq, e6, Cert.Reference5Ideal.Attn.weight1]
    have H := Cert.Kernel5Ideal.Attn.weight1 m c
    exact H.symm
  · rw [Cert.Reference5Ideal.Read.val_main_v93_eq, e7, Cert.Reference5Ideal.Attn.weight2]
    have H := Cert.Kernel5Ideal.Attn.weight2 m c
    exact H.symm

end Cert.Attn0Claim

end
-- ==== Proof.lean ====
/- The certificate: the frames of the programs, the idealizations, and the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.AttnClaim
public import proofs.«01_k».proof.Proof.FfnClaim
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.PrepClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ffn0Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_scores5
public import proofs.«01_k».proof.Proof.Attn0Claim

@[expose] public section

noncomputable section

namespace Cert.Proof

open Idealize.ShloMosaic Idealize.SL.Sem

/-- The frame of the attention's reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the feed-forward call's reference. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of layer 0's feed-forward call's reference. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of layer 0's attention call's reference. -/
theorem frame_reference5 : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts, Cert.Pre_finite_scores5.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    Cert.PrepClaim.frame_kernel, Cert.PrepClaim.frame_ideal, Cert.PrepClaim.frame_reference,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, fun m ρ _ => Cert.Kernel5Ideal.Gen.frame m ρ,
    frame_reference5, fun m ρ _ => frame_reference5 m ρ trivial,
    IdealRules.named_const.statement Cert.KernelIdeal.κ "mask" .f32 0xF149F2CA#32 ⊥ rfl,
    Cert.AttnClaim.algebraic, trivial, Cert.FfnClaim.algebraic, trivial, Cert.PrepClaim.algebraic, trivial, Cert.Ffn0Claim.algebraic,
    IdealRules.named_const.statement Cert.Kernel5Ideal.κ "mask" .f32 0xF149F2CA#32 ⊥ rfl, Cert.Attn0Claim.algebraic⟩

end Cert.Proof

end
